-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Absorb (m : (ℓ : Loc Cert.Absorb.nD Cert.Absorb.τ Cert.Absorb.sig) → Buf (Elt Bits) ℓ) : Prop :=
  True

def Pre_AbsorbIdeal (m : (ℓ : Loc Cert.AbsorbIdeal.nD Cert.AbsorbIdeal.τ Cert.AbsorbIdeal.sig) → Buf (Elt Ideal) ℓ) : Prop :=
  True

def Pre_AbsorbRefIdeal (m : (ℓ : Loc Cert.AbsorbRefIdeal.nD Cert.AbsorbRefIdeal.τ Cert.AbsorbRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_State (m : (ℓ : Loc Cert.State.nD Cert.State.τ Cert.State.sig) → Buf (Elt Bits) ℓ) : Prop :=
  True

def Pre_StateIdeal (m : (ℓ : Loc Cert.StateIdeal.nD Cert.StateIdeal.τ Cert.StateIdeal.sig) → Buf (Elt Ideal) ℓ) : Prop :=
  True

def Pre_StateRefIdeal (m : (ℓ : Loc Cert.StateRefIdeal.nD Cert.StateRefIdeal.τ Cert.StateRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_DenseSample (m : (ℓ : Loc Cert.DenseSample.nD Cert.DenseSample.τ Cert.DenseSample.sig) → Buf (Elt Bits) ℓ) : Prop :=
  True

def Pre_DenseSampleIdeal (m : (ℓ : Loc Cert.DenseSampleIdeal.nD Cert.DenseSampleIdeal.τ Cert.DenseSampleIdeal.sig) → Buf (Elt Ideal) ℓ) : Prop :=
  True

def Pre_DenseSampleRefIdeal (m : (ℓ : Loc Cert.DenseSampleRefIdeal.nD Cert.DenseSampleRefIdeal.τ Cert.DenseSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Absorb [hAbsorb : Cert.Absorb.Facts] : Prop :=
  ∀ (m : (ℓ : Loc Cert.Absorb.nD Cert.Absorb.τ Cert.Absorb.sig) → Buf (Elt Bits) ℓ) (g : Dev Cert.Absorb.nD → PrngReg), Pre_Absorb m →
    θ_run (Cert.Absorb.defs (F := Bits)) (onTc (τ := Cert.Absorb.τ) (Cert.Absorb.main (F := Bits))) ⟨m, fun _ => 0, g⟩ (fun r => (∀ c : Dev Cert.Absorb.nD,
      r.2.mem ((c.tc : Thread Cert.Absorb.nD Cert.Absorb.τ).loc Cert.Absorb.main_arg0) = m ((c.tc : Thread Cert.Absorb.nD Cert.Absorb.τ).loc Cert.Absorb.main_arg0)
      ∧ r.2.mem ((c.tc : Thread Cert.Absorb.nD Cert.Absorb.τ).loc Cert.Absorb.main_arg1) = m ((c.tc : Thread Cert.Absorb.nD Cert.Absorb.τ).loc Cert.Absorb.main_arg1))
      ∧ r.2.sem = fun _ => 0)

def quiescent_AbsorbIdeal [hAbsorbIdeal : Cert.AbsorbIdeal.Facts] : Prop :=
  ∀ (m : (ℓ : Loc Cert.AbsorbIdeal.nD Cert.AbsorbIdeal.τ Cert.AbsorbIdeal.sig) → Buf (Elt Ideal) ℓ) (g : Dev Cert.AbsorbIdeal.nD → PrngReg), Pre_AbsorbIdeal m →
    θ_run (Cert.AbsorbIdeal.defs (F := Ideal)) (onTc (τ := Cert.AbsorbIdeal.τ) (Cert.AbsorbIdeal.main (F := Ideal))) ⟨m, fun _ => 0, g⟩ (fun r => (∀ c : Dev Cert.AbsorbIdeal.nD,
      r.2.mem ((c.tc : Thread Cert.AbsorbIdeal.nD Cert.AbsorbIdeal.τ).loc Cert.AbsorbIdeal.main_arg0) = m ((c.tc : Thread Cert.AbsorbIdeal.nD Cert.AbsorbIdeal.τ).loc Cert.AbsorbIdeal.main_arg0)
      ∧ r.2.mem ((c.tc : Thread Cert.AbsorbIdeal.nD Cert.AbsorbIdeal.τ).loc Cert.AbsorbIdeal.main_arg1) = m ((c.tc : Thread Cert.AbsorbIdeal.nD Cert.AbsorbIdeal.τ).loc Cert.AbsorbIdeal.main_arg1))
      ∧ r.2.sem = fun _ => 0)

def quiescent_AbsorbRefIdeal [hAbsorbRefIdeal : Cert.AbsorbRefIdeal.Facts] : Prop :=
  ∀ (m : (ℓ : Loc Cert.AbsorbRefIdeal.nD Cert.AbsorbRefIdeal.τ Cert.AbsorbRefIdeal.sig) → Buf (Elt Ideal) ℓ) (g : Dev Cert.AbsorbRefIdeal.nD → PrngReg), Pre_AbsorbRefIdeal m →
    θ_run (Cert.AbsorbRefIdeal.defs (F := Ideal)) (onTc (τ := Cert.AbsorbRefIdeal.τ) (Cert.AbsorbRefIdeal.main (F := Ideal))) ⟨m, fun _ => 0, g⟩ (fun r => (∀ c : Dev Cert.AbsorbRefIdeal.nD,
      r.2.mem ((c.tc : Thread Cert.AbsorbRefIdeal.nD Cert.AbsorbRefIdeal.τ).loc Cert.AbsorbRefIdeal.main_arg0) = m ((c.tc : Thread Cert.AbsorbRefIdeal.nD Cert.AbsorbRefIdeal.τ).loc Cert.AbsorbRefIdeal.main_arg0)
      ∧ r.2.mem ((c.tc : Thread Cert.AbsorbRefIdeal.nD Cert.AbsorbRefIdeal.τ).loc Cert.AbsorbRefIdeal.main_arg1) = m ((c.tc : Thread Cert.AbsorbRefIdeal.nD Cert.AbsorbRefIdeal.τ).loc Cert.AbsorbRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_State [hState : Cert.State.Facts] : Prop :=
  ∀ (m : (ℓ : Loc Cert.State.nD Cert.State.τ Cert.State.sig) → Buf (Elt Bits) ℓ) (g : Dev Cert.State.nD → PrngReg), Pre_State m →
    θ_run (Cert.State.defs (F := Bits)) (onTc (τ := Cert.State.τ) (Cert.State.main (F := Bits))) ⟨m, fun _ => 0, g⟩ (fun r => (∀ c : Dev Cert.State.nD,
      r.2.mem ((c.tc : Thread Cert.State.nD Cert.State.τ).loc Cert.State.main_arg0) = m ((c.tc : Thread Cert.State.nD Cert.State.τ).loc Cert.State.main_arg0)
      ∧ r.2.mem ((c.tc : Thread Cert.State.nD Cert.State.τ).loc Cert.State.main_arg1) = m ((c.tc : Thread Cert.State.nD Cert.State.τ).loc Cert.State.main_arg1)
      ∧ r.2.mem ((c.tc : Thread Cert.State.nD Cert.State.τ).loc Cert.State.main_arg2) = m ((c.tc : Thread Cert.State.nD Cert.State.τ).loc Cert.State.main_arg2))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ r.2.sem = fun _ => 0)

def quiescent_StateRefIdeal [hStateRefIdeal : Cert.StateRefIdeal.Facts] : Prop :=
  ∀ (m : (ℓ : Loc Cert.StateRefIdeal.nD Cert.StateRefIdeal.τ Cert.StateRefIdeal.sig) → Buf (Elt Ideal) ℓ) (g : Dev Cert.StateRefIdeal.nD → PrngReg), Pre_StateRefIdeal m →
    θ_run (Cert.StateRefIdeal.defs (F := Ideal)) (onTc (τ := Cert.StateRefIdeal.τ) (Cert.StateRefIdeal.main (F := Ideal))) ⟨m, fun _ => 0, g⟩ (fun r => (∀ c : Dev Cert.StateRefIdeal.nD,
      r.2.mem ((c.tc : Thread Cert.StateRefIdeal.nD Cert.StateRefIdeal.τ).loc Cert.StateRefIdeal.main_arg0) = m ((c.tc : Thread Cert.StateRefIdeal.nD Cert.StateRefIdeal.τ).loc Cert.StateRefIdeal.main_arg0)
      ∧ r.2.mem ((c.tc : Thread Cert.StateRefIdeal.nD Cert.StateRefIdeal.τ).loc Cert.StateRefIdeal.main_arg1) = m ((c.tc : Thread Cert.StateRefIdeal.nD Cert.StateRefIdeal.τ).loc Cert.StateRefIdeal.main_arg1)
      ∧ r.2.mem ((c.tc : Thread Cert.StateRefIdeal.nD Cert.StateRefIdeal.τ).loc Cert.StateRefIdeal.main_arg2) = m ((c.tc : Thread Cert.StateRefIdeal.nD Cert.StateRefIdeal.τ).loc Cert.StateRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7)
      ∧ r.2.mem ((c.tc : Thread Cert.DenseRefIdeal.nD Cert.DenseRefIdeal.τ).loc Cert.DenseRefIdeal.main_arg8) = m ((c.tc : Thread Cert.DenseRefIdeal.nD Cert.DenseRefIdeal.τ).loc Cert.DenseRefIdeal.main_arg8))
      ∧ r.2.sem = fun _ => 0)

def quiescent_DenseSample [hDenseSample : Cert.DenseSample.Facts] : Prop :=
  ∀ (m : (ℓ : Loc Cert.DenseSample.nD Cert.DenseSample.τ Cert.DenseSample.sig) → Buf (Elt Bits) ℓ) (g : Dev Cert.DenseSample.nD → PrngReg), Pre_DenseSample m →
    θ_run (Cert.DenseSample.defs (F := Bits)) (onTc (τ := Cert.DenseSample.τ) (Cert.DenseSample.main (F := Bits))) ⟨m, fun _ => 0, g⟩ (fun r => (∀ c : Dev Cert.DenseSample.nD,
      r.2.mem ((c.tc : Thread Cert.DenseSample.nD Cert.DenseSample.τ).loc Cert.DenseSample.main_arg0) = m ((c.tc : Thread Cert.DenseSample.nD Cert.DenseSample.τ).loc Cert.DenseSample.main_arg0)
      ∧ r.2.mem ((c.tc : Thread Cert.DenseSample.nD Cert.DenseSample.τ).loc Cert.DenseSample.main_arg1) = m ((c.tc : Thread Cert.DenseSample.nD Cert.DenseSample.τ).loc Cert.DenseSample.main_arg1)
      ∧ r.2.mem ((c.tc : Thread Cert.DenseSample.nD Cert.DenseSample.τ).loc Cert.DenseSample.main_arg2) = m ((c.tc : Thread Cert.DenseSample.nD Cert.DenseSample.τ).loc Cert.DenseSample.main_arg2)
      ∧ r.2.mem ((c.tc : Thread Cert.DenseSample.nD Cert.DenseSample.τ).loc Cert.DenseSample.main_arg3) = m ((c.tc : Thread Cert.DenseSample.nD Cert.DenseSample.τ).loc Cert.DenseSample.main_arg3)
      ∧ r.2.mem ((c.tc : Thread Cert.DenseSample.nD Cert.DenseSample.τ).loc Cert.DenseSample.main_arg4) = m ((c.tc : Thread Cert.DenseSample.nD Cert.DenseSample.τ).loc Cert.DenseSample.main_arg4)
      ∧ r.2.mem ((c.tc : Thread Cert.DenseSample.nD Cert.DenseSample.τ).loc Cert.DenseSample.main_arg5) = m ((c.tc : Thread Cert.DenseSample.nD Cert.DenseSample.τ).loc Cert.DenseSample.main_arg5)
      ∧ r.2.mem ((c.tc : Thread Cert.DenseSample.nD Cert.DenseSample.τ).loc Cert.DenseSample.main_arg6) = m ((c.tc : Thread Cert.DenseSample.nD Cert.DenseSample.τ).loc Cert.DenseSample.main_arg6)
      ∧ r.2.mem ((c.tc : Thread Cert.DenseSample.nD Cert.DenseSample.τ).loc Cert.DenseSample.main_arg7) = m ((c.tc : Thread Cert.DenseSample.nD Cert.DenseSample.τ).loc Cert.DenseSample.main_arg7)
      ∧ r.2.mem ((c.tc : Thread Cert.DenseSample.nD Cert.DenseSample.τ).loc Cert.DenseSample.main_arg8) = m ((c.tc : Thread Cert.DenseSample.nD Cert.DenseSample.τ).loc Cert.DenseSample.main_arg8))
      ∧ r.2.sem = fun _ => 0)

def quiescent_DenseSampleIdeal [hDenseSampleIdeal : Cert.DenseSampleIdeal.Facts] : Prop :=
  ∀ (m : (ℓ : Loc Cert.DenseSampleIdeal.nD Cert.DenseSampleIdeal.τ Cert.DenseSampleIdeal.sig) → Buf (Elt Ideal) ℓ) (g : Dev Cert.DenseSampleIdeal.nD → PrngReg), Pre_DenseSampleIdeal m →
    θ_run (Cert.DenseSampleIdeal.defs (F := Ideal)) (onTc (τ := Cert.DenseSampleIdeal.τ) (Cert.DenseSampleIdeal.main (F := Ideal))) ⟨m, fun _ => 0, g⟩ (fun r => (∀ c : Dev Cert.DenseSampleIdeal.nD,
      r.2.mem ((c.tc : Thread Cert.DenseSampleIdeal.nD Cert.DenseSampleIdeal.τ).loc Cert.DenseSampleIdeal.main_arg0) = m ((c.tc : Thread Cert.DenseSampleIdeal.nD Cert.DenseSampleIdeal.τ).loc Cert.DenseSampleIdeal.main_arg0)
      ∧ r.2.mem ((c.tc : Thread Cert.DenseSampleIdeal.nD Cert.DenseSampleIdeal.τ).loc Cert.DenseSampleIdeal.main_arg1) = m ((c.tc : Thread Cert.DenseSampleIdeal.nD Cert.DenseSampleIdeal.τ).loc Cert.DenseSampleIdeal.main_arg1)
      ∧ r.2.mem ((c.tc : Thread Cert.DenseSampleIdeal.nD Cert.DenseSampleIdeal.τ).loc Cert.DenseSampleIdeal.main_arg2) = m ((c.tc : Thread Cert.DenseSampleIdeal.nD Cert.DenseSampleIdeal.τ).loc Cert.DenseSampleIdeal.main_arg2)
      ∧ r.2.mem ((c.tc : Thread Cert.DenseSampleIdeal.nD Cert.DenseSampleIdeal.τ).loc Cert.DenseSampleIdeal.main_arg3) = m ((c.tc : Thread Cert.DenseSampleIdeal.nD Cert.DenseSampleIdeal.τ).loc Cert.DenseSampleIdeal.main_arg3)
      ∧ r.2.mem ((c.tc : Thread Cert.DenseSampleIdeal.nD Cert.DenseSampleIdeal.τ).loc Cert.DenseSampleIdeal.main_arg4) = m ((c.tc : Thread Cert.DenseSampleIdeal.nD Cert.DenseSampleIdeal.τ).loc Cert.DenseSampleIdeal.main_arg4)
      ∧ r.2.mem ((c.tc : Thread Cert.DenseSampleIdeal.nD Cert.DenseSampleIdeal.τ).loc Cert.DenseSampleIdeal.main_arg5) = m ((c.tc : Thread Cert.DenseSampleIdeal.nD Cert.DenseSampleIdeal.τ).loc Cert.DenseSampleIdeal.main_arg5)
      ∧ r.2.mem ((c.tc : Thread Cert.DenseSampleIdeal.nD Cert.DenseSampleIdeal.τ).loc Cert.DenseSampleIdeal.main_arg6) = m ((c.tc : Thread Cert.DenseSampleIdeal.nD Cert.DenseSampleIdeal.τ).loc Cert.DenseSampleIdeal.main_arg6)
      ∧ r.2.mem ((c.tc : Thread Cert.DenseSampleIdeal.nD Cert.DenseSampleIdeal.τ).loc Cert.DenseSampleIdeal.main_arg7) = m ((c.tc : Thread Cert.DenseSampleIdeal.nD Cert.DenseSampleIdeal.τ).loc Cert.DenseSampleIdeal.main_arg7)
      ∧ r.2.mem ((c.tc : Thread Cert.DenseSampleIdeal.nD Cert.DenseSampleIdeal.τ).loc Cert.DenseSampleIdeal.main_arg8) = m ((c.tc : Thread Cert.DenseSampleIdeal.nD Cert.DenseSampleIdeal.τ).loc Cert.DenseSampleIdeal.main_arg8))
      ∧ r.2.sem = fun _ => 0)

def quiescent_DenseSampleRefIdeal [hDenseSampleRefIdeal : Cert.DenseSampleRefIdeal.Facts] : Prop :=
  ∀ (m : (ℓ : Loc Cert.DenseSampleRefIdeal.nD Cert.DenseSampleRefIdeal.τ Cert.DenseSampleRefIdeal.sig) → Buf (Elt Ideal) ℓ) (g : Dev Cert.DenseSampleRefIdeal.nD → PrngReg), Pre_DenseSampleRefIdeal m →
    θ_run (Cert.DenseSampleRefIdeal.defs (F := Ideal)) (onTc (τ := Cert.DenseSampleRefIdeal.τ) (Cert.DenseSampleRefIdeal.main (F := Ideal))) ⟨m, fun _ => 0, g⟩ (fun r => (∀ c : Dev Cert.DenseSampleRefIdeal.nD,
      r.2.mem ((c.tc : Thread Cert.DenseSampleRefIdeal.nD Cert.DenseSampleRefIdeal.τ).loc Cert.DenseSampleRefIdeal.main_arg0) = m ((c.tc : Thread Cert.DenseSampleRefIdeal.nD Cert.DenseSampleRefIdeal.τ).loc Cert.DenseSampleRefIdeal.main_arg0)
      ∧ r.2.mem ((c.tc : Thread Cert.DenseSampleRefIdeal.nD Cert.DenseSampleRefIdeal.τ).loc Cert.DenseSampleRefIdeal.main_arg1) = m ((c.tc : Thread Cert.DenseSampleRefIdeal.nD Cert.DenseSampleRefIdeal.τ).loc Cert.DenseSampleRefIdeal.main_arg1)
      ∧ r.2.mem ((c.tc : Thread Cert.DenseSampleRefIdeal.nD Cert.DenseSampleRefIdeal.τ).loc Cert.DenseSampleRefIdeal.main_arg2) = m ((c.tc : Thread Cert.DenseSampleRefIdeal.nD Cert.DenseSampleRefIdeal.τ).loc Cert.DenseSampleRefIdeal.main_arg2)
      ∧ r.2.mem ((c.tc : Thread Cert.DenseSampleRefIdeal.nD Cert.DenseSampleRefIdeal.τ).loc Cert.DenseSampleRefIdeal.main_arg3) = m ((c.tc : Thread Cert.DenseSampleRefIdeal.nD Cert.DenseSampleRefIdeal.τ).loc Cert.DenseSampleRefIdeal.main_arg3)
      ∧ r.2.mem ((c.tc : Thread Cert.DenseSampleRefIdeal.nD Cert.DenseSampleRefIdeal.τ).loc Cert.DenseSampleRefIdeal.main_arg4) = m ((c.tc : Thread Cert.DenseSampleRefIdeal.nD Cert.DenseSampleRefIdeal.τ).loc Cert.DenseSampleRefIdeal.main_arg4)
      ∧ r.2.mem ((c.tc : Thread Cert.DenseSampleRefIdeal.nD Cert.DenseSampleRefIdeal.τ).loc Cert.DenseSampleRefIdeal.main_arg5) = m ((c.tc : Thread Cert.DenseSampleRefIdeal.nD Cert.DenseSampleRefIdeal.τ).loc Cert.DenseSampleRefIdeal.main_arg5)
      ∧ r.2.mem ((c.tc : Thread Cert.DenseSampleRefIdeal.nD Cert.DenseSampleRefIdeal.τ).loc Cert.DenseSampleRefIdeal.main_arg6) = m ((c.tc : Thread Cert.DenseSampleRefIdeal.nD Cert.DenseSampleRefIdeal.τ).loc Cert.DenseSampleRefIdeal.main_arg6)
      ∧ r.2.mem ((c.tc : Thread Cert.DenseSampleRefIdeal.nD Cert.DenseSampleRefIdeal.τ).loc Cert.DenseSampleRefIdeal.main_arg7) = m ((c.tc : Thread Cert.DenseSampleRefIdeal.nD Cert.DenseSampleRefIdeal.τ).loc Cert.DenseSampleRefIdeal.main_arg7)
      ∧ r.2.mem ((c.tc : Thread Cert.DenseSampleRefIdeal.nD Cert.DenseSampleRefIdeal.τ).loc Cert.DenseSampleRefIdeal.main_arg8) = m ((c.tc : Thread Cert.DenseSampleRefIdeal.nD Cert.DenseSampleRefIdeal.τ).loc Cert.DenseSampleRefIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v14) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v3_0)) (v1 : (c : Dev Cert.QueryIdeal.nD) → Buf (Elt Ideal) ((c.tc : Thread Cert.QueryIdeal.nD Cert.QueryIdeal.τ).loc Cert.QueryIdeal.main_v3_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3_0) = v0 c
          ∧ r.2.mem ((c.tc : Thread Cert.QueryIdeal.nD Cert.QueryIdeal.τ).loc Cert.QueryIdeal.main_v3_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v14) = v0 c
          ∧ r.2.mem ((c.tc : Thread Cert.QueryRefIdeal.nD Cert.QueryRefIdeal.τ).loc Cert.QueryRefIdeal.main_v15) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Absorb_AbsorbIdeal : Prop :=
  True

def algebraic_AbsorbIdeal_AbsorbRefIdeal [hAbsorbIdeal : Cert.AbsorbIdeal.Facts] [hAbsorbRefIdeal : Cert.AbsorbRefIdeal.Facts] : Prop :=
  ∀ (m : (ℓ : Loc Cert.AbsorbIdeal.nD Cert.AbsorbIdeal.τ Cert.AbsorbIdeal.sig) → Buf (Elt Ideal) ℓ) (g : Dev Cert.AbsorbIdeal.nD → PrngReg)
    (m' : (ℓ : Loc Cert.AbsorbRefIdeal.nD Cert.AbsorbRefIdeal.τ Cert.AbsorbRefIdeal.sig) → Buf (Elt Ideal) ℓ) (g' : Dev Cert.AbsorbRefIdeal.nD → PrngReg), Pre_AbsorbIdeal m →
    (∀ c : Dev Cert.AbsorbIdeal.nD,
      m' ((c.tc : Thread Cert.AbsorbRefIdeal.nD Cert.AbsorbRefIdeal.τ).loc Cert.AbsorbRefIdeal.main_arg0) = m ((c.tc : Thread Cert.AbsorbIdeal.nD Cert.AbsorbIdeal.τ).loc Cert.AbsorbIdeal.main_arg0)
      ∧ m' ((c.tc : Thread Cert.AbsorbRefIdeal.nD Cert.AbsorbRefIdeal.τ).loc Cert.AbsorbRefIdeal.main_arg1) = m ((c.tc : Thread Cert.AbsorbIdeal.nD Cert.AbsorbIdeal.τ).loc Cert.AbsorbIdeal.main_arg1)) →
    ∃ (v0 : (c : Dev Cert.AbsorbIdeal.nD) → Buf (Elt Ideal) ((c.tc : Thread Cert.AbsorbIdeal.nD Cert.AbsorbIdeal.τ).loc Cert.AbsorbIdeal.main_v2)),
      θ_run (Cert.AbsorbIdeal.defs (F := Ideal)) (onTc (τ := Cert.AbsorbIdeal.τ) (Cert.AbsorbIdeal.main (F := Ideal))) ⟨m, fun _ => 0, g⟩ (fun r => ∀ c : Dev Cert.AbsorbIdeal.nD,
          r.2.mem ((c.tc : Thread Cert.AbsorbIdeal.nD Cert.AbsorbIdeal.τ).loc Cert.AbsorbIdeal.main_v2) = v0 c
          ∧ r.2.mem ((c.tc : Thread Cert.AbsorbIdeal.nD Cert.AbsorbIdeal.τ).loc Cert.AbsorbIdeal.main_arg0) = m ((c.tc : Thread Cert.AbsorbIdeal.nD Cert.AbsorbIdeal.τ).loc Cert.AbsorbIdeal.main_arg0)
          ∧ r.2.mem ((c.tc : Thread Cert.AbsorbIdeal.nD Cert.AbsorbIdeal.τ).loc Cert.AbsorbIdeal.main_arg1) = m ((c.tc : Thread Cert.AbsorbIdeal.nD Cert.AbsorbIdeal.τ).loc Cert.AbsorbIdeal.main_arg1))
      ∧ θ_run (Cert.AbsorbRefIdeal.defs (F := Ideal)) (onTc (τ := Cert.AbsorbRefIdeal.τ) (Cert.AbsorbRefIdeal.main (F := Ideal))) ⟨m', fun _ => 0, g'⟩ (fun r => ∀ c : Dev Cert.AbsorbRefIdeal.nD,
          r.2.mem ((c.tc : Thread Cert.AbsorbRefIdeal.nD Cert.AbsorbRefIdeal.τ).loc Cert.AbsorbRefIdeal.main_v5) = v0 c
          ∧ r.2.mem ((c.tc : Thread Cert.AbsorbRefIdeal.nD Cert.AbsorbRefIdeal.τ).loc Cert.AbsorbRefIdeal.main_arg0) = m' ((c.tc : Thread Cert.AbsorbRefIdeal.nD Cert.AbsorbRefIdeal.τ).loc Cert.AbsorbRefIdeal.main_arg0)
          ∧ r.2.mem ((c.tc : Thread Cert.AbsorbRefIdeal.nD Cert.AbsorbRefIdeal.τ).loc Cert.AbsorbRefIdeal.main_arg1) = m' ((c.tc : Thread Cert.AbsorbRefIdeal.nD Cert.AbsorbRefIdeal.τ).loc Cert.AbsorbRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_State_StateIdeal : Prop :=
  True

def algebraic_StateIdeal_StateRefIdeal [hStateIdeal : Cert.StateIdeal.Facts] [hStateRefIdeal : Cert.StateRefIdeal.Facts] : Prop :=
  ∀ (m : (ℓ : Loc Cert.StateIdeal.nD Cert.StateIdeal.τ Cert.StateIdeal.sig) → Buf (Elt Ideal) ℓ) (g : Dev Cert.StateIdeal.nD → PrngReg)
    (m' : (ℓ : Loc Cert.StateRefIdeal.nD Cert.StateRefIdeal.τ Cert.StateRefIdeal.sig) → Buf (Elt Ideal) ℓ) (g' : Dev Cert.StateRefIdeal.nD → PrngReg), Pre_StateIdeal m →
    (∀ c : Dev Cert.StateIdeal.nD,
      m' ((c.tc : Thread Cert.StateRefIdeal.nD Cert.StateRefIdeal.τ).loc Cert.StateRefIdeal.main_arg0) = m ((c.tc : Thread Cert.StateIdeal.nD Cert.StateIdeal.τ).loc Cert.StateIdeal.main_arg0)
      ∧ m' ((c.tc : Thread Cert.StateRefIdeal.nD Cert.StateRefIdeal.τ).loc Cert.StateRefIdeal.main_arg1) = m ((c.tc : Thread Cert.StateIdeal.nD Cert.StateIdeal.τ).loc Cert.StateIdeal.main_arg1)
      ∧ m' ((c.tc : Thread Cert.StateRefIdeal.nD Cert.StateRefIdeal.τ).loc Cert.StateRefIdeal.main_arg2) = m ((c.tc : Thread Cert.StateIdeal.nD Cert.StateIdeal.τ).loc Cert.StateIdeal.main_arg2)) →
    ∃ (v0 : (c : Dev Cert.StateIdeal.nD) → Buf (Elt Ideal) ((c.tc : Thread Cert.StateIdeal.nD Cert.StateIdeal.τ).loc Cert.StateIdeal.main_v17)),
      θ_run (Cert.StateIdeal.defs (F := Ideal)) (onTc (τ := Cert.StateIdeal.τ) (Cert.StateIdeal.main (F := Ideal))) ⟨m, fun _ => 0, g⟩ (fun r => ∀ c : Dev Cert.StateIdeal.nD,
          r.2.mem ((c.tc : Thread Cert.StateIdeal.nD Cert.StateIdeal.τ).loc Cert.StateIdeal.main_v17) = v0 c
          ∧ r.2.mem ((c.tc : Thread Cert.StateIdeal.nD Cert.StateIdeal.τ).loc Cert.StateIdeal.main_arg0) = m ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m ((c.tc : Thread Cert.StateIdeal.nD Cert.StateIdeal.τ).loc Cert.StateIdeal.main_arg2))
      ∧ θ_run (Cert.StateRefIdeal.defs (F := Ideal)) (onTc (τ := Cert.StateRefIdeal.τ) (Cert.StateRefIdeal.main (F := Ideal))) ⟨m', fun _ => 0, g'⟩ (fun r => ∀ c : Dev Cert.StateRefIdeal.nD,
          r.2.mem ((c.tc : Thread Cert.StateRefIdeal.nD Cert.StateRefIdeal.τ).loc Cert.StateRefIdeal.main_v20) = v0 c
          ∧ r.2.mem ((c.tc : Thread Cert.StateRefIdeal.nD Cert.StateRefIdeal.τ).loc Cert.StateRefIdeal.main_arg0) = m' ((c.tc : Thread Cert.StateRefIdeal.nD Cert.StateRefIdeal.τ).loc Cert.StateRefIdeal.main_arg0)
          ∧ r.2.mem ((c.tc : Thread Cert.StateRefIdeal.nD Cert.StateRefIdeal.τ).loc Cert.StateRefIdeal.main_arg1) = m' ((c.tc : Thread Cert.StateRefIdeal.nD Cert.StateRefIdeal.τ).loc Cert.StateRefIdeal.main_arg1)
          ∧ r.2.mem ((c.tc : Thread Cert.StateRefIdeal.nD Cert.StateRefIdeal.τ).loc Cert.StateRefIdeal.main_arg2) = m' ((c.tc : Thread Cert.StateRefIdeal.nD Cert.StateRefIdeal.τ).loc Cert.StateRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v36_0)) (v1 : (c : Dev Cert.PrepIdeal.nD) → Buf (Elt Ideal) ((c.tc : Thread Cert.PrepIdeal.nD Cert.PrepIdeal.τ).loc Cert.PrepIdeal.main_v36_1)) (v2 : (c : Dev Cert.PrepIdeal.nD) → Buf (Elt Ideal) ((c.tc : Thread Cert.PrepIdeal.nD Cert.PrepIdeal.τ).loc Cert.PrepIdeal.main_v36_2)) (v3 : (c : Dev Cert.PrepIdeal.nD) → Buf (Elt Ideal) ((c.tc : Thread Cert.PrepIdeal.nD Cert.PrepIdeal.τ).loc Cert.PrepIdeal.main_v36_3)) (v4 : (c : Dev Cert.PrepIdeal.nD) → Buf (Elt Ideal) ((c.tc : Thread Cert.PrepIdeal.nD Cert.PrepIdeal.τ).loc Cert.PrepIdeal.main_v36_4)) (v5 : (c : Dev Cert.PrepIdeal.nD) → Buf (Elt Ideal) ((c.tc : Thread Cert.PrepIdeal.nD Cert.PrepIdeal.τ).loc Cert.PrepIdeal.main_v36_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v36_0) = v0 c
          ∧ r.2.mem ((c.tc : Thread Cert.PrepIdeal.nD Cert.PrepIdeal.τ).loc Cert.PrepIdeal.main_v36_1) = v1 c
          ∧ r.2.mem ((c.tc : Thread Cert.PrepIdeal.nD Cert.PrepIdeal.τ).loc Cert.PrepIdeal.main_v36_2) = v2 c
          ∧ r.2.mem ((c.tc : Thread Cert.PrepIdeal.nD Cert.PrepIdeal.τ).loc Cert.PrepIdeal.main_v36_3) = v3 c
          ∧ r.2.mem ((c.tc : Thread Cert.PrepIdeal.nD Cert.PrepIdeal.τ).loc Cert.PrepIdeal.main_v36_4) = v4 c
          ∧ r.2.mem ((c.tc : Thread Cert.PrepIdeal.nD Cert.PrepIdeal.τ).loc Cert.PrepIdeal.main_v36_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v58) = v0 c
          ∧ r.2.mem ((c.tc : Thread Cert.PrepRefIdeal.nD Cert.PrepRefIdeal.τ).loc Cert.PrepRefIdeal.main_v69) = v1 c
          ∧ r.2.mem ((c.tc : Thread Cert.PrepRefIdeal.nD Cert.PrepRefIdeal.τ).loc Cert.PrepRefIdeal.main_v70) = v2 c
          ∧ r.2.mem ((c.tc : Thread Cert.PrepRefIdeal.nD Cert.PrepRefIdeal.τ).loc Cert.PrepRefIdeal.main_v71) = v3 c
          ∧ r.2.mem ((c.tc : Thread Cert.PrepRefIdeal.nD Cert.PrepRefIdeal.τ).loc Cert.PrepRefIdeal.main_v74) = v4 c
          ∧ r.2.mem ((c.tc : Thread Cert.PrepRefIdeal.nD Cert.PrepRefIdeal.τ).loc Cert.PrepRefIdeal.main_v76) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v11_0)) (v1 : (c : Dev Cert.ConvIdeal.nD) → Buf (Elt Ideal) ((c.tc : Thread Cert.ConvIdeal.nD Cert.ConvIdeal.τ).loc Cert.ConvIdeal.main_v11_1)) (v2 : (c : Dev Cert.ConvIdeal.nD) → Buf (Elt Ideal) ((c.tc : Thread Cert.ConvIdeal.nD Cert.ConvIdeal.τ).loc Cert.ConvIdeal.main_v11_2)) (v3 : (c : Dev Cert.ConvIdeal.nD) → Buf (Elt Ideal) ((c.tc : Thread Cert.ConvIdeal.nD Cert.ConvIdeal.τ).loc Cert.ConvIdeal.main_v11_3)) (v4 : (c : Dev Cert.ConvIdeal.nD) → Buf (Elt Ideal) ((c.tc : Thread Cert.ConvIdeal.nD Cert.ConvIdeal.τ).loc Cert.ConvIdeal.main_v11_4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v11_0) = v0 c
          ∧ r.2.mem ((c.tc : Thread Cert.ConvIdeal.nD Cert.ConvIdeal.τ).loc Cert.ConvIdeal.main_v11_1) = v1 c
          ∧ r.2.mem ((c.tc : Thread Cert.ConvIdeal.nD Cert.ConvIdeal.τ).loc Cert.ConvIdeal.main_v11_2) = v2 c
          ∧ r.2.mem ((c.tc : Thread Cert.ConvIdeal.nD Cert.ConvIdeal.τ).loc Cert.ConvIdeal.main_v11_3) = v3 c
          ∧ r.2.mem ((c.tc : Thread Cert.ConvIdeal.nD Cert.ConvIdeal.τ).loc Cert.ConvIdeal.main_v11_4) = v4 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v79) = v0 c
          ∧ r.2.mem ((c.tc : Thread Cert.ConvRefIdeal.nD Cert.ConvRefIdeal.τ).loc Cert.ConvRefIdeal.main_v80) = v1 c
          ∧ r.2.mem ((c.tc : Thread Cert.ConvRefIdeal.nD Cert.ConvRefIdeal.τ).loc Cert.ConvRefIdeal.main_v83) = v2 c
          ∧ r.2.mem ((c.tc : Thread Cert.ConvRefIdeal.nD Cert.ConvRefIdeal.τ).loc Cert.ConvRefIdeal.main_v84) = v3 c
          ∧ r.2.mem ((c.tc : Thread Cert.ConvRefIdeal.nD Cert.ConvRefIdeal.τ).loc Cert.ConvRefIdeal.main_v86) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)) →
    ∃ (v0 : (c : Dev Cert.RowsIdeal.nD) → Buf (Elt Ideal) ((c.tc : Thread Cert.RowsIdeal.nD Cert.RowsIdeal.τ).loc Cert.RowsIdeal.main_v41_0)) (v1 : (c : Dev Cert.RowsIdeal.nD) → Buf (Elt Ideal) ((c.tc : Thread Cert.RowsIdeal.nD Cert.RowsIdeal.τ).loc Cert.RowsIdeal.main_v41_1)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v41_0) = v0 c
          ∧ r.2.mem ((c.tc : Thread Cert.RowsIdeal.nD Cert.RowsIdeal.τ).loc Cert.RowsIdeal.main_v41_1) = v1 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v44) = v0 c
          ∧ r.2.mem ((c.tc : Thread Cert.RowsRefIdeal.nD Cert.RowsRefIdeal.τ).loc Cert.RowsRefIdeal.main_v30) = v1 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)
      ∧ m' ((c.tc : Thread Cert.DenseRefIdeal.nD Cert.DenseRefIdeal.τ).loc Cert.DenseRefIdeal.main_arg8) = m ((c.tc : Thread Cert.DenseIdeal.nD Cert.DenseIdeal.τ).loc Cert.DenseIdeal.main_arg8)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v41) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7)
          ∧ r.2.mem ((c.tc : Thread Cert.DenseRefIdeal.nD Cert.DenseRefIdeal.τ).loc Cert.DenseRefIdeal.main_arg8) = m' ((c.tc : Thread Cert.DenseRefIdeal.nD Cert.DenseRefIdeal.τ).loc Cert.DenseRefIdeal.main_arg8))

def preserves_DenseSample_DenseSampleIdeal : Prop :=
  True

def algebraic_DenseSampleIdeal_DenseSampleRefIdeal [hDenseSampleIdeal : Cert.DenseSampleIdeal.Facts] [hDenseSampleRefIdeal : Cert.DenseSampleRefIdeal.Facts] : Prop :=
  ∀ (m : (ℓ : Loc Cert.DenseSampleIdeal.nD Cert.DenseSampleIdeal.τ Cert.DenseSampleIdeal.sig) → Buf (Elt Ideal) ℓ) (g : Dev Cert.DenseSampleIdeal.nD → PrngReg)
    (m' : (ℓ : Loc Cert.DenseSampleRefIdeal.nD Cert.DenseSampleRefIdeal.τ Cert.DenseSampleRefIdeal.sig) → Buf (Elt Ideal) ℓ) (g' : Dev Cert.DenseSampleRefIdeal.nD → PrngReg), Pre_DenseSampleIdeal m →
    (∀ c : Dev Cert.DenseSampleIdeal.nD,
      m' ((c.tc : Thread Cert.DenseSampleRefIdeal.nD Cert.DenseSampleRefIdeal.τ).loc Cert.DenseSampleRefIdeal.main_arg0) = m ((c.tc : Thread Cert.DenseSampleIdeal.nD Cert.DenseSampleIdeal.τ).loc Cert.DenseSampleIdeal.main_arg0)
      ∧ m' ((c.tc : Thread Cert.DenseSampleRefIdeal.nD Cert.DenseSampleRefIdeal.τ).loc Cert.DenseSampleRefIdeal.main_arg1) = m ((c.tc : Thread Cert.DenseSampleIdeal.nD Cert.DenseSampleIdeal.τ).loc Cert.DenseSampleIdeal.main_arg1)
      ∧ m' ((c.tc : Thread Cert.DenseSampleRefIdeal.nD Cert.DenseSampleRefIdeal.τ).loc Cert.DenseSampleRefIdeal.main_arg2) = m ((c.tc : Thread Cert.DenseSampleIdeal.nD Cert.DenseSampleIdeal.τ).loc Cert.DenseSampleIdeal.main_arg2)
      ∧ m' ((c.tc : Thread Cert.DenseSampleRefIdeal.nD Cert.DenseSampleRefIdeal.τ).loc Cert.DenseSampleRefIdeal.main_arg3) = m ((c.tc : Thread Cert.DenseSampleIdeal.nD Cert.DenseSampleIdeal.τ).loc Cert.DenseSampleIdeal.main_arg3)
      ∧ m' ((c.tc : Thread Cert.DenseSampleRefIdeal.nD Cert.DenseSampleRefIdeal.τ).loc Cert.DenseSampleRefIdeal.main_arg4) = m ((c.tc : Thread Cert.DenseSampleIdeal.nD Cert.DenseSampleIdeal.τ).loc Cert.DenseSampleIdeal.main_arg4)
      ∧ m' ((c.tc : Thread Cert.DenseSampleRefIdeal.nD Cert.DenseSampleRefIdeal.τ).loc Cert.DenseSampleRefIdeal.main_arg5) = m ((c.tc : Thread Cert.DenseSampleIdeal.nD Cert.DenseSampleIdeal.τ).loc Cert.DenseSampleIdeal.main_arg5)
      ∧ m' ((c.tc : Thread Cert.DenseSampleRefIdeal.nD Cert.DenseSampleRefIdeal.τ).loc Cert.DenseSampleRefIdeal.main_arg6) = m ((c.tc : Thread Cert.DenseSampleIdeal.nD Cert.DenseSampleIdeal.τ).loc Cert.DenseSampleIdeal.main_arg6)
      ∧ m' ((c.tc : Thread Cert.DenseSampleRefIdeal.nD Cert.DenseSampleRefIdeal.τ).loc Cert.DenseSampleRefIdeal.main_arg7) = m ((c.tc : Thread Cert.DenseSampleIdeal.nD Cert.DenseSampleIdeal.τ).loc Cert.DenseSampleIdeal.main_arg7)
      ∧ m' ((c.tc : Thread Cert.DenseSampleRefIdeal.nD Cert.DenseSampleRefIdeal.τ).loc Cert.DenseSampleRefIdeal.main_arg8) = m ((c.tc : Thread Cert.DenseSampleIdeal.nD Cert.DenseSampleIdeal.τ).loc Cert.DenseSampleIdeal.main_arg8)) →
    ∃ (v0 : (c : Dev Cert.DenseSampleIdeal.nD) → Buf (Elt Ideal) ((c.tc : Thread Cert.DenseSampleIdeal.nD Cert.DenseSampleIdeal.τ).loc Cert.DenseSampleIdeal.main_v4)),
      θ_run (Cert.DenseSampleIdeal.defs (F := Ideal)) (onTc (τ := Cert.DenseSampleIdeal.τ) (Cert.DenseSampleIdeal.main (F := Ideal))) ⟨m, fun _ => 0, g⟩ (fun r => ∀ c : Dev Cert.DenseSampleIdeal.nD,
          r.2.mem ((c.tc : Thread Cert.DenseSampleIdeal.nD Cert.DenseSampleIdeal.τ).loc Cert.DenseSampleIdeal.main_v4) = v0 c
          ∧ r.2.mem ((c.tc : Thread Cert.DenseSampleIdeal.nD Cert.DenseSampleIdeal.τ).loc Cert.DenseSampleIdeal.main_arg0) = m ((c.tc : Thread Cert.DenseSampleIdeal.nD Cert.DenseSampleIdeal.τ).loc Cert.DenseSampleIdeal.main_arg0)
          ∧ r.2.mem ((c.tc : Thread Cert.DenseSampleIdeal.nD Cert.DenseSampleIdeal.τ).loc Cert.DenseSampleIdeal.main_arg1) = m ((c.tc : Thread Cert.DenseSampleIdeal.nD Cert.DenseSampleIdeal.τ).loc Cert.DenseSampleIdeal.main_arg1)
          ∧ r.2.mem ((c.tc : Thread Cert.DenseSampleIdeal.nD Cert.DenseSampleIdeal.τ).loc Cert.DenseSampleIdeal.main_arg2) = m ((c.tc : Thread Cert.DenseSampleIdeal.nD Cert.DenseSampleIdeal.τ).loc Cert.DenseSampleIdeal.main_arg2)
          ∧ r.2.mem ((c.tc : Thread Cert.DenseSampleIdeal.nD Cert.DenseSampleIdeal.τ).loc Cert.DenseSampleIdeal.main_arg3) = m ((c.tc : Thread Cert.DenseSampleIdeal.nD Cert.DenseSampleIdeal.τ).loc Cert.DenseSampleIdeal.main_arg3)
          ∧ r.2.mem ((c.tc : Thread Cert.DenseSampleIdeal.nD Cert.DenseSampleIdeal.τ).loc Cert.DenseSampleIdeal.main_arg4) = m ((c.tc : Thread Cert.DenseSampleIdeal.nD Cert.DenseSampleIdeal.τ).loc Cert.DenseSampleIdeal.main_arg4)
          ∧ r.2.mem ((c.tc : Thread Cert.DenseSampleIdeal.nD Cert.DenseSampleIdeal.τ).loc Cert.DenseSampleIdeal.main_arg5) = m ((c.tc : Thread Cert.DenseSampleIdeal.nD Cert.DenseSampleIdeal.τ).loc Cert.DenseSampleIdeal.main_arg5)
          ∧ r.2.mem ((c.tc : Thread Cert.DenseSampleIdeal.nD Cert.DenseSampleIdeal.τ).loc Cert.DenseSampleIdeal.main_arg6) = m ((c.tc : Thread Cert.DenseSampleIdeal.nD Cert.DenseSampleIdeal.τ).loc Cert.DenseSampleIdeal.main_arg6)
          ∧ r.2.mem ((c.tc : Thread Cert.DenseSampleIdeal.nD Cert.DenseSampleIdeal.τ).loc Cert.DenseSampleIdeal.main_arg7) = m ((c.tc : Thread Cert.DenseSampleIdeal.nD Cert.DenseSampleIdeal.τ).loc Cert.DenseSampleIdeal.main_arg7)
          ∧ r.2.mem ((c.tc : Thread Cert.DenseSampleIdeal.nD Cert.DenseSampleIdeal.τ).loc Cert.DenseSampleIdeal.main_arg8) = m ((c.tc : Thread Cert.DenseSampleIdeal.nD Cert.DenseSampleIdeal.τ).loc Cert.DenseSampleIdeal.main_arg8))
      ∧ θ_run (Cert.DenseSampleRefIdeal.defs (F := Ideal)) (onTc (τ := Cert.DenseSampleRefIdeal.τ) (Cert.DenseSampleRefIdeal.main (F := Ideal))) ⟨m', fun _ => 0, g'⟩ (fun r => ∀ c : Dev Cert.DenseSampleRefIdeal.nD,
          r.2.mem ((c.tc : Thread Cert.DenseSampleRefIdeal.nD Cert.DenseSampleRefIdeal.τ).loc Cert.DenseSampleRefIdeal.main_v41) = v0 c
          ∧ r.2.mem ((c.tc : Thread Cert.DenseSampleRefIdeal.nD Cert.DenseSampleRefIdeal.τ).loc Cert.DenseSampleRefIdeal.main_arg0) = m' ((c.tc : Thread Cert.DenseSampleRefIdeal.nD Cert.DenseSampleRefIdeal.τ).loc Cert.DenseSampleRefIdeal.main_arg0)
          ∧ r.2.mem ((c.tc : Thread Cert.DenseSampleRefIdeal.nD Cert.DenseSampleRefIdeal.τ).loc Cert.DenseSampleRefIdeal.main_arg1) = m' ((c.tc : Thread Cert.DenseSampleRefIdeal.nD Cert.DenseSampleRefIdeal.τ).loc Cert.DenseSampleRefIdeal.main_arg1)
          ∧ r.2.mem ((c.tc : Thread Cert.DenseSampleRefIdeal.nD Cert.DenseSampleRefIdeal.τ).loc Cert.DenseSampleRefIdeal.main_arg2) = m' ((c.tc : Thread Cert.DenseSampleRefIdeal.nD Cert.DenseSampleRefIdeal.τ).loc Cert.DenseSampleRefIdeal.main_arg2)
          ∧ r.2.mem ((c.tc : Thread Cert.DenseSampleRefIdeal.nD Cert.DenseSampleRefIdeal.τ).loc Cert.DenseSampleRefIdeal.main_arg3) = m' ((c.tc : Thread Cert.DenseSampleRefIdeal.nD Cert.DenseSampleRefIdeal.τ).loc Cert.DenseSampleRefIdeal.main_arg3)
          ∧ r.2.mem ((c.tc : Thread Cert.DenseSampleRefIdeal.nD Cert.DenseSampleRefIdeal.τ).loc Cert.DenseSampleRefIdeal.main_arg4) = m' ((c.tc : Thread Cert.DenseSampleRefIdeal.nD Cert.DenseSampleRefIdeal.τ).loc Cert.DenseSampleRefIdeal.main_arg4)
          ∧ r.2.mem ((c.tc : Thread Cert.DenseSampleRefIdeal.nD Cert.DenseSampleRefIdeal.τ).loc Cert.DenseSampleRefIdeal.main_arg5) = m' ((c.tc : Thread Cert.DenseSampleRefIdeal.nD Cert.DenseSampleRefIdeal.τ).loc Cert.DenseSampleRefIdeal.main_arg5)
          ∧ r.2.mem ((c.tc : Thread Cert.DenseSampleRefIdeal.nD Cert.DenseSampleRefIdeal.τ).loc Cert.DenseSampleRefIdeal.main_arg6) = m' ((c.tc : Thread Cert.DenseSampleRefIdeal.nD Cert.DenseSampleRefIdeal.τ).loc Cert.DenseSampleRefIdeal.main_arg6)
          ∧ r.2.mem ((c.tc : Thread Cert.DenseSampleRefIdeal.nD Cert.DenseSampleRefIdeal.τ).loc Cert.DenseSampleRefIdeal.main_arg7) = m' ((c.tc : Thread Cert.DenseSampleRefIdeal.nD Cert.DenseSampleRefIdeal.τ).loc Cert.DenseSampleRefIdeal.main_arg7)
          ∧ r.2.mem ((c.tc : Thread Cert.DenseSampleRefIdeal.nD Cert.DenseSampleRefIdeal.τ).loc Cert.DenseSampleRefIdeal.main_arg8) = m' ((c.tc : Thread Cert.DenseSampleRefIdeal.nD Cert.DenseSampleRefIdeal.τ).loc Cert.DenseSampleRefIdeal.main_arg8))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hQuery : Cert.Query.Facts) (hQueryIdeal : Cert.QueryIdeal.Facts) (hQueryRefIdeal : Cert.QueryRefIdeal.Facts) (hOut : Cert.Out.Facts) (hOutIdeal : Cert.OutIdeal.Facts) (hOutRefIdeal : Cert.OutRefIdeal.Facts) (hAbsorb : Cert.Absorb.Facts) (hAbsorbIdeal : Cert.AbsorbIdeal.Facts) (hAbsorbRefIdeal : Cert.AbsorbRefIdeal.Facts) (hUp : Cert.Up.Facts) (hUpIdeal : Cert.UpIdeal.Facts) (hUpRefIdeal : Cert.UpRefIdeal.Facts) (hState : Cert.State.Facts) (hStateIdeal : Cert.StateIdeal.Facts) (hStateRefIdeal : Cert.StateRefIdeal.Facts) (hPrep : Cert.Prep.Facts) (hPrepIdeal : Cert.PrepIdeal.Facts) (hPrepRefIdeal : Cert.PrepRefIdeal.Facts) (hConv : Cert.Conv.Facts) (hConvIdeal : Cert.ConvIdeal.Facts) (hConvRefIdeal : Cert.ConvRefIdeal.Facts) (hRows : Cert.Rows.Facts) (hRowsIdeal : Cert.RowsIdeal.Facts) (hRowsRefIdeal : Cert.RowsRefIdeal.Facts) (hDense : Cert.Dense.Facts) (hDenseIdeal : Cert.DenseIdeal.Facts) (hDenseRefIdeal : Cert.DenseRefIdeal.Facts) (hDenseSample : Cert.DenseSample.Facts) (hDenseSampleIdeal : Cert.DenseSampleIdeal.Facts) (hDenseSampleRefIdeal : Cert.DenseSampleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InRefIdeal (hInRefIdeal := hInRefIdeal)
    ∧ quiescent_Query (hQuery := hQuery)
    ∧ quiescent_QueryIdeal (hQueryIdeal := hQueryIdeal)
    ∧ quiescent_QueryRefIdeal (hQueryRefIdeal := hQueryRefIdeal)
    ∧ quiescent_Out (hOut := hOut)
    ∧ quiescent_OutIdeal (hOutIdeal := hOutIdeal)
    ∧ quiescent_OutRefIdeal (hOutRefIdeal := hOutRefIdeal)
    ∧ quiescent_Absorb (hAbsorb := hAbsorb)
    ∧ quiescent_AbsorbIdeal (hAbsorbIdeal := hAbsorbIdeal)
    ∧ quiescent_AbsorbRefIdeal (hAbsorbRefIdeal := hAbsorbRefIdeal)
    ∧ quiescent_Up (hUp := hUp)
    ∧ quiescent_UpIdeal (hUpIdeal := hUpIdeal)
    ∧ quiescent_UpRefIdeal (hUpRefIdeal := hUpRefIdeal)
    ∧ quiescent_State (hState := hState)
    ∧ quiescent_StateIdeal (hStateIdeal := hStateIdeal)
    ∧ quiescent_StateRefIdeal (hStateRefIdeal := hStateRefIdeal)
    ∧ quiescent_Prep (hPrep := hPrep)
    ∧ quiescent_PrepIdeal (hPrepIdeal := hPrepIdeal)
    ∧ quiescent_PrepRefIdeal (hPrepRefIdeal := hPrepRefIdeal)
    ∧ quiescent_Conv (hConv := hConv)
    ∧ quiescent_ConvIdeal (hConvIdeal := hConvIdeal)
    ∧ quiescent_ConvRefIdeal (hConvRefIdeal := hConvRefIdeal)
    ∧ quiescent_Rows (hRows := hRows)
    ∧ quiescent_RowsIdeal (hRowsIdeal := hRowsIdeal)
    ∧ quiescent_RowsRefIdeal (hRowsRefIdeal := hRowsRefIdeal)
    ∧ quiescent_Dense (hDense := hDense)
    ∧ quiescent_DenseIdeal (hDenseIdeal := hDenseIdeal)
    ∧ quiescent_DenseRefIdeal (hDenseRefIdeal := hDenseRefIdeal)
    ∧ quiescent_DenseSample (hDenseSample := hDenseSample)
    ∧ quiescent_DenseSampleIdeal (hDenseSampleIdeal := hDenseSampleIdeal)
    ∧ quiescent_DenseSampleRefIdeal (hDenseSampleRefIdeal := hDenseSampleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InRefIdeal (hInIdeal := hInIdeal) (hInRefIdeal := hInRefIdeal)
    ∧ preserves_Query_QueryIdeal
    ∧ algebraic_QueryIdeal_QueryRefIdeal (hQueryIdeal := hQueryIdeal) (hQueryRefIdeal := hQueryRefIdeal)
    ∧ preserves_Out_OutIdeal
    ∧ algebraic_OutIdeal_OutRefIdeal (hOutIdeal := hOutIdeal) (hOutRefIdeal := hOutRefIdeal)
    ∧ preserves_Absorb_AbsorbIdeal
    ∧ algebraic_AbsorbIdeal_AbsorbRefIdeal (hAbsorbIdeal := hAbsorbIdeal) (hAbsorbRefIdeal := hAbsorbRefIdeal)
    ∧ preserves_Up_UpIdeal
    ∧ algebraic_UpIdeal_UpRefIdeal (hUpIdeal := hUpIdeal) (hUpRefIdeal := hUpRefIdeal)
    ∧ preserves_State_StateIdeal
    ∧ algebraic_StateIdeal_StateRefIdeal (hStateIdeal := hStateIdeal) (hStateRefIdeal := hStateRefIdeal)
    ∧ preserves_Prep_PrepIdeal
    ∧ algebraic_PrepIdeal_PrepRefIdeal (hPrepIdeal := hPrepIdeal) (hPrepRefIdeal := hPrepRefIdeal)
    ∧ preserves_Conv_ConvIdeal
    ∧ algebraic_ConvIdeal_ConvRefIdeal (hConvIdeal := hConvIdeal) (hConvRefIdeal := hConvRefIdeal)
    ∧ preserves_Rows_RowsIdeal
    ∧ algebraic_RowsIdeal_RowsRefIdeal (hRowsIdeal := hRowsIdeal) (hRowsRefIdeal := hRowsRefIdeal)
    ∧ preserves_Dense_DenseIdeal
    ∧ algebraic_DenseIdeal_DenseRefIdeal (hDenseIdeal := hDenseIdeal) (hDenseRefIdeal := hDenseRefIdeal)
    ∧ preserves_DenseSample_DenseSampleIdeal
    ∧ algebraic_DenseSampleIdeal_DenseSampleRefIdeal (hDenseSampleIdeal := hDenseSampleIdeal) (hDenseSampleRefIdeal := hDenseSampleRefIdeal)
-- ==== Pre_finite.lean ====
abbrev S8192x2048 : Shape := ⟨2, ![8192, 2048]⟩
abbrev S8x8192x64 : Shape := ⟨3, ![8, 8192, 64]⟩
abbrev S8192x256 : Shape := ⟨2, ![8192, 256]⟩
abbrev S8192x64 : Shape := ⟨2, ![8192, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_
  bcast_S_S8192x256 : S_.BroadcastsInDim S8192x256 (![] : Fin 0 → Fin S8192x256.rank)
  reducesTo_S8192x256_S_d0_1 : S8192x256.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg2 : FVec F S8192x256 .bf16) (main_arg3 : FVec F S8192x64 .bf16) (main_v12 : IVec S_ 1) (main_v14 : IVec S8192x256 1) (main_v15 : FVec F S8192x256 .bf16) : IVec S_ 1 :=
  let main_v16 : IVec S8192x256 1 := cmpf .olt main_arg2 main_v15
  let main_v17 : IVec S8192x256 1 := andi main_v14 main_v16
  let main_c_6 : IVec S_ 1 := constantI S_ 1 1#1
  let main_v18 : IVec S_ 1 := (fun x v => Host.reduce IntOp.andi x v reducesTo_S8192x256_S_d0_1 h_S_) main_v17 main_c_6
  let main_v19 : IVec S_ 1 := andi main_v12 main_v18
  let main_cst_7 : FVec F S_ .bf16 := constant S_ .bf16 0xFF80#16
  let main_v20 : FVec F S8192x64 .bf16 := broadcastInDim S8192x64 ![] bcast_S_S8192x64 main_cst_7
  let main_v21 : IVec S8192x64 1 := cmpf .ogt main_arg3 main_v20
  let main_cst_8 : FVec F S_ .bf16 := constant S_ .bf16 0x7F80#16
  let main_v22 : FVec F S8192x64 .bf16 := broadcastInDim S8192x64 ![] bcast_S_S8192x64 main_cst_8
  let main_v23 : IVec S8192x64 1 := cmpf .olt main_arg3 main_v22
  let main_v24 : IVec S8192x64 1 := andi main_v21 main_v23
  let main_c_9 : IVec S_ 1 := constantI S_ 1 1#1
  let main_v25 : IVec S_ 1 := (fun x v => Host.reduce IntOp.andi x v reducesTo_S8192x64_S_d0_1 h_S_) main_v24 main_c_9
  let main_v26 : IVec S_ 1 := andi main_v19 main_v25
  main_v26

def fn {F : FTy → Type} [FloatOps F] (main_arg0 : FVec F S8192x2048 .bf16) (main_arg1 : FVec F S8x8192x64 .bf16) (main_arg2 : FVec F S8192x256 .bf16) (main_arg3 : FVec F S8192x64 .bf16) : IVec S_ 1 :=
  let main_cst : FVec F S_ .bf16 := constant S_ .bf16 0xFF80#16
  let main_v0 : FVec F S8192x2048 .bf16 := broadcastInDim S8192x2048 ![] bcast_S_S8192x2048 main_cst
  let main_v1 : IVec S8192x2048 1 := cmpf .ogt main_arg0 main_v0
  let main_cst_0 : FVec F S_ .bf16 := constant S_ .bf16 0x7F80#16
  let main_v2 : FVec F S8192x2048 .bf16 := broadcastInDim S8192x2048 ![] bcast_S_S8192x2048 main_cst_0
  let main_v3 : IVec S8192x2048 1 := cmpf .olt main_arg0 main_v2
  let main_v4 : IVec S8192x2048 1 := andi main_v1 main_v3
  let main_c : IVec S_ 1 := constantI S_ 1 1#1
  let main_v5 : IVec S_ 1 := (fun x v => Host.reduce IntOp.andi x v reducesTo_S8192x2048_S_d0_1 h_S_) main_v4 main_c
  let main_cst_1 : FVec F S_ .bf16 := constant S_ .bf16 0xFF80#16
  let main_v6 : FVec F S8x8192x64 .bf16 := broadcastInDim S8x8192x64 ![] bcast_S_S8x8192x64 main_cst_1
  let main_v7 : IVec S8x8192x64 1 := cmpf .ogt main_arg1 main_v6
  let main_cst_2 : FVec F S_ .bf16 := constant S_ .bf16 0x7F80#16
  let main_v8 : FVec F S8x8192x64 .bf16 := broadcastInDim S8x8192x64 ![] bcast_S_S8x8192x64 main_cst_2
  let main_v9 : IVec S8x8192x64 1 := cmpf .olt main_arg1 main_v8
  let main_v10 : IVec S8x8192x64 1 := andi main_v7 main_v9
  let main_c_3 : IVec S_ 1 := constantI S_ 1 1#1
  let main_v11 : IVec S_ 1 := (fun x v => Host.reduce IntOp.andi x v reducesTo_S8x8192x64_S_d0_1_2 h_S_) main_v10 main_c_3
  let main_v12 : IVec S_ 1 := andi main_v5 main_v11
  let main_cst_4 : FVec F S_ .bf16 := constant S_ .bf16 0xFF80#16
  let main_v13 : FVec F S8192x256 .bf16 := broadcastInDim S8192x256 ![] bcast_S_S8192x256 main_cst_4
  let main_v14 : IVec S8192x256 1 := cmpf .ogt main_arg2 main_v13
  let main_cst_5 : FVec F S_ .bf16 := constant S_ .bf16 0x7F80#16
  let main_v15 : FVec F S8192x256 .bf16 := broadcastInDim S8192x256 ![] bcast_S_S8192x256 main_cst_5
  fn_part1 (F := F) main_arg2 main_arg3 main_v12 main_v14 main_v15
-- ==== Kernel.lean ====
abbrev S8192x2048 : Shape := ⟨2, ![8192, 2048]⟩
abbrev S8x8192x64 : Shape := ⟨3, ![8, 8192, 64]⟩
abbrev S8192x256 : Shape := ⟨2, ![8192, 256]⟩
abbrev S8192x64 : Shape := ⟨2, ![8192, 64]⟩
abbrev S512x256 : Shape := ⟨2, ![512, 256]⟩
abbrev S1x512x64 : Shape := ⟨3, ![1, 512, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8x8192x64, .bf16⟩
  | .hbm, ⟨2, _⟩ => ⟨S8192x256, .bf16⟩
  | .hbm, ⟨3, _⟩ => ⟨S8192x64, .bf16⟩
  | .hbm, ⟨4, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S1x512x64, .bf16⟩
  | .local _ .vmem, ⟨3, _⟩ => ⟨S1x512x64, .bf16⟩
  | .local _ .vmem, ⟨4, _⟩ => ⟨S8192x256, .bf16⟩
  | .local _ .vmem, ⟨5, _⟩ => ⟨S8192x64, .bf16⟩
  | .local _ .vmem, ⟨6, _⟩ => ⟨S512x256, .bf16⟩
  | .local _ .vmem, ⟨7, _⟩ => ⟨S512x256, .bf16⟩
  | .local _ .vmem, ⟨8, _⟩ => ⟨S512x1, .f32⟩
  | .local _ .vmem, ⟨9, _⟩ => ⟨S512x1, .f32⟩
  | .local _ .vmem, ⟨10, _⟩ => ⟨S512x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_12 : BitVec 32 := 0#32
  let arg0 : BitVec 32 := BitVec.ofNat 32 (i 0).val
  let c1_i32 : BitVec 32 := 1#32
  let v15 : BitVec 32 := Scalar.muli arg0 c1_i32
  let v16 : BitVec 32 := Scalar.subi v15 c0_i32_12
  let c1_i32_13 : BitVec 32 := 1#32
  let v18 : BitVec 32 := Scalar.divsi v16 c1_i32_13
  let v19 : BitVec 32 := Scalar.muli v18 c1_i32_13
  let v20 : BitVec 32 := Scalar.addi c0_i32_12 v19
  let c1_i32_14 : BitVec 32 := 1#32
  ⟨c0_i32_12, v20, c1_i32_14⟩
def k0_mult1 (i : grid0.Coords) (k0_t1 : Fin (k0_t1_loop i).trips) : BitVec 32 :=
  let c0_i32_12 : BitVec 32 := 0#32
  let c1_i32_14 : BitVec 32 := 1#32
  let arg10 : BitVec 32 := Scf.iv c0_i32_12 c1_i32_14 k0_t1
  let c512_i32_45 : BitVec 32 := 512#32
  let v78 : BitVec 32 := Scalar.muli arg10 c512_i32_45
  v78
def k0_off1 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c512_i32_45 : BitVec 32 := 512#32
  let v78 : BitVec 32 := Scalar.muli arg10 c512_i32_45
  let v79 : BitVec 32 := v78
  let v80 : Index := Scalar.indexCast v79
  let c0_46 : Index := 0#32
  ![v80.toNat, 0]
def k0_off2 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c512_i32_45 : BitVec 32 := 512#32
  let v78 : BitVec 32 := Scalar.muli arg10 c512_i32_45
  let v79 : BitVec 32 := v78
  let v82 : Index := Scalar.indexCast v79
  let c0_47 : Index := 0#32
  ![v82.toNat, 0]
@[reducible] def k0_t2_loop (i : grid0.Coords) : Scf.Loop 32 :=
  let c0_i32_12 : BitVec 32 := 0#32
  let arg0 : BitVec 32 := BitVec.ofNat 32 (i 0).val
  let c1_i32 : BitVec 32 := 1#32
  let v15 : BitVec 32 := Scalar.muli arg0 c1_i32
  let v16 : BitVec 32 := Scalar.subi v15 c0_i32_12
  let c1_i32_13 : BitVec 32 := 1#32
  let v18 : BitVec 32 := Scalar.divsi v16 c1_i32_13
  let v19 : BitVec 32 := Scalar.muli v18 c1_i32_13
  let v20 : BitVec 32 := Scalar.addi c0_i32_12 v19
  let v17 : BitVec 32 := Scalar.addi c0_i32_12 v16
  let c1_i32_15 : BitVec 32 := 1#32
  ⟨v20, v17, c1_i32_15⟩
def k0_mult2 (i : grid0.Coords) (k0_t2 : Fin (k0_t2_loop i).trips) : BitVec 32 :=
  let c0_i32_12 : BitVec 32 := 0#32
  let arg0 : BitVec 32 := BitVec.ofNat 32 (i 0).val
  let c1_i32 : BitVec 32 := 1#32
  let v15 : BitVec 32 := Scalar.muli arg0 c1_i32
  let v16 : BitVec 32 := Scalar.subi v15 c0_i32_12
  let c1_i32_13 : BitVec 32 := 1#32
  let v18 : BitVec 32 := Scalar.divsi v16 c1_i32_13
  let v19 : BitVec 32 := Scalar.muli v18 c1_i32_13
  let v20 : BitVec 32 := Scalar.addi c0_i32_12 v19
  let c1_i32_15 : BitVec 32 := 1#32
  let arg10 : BitVec 32 := Scf.iv v20 c1_i32_15 k0_t2
  let c512_i32_45 : BitVec 32 := 512#32
  let v78 : BitVec 32 := Scalar.muli arg10 c512_i32_45
  v78
def k0_off3 (i : grid0.Coords) (k0_t2 : Fin (k0_t2_loop i).trips) : Fin 2 → Nat :=
  let c0_i32_12 : BitVec 32 := 0#32
  let arg0 : BitVec 32 := BitVec.ofNat 32 (i 0).val
  let c1_i32 : BitVec 32 := 1#32
  let v15 : BitVec 32 := Scalar.muli arg0 c1_i32
  let v16 : BitVec 32 := Scalar.subi v15 c0_i32_12
  let c1_i32_13 : BitVec 32 := 1#32
  let v18 : BitVec 32 := Scalar.divsi v16 c1_i32_13
  let v19 : BitVec 32 := Scalar.muli v18 c1_i32_13
  let v20 : BitVec 32 := Scalar.addi c0_i32_12 v19
  let c1_i32_15 : BitVec 32 := 1#32
  let arg10 : BitVec 32 := Scf.iv v20 c1_i32_15 k0_t2
  let c512_i32_45 : BitVec 32 := 512#32
  let v78 : BitVec 32 := Scalar.muli arg10 c512_i32_45
  let v79 : BitVec 32 := v78
  let v80 : Index := Scalar.indexCast v79
  let c0_46 : Index := 0#32
  ![v80.toNat, 0]
def k0_off4 (i : grid0.Coords) (k0_t2 : Fin (k0_t2_loop i).trips) : Fin 2 → Nat :=
  let c0_i32_12 : BitVec 32 := 0#32
  let arg0 : BitVec 32 := BitVec.ofNat 32 (i 0).val
  let c1_i32 : BitVec 32 := 1#32
  let v15 : BitVec 32 := Scalar.muli arg0 c1_i32
  let v16 : BitVec 32 := Scalar.subi v15 c0_i32_12
  let c1_i32_13 : BitVec 32 := 1#32
  let v18 : BitVec 32 := Scalar.divsi v16 c1_i32_13
  let v19 : BitVec 32 := Scalar.muli v18 c1_i32_13
  let v20 : BitVec 32 := Scalar.addi c0_i32_12 v19
  let c1_i32_15 : BitVec 32 := 1#32
  let arg10 : BitVec 32 := Scf.iv v20 c1_i32_15 k0_t2
  let c512_i32_45 : BitVec 32 := 512#32
  let v78 : BitVec 32 := Scalar.muli arg10 c512_i32_45
  let v79 : BitVec 32 := v78
  let v82 : Index := Scalar.indexCast v79
  let c0_47 : Index := 0#32
  ![v82.toNat, 0]
def k0_mult3 (i : grid0.Coords) : BitVec 32 :=
  let arg0 : BitVec 32 := BitVec.ofNat 32 (i 0).val
  let c1_i32 : BitVec 32 := 1#32
  let v15 : BitVec 32 := Scalar.muli arg0 c1_i32
  let c0_i32_16 : BitVec 32 := 0#32
  let v21 : BitVec 32 := Scalar.addi v15 c0_i32_16
  let c512_i32 : BitVec 32 := 512#32
  let v22 : BitVec 32 := Scalar.muli v21 c512_i32
  v22
def k0_off5 (i : grid0.Coords) : Fin 2 → Nat :=
  let arg0 : BitVec 32 := BitVec.ofNat 32 (i 0).val
  let c1_i32 : BitVec 32 := 1#32
  let v15 : BitVec 32 := Scalar.muli arg0 c1_i32
  let c0_i32_16 : BitVec 32 := 0#32
  let v21 : BitVec 32 := Scalar.addi v15 c0_i32_16
  let c512_i32 : BitVec 32 := 512#32
  let v22 : BitVec 32 := Scalar.muli v21 c512_i32
  let v23 : BitVec 32 := v22
  let v24 : Index := Scalar.indexCast v23
  let c0_17 : Index := 0#32
  ![v24.toNat, 0]
def k0_off6 (i : grid0.Coords) : Fin 2 → Nat :=
  let arg0 : BitVec 32 := BitVec.ofNat 32 (i 0).val
  let c1_i32 : BitVec 32 := 1#32
  let v15 : BitVec 32 := Scalar.muli arg0 c1_i32
  let c0_i32_16 : BitVec 32 := 0#32
  let v21 : BitVec 32 := Scalar.addi v15 c0_i32_16
  let c512_i32 : BitVec 32 := 512#32
  let v22 : BitVec 32 := Scalar.muli v21 c512_i32
  let v23 : BitVec 32 := v22
  let v26 : Index := Scalar.indexCast v23
  let c0_18 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x2048 : Shape := ⟨2, ![8192, 2048]⟩
abbrev S8x8192x64 : Shape := ⟨3, ![8, 8192, 64]⟩
abbrev S8192x256 : Shape := ⟨2, ![8192, 256]⟩
abbrev S8192x64 : Shape := ⟨2, ![8192, 64]⟩
abbrev S8192x8x256 : Shape := ⟨3, ![8192, 8, 256]⟩
abbrev S8192x8192x8 : Shape := ⟨3, ![8192, 8192, 8]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x8192 : Shape := ⟨2, ![8, 8192]⟩
abbrev S8x8192x1 : Shape := ⟨3, ![8, 8192, 1]⟩
abbrev S256x8x8192 : Shape := ⟨3, ![256, 8, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x8192x64, .bf16⟩
  | .hbm, ⟨2, _⟩ => ⟨S8192x256, .bf16⟩
  | .hbm, ⟨3, _⟩ => ⟨S8192x64, .bf16⟩
  | .hbm, ⟨4, _⟩ => ⟨S8192x2048, .f32⟩
  | .hbm, ⟨5, _⟩ => ⟨S8192x8x256, .f32⟩
  | .hbm, ⟨6, _⟩ => ⟨S8x8192x64, .f32⟩
  | .hbm, ⟨7, _⟩ => ⟨S8192x256, .f32⟩
  | .hbm, ⟨8, _⟩ => ⟨S8192x64, .f32⟩
  | .hbm, ⟨9, _⟩ => ⟨S8192x8192x8, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S256x8x8192, .f32⟩
  | .hbm, ⟨42, _⟩ => ⟨S8192x8x256, .f32⟩
  | .hbm, ⟨43, _⟩ => ⟨S8192x2048, .f32⟩
  | .hbm, ⟨44, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== In.lean ====
abbrev S8192x2048 : Shape := ⟨2, ![8192, 2048]⟩
abbrev S2048 : Shape := ⟨1, ![2048]⟩
abbrev S2048x5120 : Shape := ⟨2, ![2048, 5120]⟩
abbrev S1x2048 : Shape := ⟨2, ![1, 2048]⟩
abbrev S8192x5120 : Shape := ⟨2, ![8192, 5120]⟩
abbrev S512x2048 : Shape := ⟨2, ![512, 2048]⟩
abbrev S2048x2560 : Shape := ⟨2, ![2048, 2560]⟩
abbrev S512x2560 : Shape := ⟨2, ![512, 2560]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .bf16⟩
  | .hbm, ⟨3, _⟩ => ⟨S1x2048, .f32⟩
  | .hbm, ⟨4, _⟩ => ⟨S8192x5120, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S512x2560, .f32⟩
  | .local _ .vmem, ⟨6, _⟩ => ⟨S512x2560, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S8192x2048 : Shape := ⟨2, ![8192, 2048]⟩
abbrev S2048 : Shape := ⟨1, ![2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x5120, .f32⟩
  | .hbm, ⟨20, _⟩ => ⟨S8192x5120, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Query.lean ====
abbrev S8192x2048 : Shape := ⟨2, ![8192, 2048]⟩
abbrev S2048 : Shape := ⟨1, ![2048]⟩
abbrev S2048x8x256 : Shape := ⟨3, ![2048, 8, 256]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8x256, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== QueryRefIdeal.lean ====
abbrev S8192x2048 : Shape := ⟨2, ![8192, 2048]⟩
abbrev S2048 : Shape := ⟨1, ![2048]⟩
abbrev S2048x8x256 : Shape := ⟨3, ![2048, 8, 256]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8x256 : Shape := ⟨3, ![8192, 8, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8x256, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x8x256, .f32⟩
  | .hbm, ⟨20, _⟩ => ⟨S8192x2048, .f32⟩
  | .hbm, ⟨21, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Out.lean ====
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S1024x2048, .f32⟩
  | .hbm, ⟨5, _⟩ => ⟨S1024x2048, .bf16⟩
  | .hbm, ⟨6, _⟩ => ⟨S1024x2048, .f32⟩
  | .hbm, ⟨7, _⟩ => ⟨S1024x2048, .bf16⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Absorb.lean ====
abbrev S8192x1024 : Shape := ⟨2, ![8192, 1024]⟩
abbrev S256x8x128 : Shape := ⟨3, ![256, 8, 128]⟩
abbrev S8x128x256 : Shape := ⟨3, ![8, 128, 256]⟩
abbrev S8192x2048 : Shape := ⟨2, ![8192, 2048]⟩
abbrev S1024x128 : Shape := ⟨2, ![1024, 128]⟩
abbrev S1x128x256 : Shape := ⟨3, ![1, 128, 256]⟩
abbrev S1024x256 : Shape := ⟨2, ![1024, 256]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x8x128, .f32⟩
  | .hbm, ⟨2, _⟩ => ⟨S8x128x256, .f32⟩
  | .hbm, ⟨3, _⟩ => ⟨S8x128x256, .bf16⟩
  | .hbm, ⟨4, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S1x128x256, .bf16⟩
  | .local _ .vmem, ⟨3, _⟩ => ⟨S1x128x256, .bf16⟩
  | .local _ .vmem, ⟨4, _⟩ => ⟨S1024x256, .bf16⟩
  | .local _ .vmem, ⟨5, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbsorbRefIdeal.lean ====
abbrev S8192x1024 : Shape := ⟨2, ![8192, 1024]⟩
abbrev S256x8x128 : Shape := ⟨3, ![256, 8, 128]⟩
abbrev S8192x8x128 : Shape := ⟨3, ![8192, 8, 128]⟩
abbrev S8x256x8192 : Shape := ⟨3, ![8, 256, 8192]⟩
abbrev S8192x8x256 : Shape := ⟨3, ![8192, 8, 256]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x8x128, .f32⟩
  | .hbm, ⟨2, _⟩ => ⟨S8192x1024, .f32⟩
  | .hbm, ⟨3, _⟩ => ⟨S8192x8x128, .f32⟩
  | .hbm, ⟨4, _⟩ => ⟨S8x256x8192, .f32⟩
  | .hbm, ⟨5, _⟩ => ⟨S8192x8x256, .f32⟩
  | .hbm, ⟨6, _⟩ => ⟨S8192x2048, .f32⟩
  | .hbm, ⟨7, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S8192x2048 : Shape := ⟨2, ![8192, 2048]⟩
abbrev S256x8x128 : Shape := ⟨3, ![256, 8, 128]⟩
abbrev S8x256x128 : Shape := ⟨3, ![8, 256, 128]⟩
abbrev S8192x1024 : Shape := ⟨2, ![8192, 1024]⟩
abbrev S1024x256 : Shape := ⟨2, ![1024, 256]⟩
abbrev S1x256x128 : Shape := ⟨3, ![1, 256, 128]⟩
abbrev S1024x128 : Shape := ⟨2, ![1024, 128]⟩
abbrev S256x128 : Shape := ⟨2, ![256, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S256x8x128, .f32⟩
  | .hbm, ⟨2, _⟩ => ⟨S8x256x128, .f32⟩
  | .hbm, ⟨3, _⟩ => ⟨S8x256x128, .bf16⟩
  | .hbm, ⟨4, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x128, .bf16⟩
  | .local _ .vmem, ⟨3, _⟩ => ⟨S1x256x128, .bf16⟩
  | .local _ .vmem, ⟨4, _⟩ => ⟨S1024x128, .bf16⟩
  | .local _ .vmem, ⟨5, _⟩ => ⟨S1024x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x2048 : Shape := ⟨2, ![8192, 2048]⟩
abbrev S256x8x128 : Shape := ⟨3, ![256, 8, 128]⟩
abbrev S8192x8x256 : Shape := ⟨3, ![8192, 8, 256]⟩
abbrev S8x128x8192 : Shape := ⟨3, ![8, 128, 8192]⟩
abbrev S8192x8x128 : Shape := ⟨3, ![8192, 8, 128]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x8x128, .f32⟩
  | .hbm, ⟨2, _⟩ => ⟨S8192x2048, .f32⟩
  | .hbm, ⟨3, _⟩ => ⟨S8192x8x256, .f32⟩
  | .hbm, ⟨4, _⟩ => ⟨S8x128x8192, .f32⟩
  | .hbm, ⟨5, _⟩ => ⟨S8192x8x128, .f32⟩
  | .hbm, ⟨6, _⟩ => ⟨S8192x1024, .f32⟩
  | .hbm, ⟨7, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== State.lean ====
abbrev S1x8192x2048 : Shape := ⟨3, ![1, 8192, 2048]⟩
abbrev S1x2048 : Shape := ⟨2, ![1, 2048]⟩
abbrev S1x2048x4944 : Shape := ⟨3, ![1, 2048, 4944]⟩
abbrev S8192x2048 : Shape := ⟨2, ![8192, 2048]⟩
abbrev S2048x4944 : Shape := ⟨2, ![2048, 4944]⟩
abbrev S2048x64 : Shape := ⟨2, ![2048, 64]⟩
abbrev S2048x4096 : Shape := ⟨2, ![2048, 4096]⟩
abbrev S2048x768 : Shape := ⟨2, ![2048, 768]⟩
abbrev S2048x1x2x32 : Shape := ⟨4, ![2048, 1, 2, 32]⟩
abbrev S2048x16 : Shape := ⟨2, ![2048, 16]⟩
abbrev S_ : Shape := ⟨0, ![]⟩
abbrev S2048x112 : Shape := ⟨2, ![2048, 112]⟩
abbrev S2048x5120 : Shape := ⟨2, ![2048, 5120]⟩
abbrev S2048 : Shape := ⟨1, ![2048]⟩
abbrev S8192x5120 : Shape := ⟨2, ![8192, 5120]⟩
abbrev S512x2048 : Shape := ⟨2, ![512, 2048]⟩
abbrev S2048x2560 : Shape := ⟨2, ![2048, 2560]⟩
abbrev S512x2560 : Shape := ⟨2, ![512, 2560]⟩
abbrev S512 : Shape := ⟨1, ![512]⟩
abbrev S512x1 : Shape := ⟨2, ![512, 1]⟩
abbrev S3x3072 : Shape := ⟨2, ![3, 3072]⟩
abbrev S1x3x3072 : Shape := ⟨3, ![1, 3, 3072]⟩
abbrev S1x1x3x3072 : Shape := ⟨4, ![1, 1, 3, 3072]⟩

abbrev nBuf : Space → Nat
  | .hbm => 22
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x4944, .f32⟩
  | .hbm, ⟨3, _⟩ => ⟨S8192x2048, .f32⟩
  | .hbm, ⟨4, _⟩ => ⟨S2048x4944, .f32⟩
  | .hbm, ⟨5, _⟩ => ⟨S2048x64, .f32⟩
  | .hbm, ⟨6, _⟩ => ⟨S2048x4096, .f32⟩
  | .hbm, ⟨7, _⟩ => ⟨S2048x768, .f32⟩
  | .hbm, ⟨8, _⟩ => ⟨S2048x1x2x32, .f32⟩
  | .hbm, ⟨9, _⟩ => ⟨S2048x1x2x32, .f32⟩
  | .hbm, ⟨10, _⟩ => ⟨S2048x64, .f32⟩
  | .hbm, ⟨11, _⟩ => ⟨S2048x16, .f32⟩
  | .hbm, ⟨12, _⟩ => ⟨S_, .f32⟩
  | .hbm, ⟨13, _⟩ => ⟨S2048x112, .f32⟩
  | .hbm, ⟨14, _⟩ => ⟨S2048x5120, .f32⟩
  | .hbm, ⟨15, _⟩ => ⟨S2048x5120, .bf16⟩
  | .hbm, ⟨16, _⟩ => ⟨S2048, .f32⟩
  | .hbm, ⟨17, _⟩ => ⟨S1x2048, .f32⟩
  | .hbm, ⟨18, _⟩ => ⟨S8192x5120, .f32⟩
  | .hbm, ⟨19, _⟩ => ⟨S3x3072, .f32⟩
  | .hbm, ⟨20, _⟩ => ⟨S1x3x3072, .f32⟩
  | .hbm, ⟨21, _⟩ => ⟨S1x1x3x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2560, .bf16⟩
  | .local _ .vmem, ⟨4, _⟩ => ⟨S2048x2560, .bf16⟩
  | .local _ .vmem, ⟨5, _⟩ => ⟨S512x2560, .f32⟩
  | .local _ .vmem, ⟨6, _⟩ => ⟨S512x2560, .f32⟩
  | .local _ .vmem, ⟨7, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== StateRefIdeal.lean ====
abbrev S1x8192x2048 : Shape := ⟨3, ![1, 8192, 2048]⟩
abbrev S1x2048 : Shape := ⟨2, ![1, 2048]⟩
abbrev S1x2048x4944 : Shape := ⟨3, ![1, 2048, 4944]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x4944 : Shape := ⟨2, ![2048, 4944]⟩
abbrev S1x8192x4944 : Shape := ⟨3, ![1, 8192, 4944]⟩
abbrev S1x3x3072 : Shape := ⟨3, ![1, 3, 3072]⟩
abbrev S1x8192x3072 : Shape := ⟨3, ![1, 8192, 3072]⟩
abbrev S1x8195x3072 : Shape := ⟨3, ![1, 8195, 3072]⟩
abbrev S1x1x3x3072 : Shape := ⟨4, ![1, 1, 3, 3072]⟩

abbrev nBuf : Space → Nat
  | .hbm => 28
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x4944, .f32⟩
  | .hbm, ⟨3, _⟩ => ⟨S2048, .f32⟩
  | .hbm, ⟨4, _⟩ => ⟨S1x8192x2048, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x2048, .f32⟩
  | .hbm, ⟨16, _⟩ => ⟨S1x8192x2048, .f32⟩
  | .hbm, ⟨17, _⟩ => ⟨S1x1x2048, .f32⟩
  | .hbm, ⟨18, _⟩ => ⟨S1x8192x2048, .f32⟩
  | .hbm, ⟨19, _⟩ => ⟨S1x8192x2048, .f32⟩
  | .hbm, ⟨20, _⟩ => ⟨S2048x4944, .f32⟩
  | .hbm, ⟨21, _⟩ => ⟨S1x8192x4944, .f32⟩
  | .hbm, ⟨22, _⟩ => ⟨S_, .f32⟩
  | .hbm, ⟨23, _⟩ => ⟨S1x3x3072, .f32⟩
  | .hbm, ⟨24, _⟩ => ⟨S1x8192x3072, .f32⟩
  | .hbm, ⟨25, _⟩ => ⟨S1x8195x3072, .f32⟩
  | .hbm, ⟨26, _⟩ => ⟨S1x3x3072, .f32⟩
  | .hbm, ⟨27, _⟩ => ⟨S1x1x3x3072, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Prep.lean ====
abbrev S8192x5120 : Shape := ⟨2, ![8192, 5120]⟩
abbrev S512 : Shape := ⟨1, ![512]⟩
abbrev S256 : Shape := ⟨1, ![256]⟩
abbrev S512x8x192 : Shape := ⟨3, ![512, 8, 192]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S512x8x2x32 : Shape := ⟨4, ![512, 8, 2, 32]⟩
abbrev S1x512 : Shape := ⟨2, ![1, 512]⟩
abbrev S1x256 : Shape := ⟨2, ![1, 256]⟩
abbrev S8192x256 : Shape := ⟨2, ![8192, 256]⟩
abbrev S8192x1024 : Shape := ⟨2, ![8192, 1024]⟩
abbrev S8x8192x64 : Shape := ⟨3, ![8, 8192, 64]⟩
abbrev S512x256 : Shape := ⟨2, ![512, 256]⟩
abbrev S512x128 : Shape := ⟨2, ![512, 128]⟩
abbrev S512x64 : Shape := ⟨2, ![512, 64]⟩
abbrev S8x512x64 : Shape := ⟨3, ![8, 512, 64]⟩
abbrev S512x1 : Shape := ⟨2, ![512, 1]⟩
abbrev S1x512x64 : Shape := ⟨3, ![1, 512, 64]⟩

abbrev nBuf : Space → Nat
  | .hbm => 48
  | .vmem => 31
  | .smem => 0
  | _ => 0

abbrev bufTy : (tb : Table) → Fin (tcTables nBuf tb) → BufTy
  | .hbm, ⟨0, _⟩ => ⟨S8192x5120, .f32⟩
  | .hbm, ⟨1, _⟩ => ⟨S512, .f32⟩
  | .hbm, ⟨2, _⟩ => ⟨S256, .f32⟩
  | .hbm, ⟨3, _⟩ => ⟨S512x8x192, .f32⟩
  | .hbm, ⟨4, _⟩ => ⟨S8192, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x64, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x8x64, .f32⟩
  | .hbm, ⟨26, _⟩ => ⟨S8192x512, .f32⟩
  | .hbm, ⟨27, _⟩ => ⟨S1x8192x1x64, .f32⟩
  | .hbm, ⟨28, _⟩ => ⟨S1x8192x8x64, .f32⟩
  | .hbm, ⟨29, _⟩ => ⟨S8192x512, .f32⟩
  | .hbm, ⟨30, _⟩ => ⟨S512x8x128, .f32⟩
  | .hbm, ⟨31, _⟩ => ⟨S512x1024, .f32⟩
  | .hbm, ⟨32, _⟩ => ⟨S512x1024, .bf16⟩
  | .hbm, ⟨33, _⟩ => ⟨S512x8x64, .f32⟩
  | .hbm, ⟨34, _⟩ => ⟨S512x512, .f32⟩
  | .hbm, ⟨35, _⟩ => ⟨S512x512, .bf16⟩
  | .hbm, ⟨36, _⟩ => ⟨S512x8x2x32, .f32⟩
  | .hbm, ⟨37, _⟩ => ⟨S512x8x2x32, .f32⟩
  | .hbm, ⟨38, _⟩ => ⟨S512x512, .f32⟩
  | .hbm, ⟨39, _⟩ => ⟨S512x512, .bf16⟩
  | .hbm, ⟨40, _⟩ => ⟨S1x512, .f32⟩
  | .hbm, ⟨41, _⟩ => ⟨S1x256, .f32⟩
  | .hbm, ⟨42, _⟩ => ⟨S8192x256, .f32⟩
  | .hbm, ⟨43, _⟩ => ⟨S8192x64, .f32⟩
  | .hbm, ⟨44, _⟩ => ⟨S8192x256, .bf16⟩
  | .hbm, ⟨45, _⟩ => ⟨S8192x64, .bf16⟩
  | .hbm, ⟨46, _⟩ => ⟨S8192x1024, .bf16⟩
  | .hbm, ⟨47, _⟩ => ⟨S8x8192x64, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x256, .f32⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x256, .f32⟩
  | .local _ .vmem, ⟨20, _⟩ => ⟨S512x256, .f32⟩
  | .local _ .vmem, ⟨21, _⟩ => ⟨S512x64, .f32⟩
  | .local _ .vmem, ⟨22, _⟩ => ⟨S512x64, .f32⟩
  | .local _ .vmem, ⟨23, _⟩ => ⟨S512x256, .bf16⟩
  | .local _ .vmem, ⟨24, _⟩ => ⟨S512x256, .bf16⟩
  | .local _ .vmem, ⟨25, _⟩ => ⟨S512x64, .bf16⟩
  | .local _ .vmem, ⟨26, _⟩ => ⟨S512x64, .bf16⟩
  | .local _ .vmem, ⟨27, _⟩ => ⟨S512x1024, .bf16⟩
  | .local _ .vmem, ⟨28, _⟩ => ⟨S512x1024, .bf16⟩
  | .local _ .vmem, ⟨29, _⟩ => ⟨S8x512x64, .bf16⟩
  | .local _ .vmem, ⟨30, _⟩ => ⟨S8x512x64, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36_0 : Ref sig .tc := ⟨.hbm, 42, rfl⟩
abbrev main_v36_1 : Ref sig .tc := ⟨.hbm, 43, rfl⟩
abbrev main_v36_2 : Ref sig .tc := ⟨.hbm, 44, rfl⟩
abbrev main_v36_3 : Ref sig .tc := ⟨.hbm, 45, rfl⟩
abbrev main_v36_4 : Ref sig .tc := ⟨.hbm, 46, rfl⟩
abbrev main_v36_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepRefIdeal.lean ====
abbrev S8192x5120 : Shape := ⟨2, ![8192, 5120]⟩
abbrev S512 : Shape := ⟨1, ![512]⟩
abbrev S256 : Shape := ⟨1, ![256]⟩
abbrev S512x8x192 : Shape := ⟨3, ![512, 8, 192]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x512 : Shape := ⟨2, ![8192, 512]⟩
abbrev S1x512 : Shape := ⟨2, ![1, 512]⟩
abbrev S8192x8x192 : Shape := ⟨3, ![8192, 8, 192]⟩
abbrev S8192x8x32 : Shape := ⟨3, ![8192, 8, 32]⟩
abbrev S8192x1x32 : Shape := ⟨3, ![8192, 1, 32]⟩
abbrev S8192x8x64 : Shape := ⟨3, ![8192, 8, 64]⟩
abbrev S8192x256 : Shape := ⟨2, ![8192, 256]⟩
abbrev S1x256 : Shape := ⟨2, ![1, 256]⟩
abbrev S8192x64 : Shape := ⟨2, ![8192, 64]⟩
abbrev S8192x8x128 : Shape := ⟨3, ![8192, 8, 128]⟩
abbrev S8192x1024 : Shape := ⟨2, ![8192, 1024]⟩
abbrev S8x8192x64 : Shape := ⟨3, ![8, 8192, 64]⟩

abbrev nBuf : Space → Nat
  | .hbm => 89
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S512, .f32⟩
  | .hbm, ⟨2, _⟩ => ⟨S256, .f32⟩
  | .hbm, ⟨3, _⟩ => ⟨S512x8x192, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .i32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x8x192, .f32⟩
  | .hbm, ⟨39, _⟩ => ⟨S8192x8x32, .f32⟩
  | .hbm, ⟨40, _⟩ => ⟨S8192x8x32, .f32⟩
  | .hbm, ⟨41, _⟩ => ⟨S8192x1x32, .f32⟩
  | .hbm, ⟨42, _⟩ => ⟨S8192x1x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x32, .f32⟩
  | .hbm, ⟨48, _⟩ => ⟨S8192x8x32, .f32⟩
  | .hbm, ⟨49, _⟩ => ⟨S8192x8x32, .f32⟩
  | .hbm, ⟨50, _⟩ => ⟨S8192x8x32, .f32⟩
  | .hbm, ⟨51, _⟩ => ⟨S8192x8x32, .f32⟩
  | .hbm, ⟨52, _⟩ => ⟨S8192x8x32, .f32⟩
  | .hbm, ⟨53, _⟩ => ⟨S8192x8x64, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x256, .f32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S8192x32, .f32⟩
  | .hbm, ⟨72, _⟩ => ⟨S8192x32, .f32⟩
  | .hbm, ⟨73, _⟩ => ⟨S8192x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x32, .f32⟩
  | .hbm, ⟨80, _⟩ => ⟨S8192x32, .f32⟩
  | .hbm, ⟨81, _⟩ => ⟨S8192x64, .f32⟩
  | .hbm, ⟨82, _⟩ => ⟨S8192x256, .bf16⟩
  | .hbm, ⟨83, _⟩ => ⟨S8192x64, .bf16⟩
  | .hbm, ⟨84, _⟩ => ⟨S8192x8x128, .f32⟩
  | .hbm, ⟨85, _⟩ => ⟨S8192x1024, .f32⟩
  | .hbm, ⟨86, _⟩ => ⟨S8192x1024, .bf16⟩
  | .hbm, ⟨87, _⟩ => ⟨S8x8192x64, .f32⟩
  | .hbm, ⟨88, _⟩ => ⟨S8x8192x64, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩

abbrev nD : Nat := 1
abbrev τ : Topo := Topo.v7x

variable {F : FTy → Type} [FloatOps F]
-- ==== Conv.lean ====
abbrev S128x5120 : Shape := ⟨2, ![128, 5120]⟩
abbrev S128x3x3072 : Shape := ⟨3, ![128, 3, 3072]⟩
abbrev S4x3072 : Shape := ⟨2, ![4, 3072]⟩
abbrev S8 : Shape := ⟨1, ![8]⟩
abbrev S128x9216 : Shape := ⟨2, ![128, 9216]⟩
abbrev S_ : Shape := ⟨0, ![]⟩
abbrev S1x128 : Shape := ⟨2, ![1, 128]⟩
abbrev S1 : Shape := ⟨1, ![1]⟩
abbrev S2 : Shape := ⟨1, ![2]⟩
abbrev S128x1024 : Shape := ⟨2, ![128, 1024]⟩
abbrev S128x128 : Shape := ⟨2, ![128, 128]⟩
abbrev S1x1024 : Shape := ⟨2, ![1, 1024]⟩
abbrev S128 : Shape := ⟨1, ![128]⟩
abbrev S128x1 : Shape := ⟨2, ![128, 1]⟩

abbrev nBuf : Space → Nat
  | .hbm => 27
  | .vmem => 13
  | .smem => 0
  | _ => 0

abbrev bufTy : (tb : Table) → Fin (tcTables nBuf tb) → BufTy
  | .hbm, ⟨0, _⟩ => ⟨S128x5120, .f32⟩
  | .hbm, ⟨1, _⟩ => ⟨S128x3x3072, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128x9216, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x128, .f32⟩
  | .hbm, ⟨26, _⟩ => ⟨S128x9216, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x128, .f32⟩
  | .local _ .vmem, ⟨4, _⟩ => ⟨S128x9216, .f32⟩
  | .local _ .vmem, ⟨5, _⟩ => ⟨S4x3072, .f32⟩
  | .local _ .vmem, ⟨6, _⟩ => ⟨S1x128, .f32⟩
  | .local _ .vmem, ⟨7, _⟩ => ⟨S1x128, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x128, .f32⟩
  | .local _ .vmem, ⟨12, _⟩ => ⟨S128x9216, .f32⟩
  | _, _ => ⟨S128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c39_i32 : BitVec 32 := 39#32
  let c0_i32_0 : BitVec 32 := 0#32
  ![c0_i32.toNat, c39_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x9216 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S128x5120 : Shape := ⟨2, ![128, 5120]⟩
abbrev S128x3x3072 : Shape := ⟨3, ![128, 3, 3072]⟩
abbrev S4x3072 : Shape := ⟨2, ![4, 3072]⟩
abbrev S8 : Shape := ⟨1, ![8]⟩
abbrev S128x3072 : Shape := ⟨2, ![128, 3072]⟩
abbrev S128x1x3072 : Shape := ⟨3, ![128, 1, 3072]⟩
abbrev S128x4x3072 : Shape := ⟨3, ![128, 4, 3072]⟩
abbrev S1x3072 : Shape := ⟨2, ![1, 3072]⟩
abbrev S3072 : Shape := ⟨1, ![3072]⟩
abbrev S_ : Shape := ⟨0, ![]⟩
abbrev S128x3x8x128 : Shape := ⟨4, ![128, 3, 8, 128]⟩
abbrev S128x1x8x128 : Shape := ⟨4, ![128, 1, 8, 128]⟩
abbrev S128x8x128 : Shape := ⟨3, ![128, 8, 128]⟩
abbrev S128x8 : Shape := ⟨2, ![128, 8]⟩
abbrev S128x8x1 : Shape := ⟨3, ![128, 8, 1]⟩
abbrev S120 : Shape := ⟨1, ![120]⟩
abbrev S128x120 : Shape := ⟨2, ![128, 120]⟩
abbrev S1x120 : Shape := ⟨2, ![1, 120]⟩
abbrev S128x1024 : Shape := ⟨2, ![128, 1024]⟩
abbrev S128x128 : Shape := ⟨2, ![128, 128]⟩
abbrev S128x9216 : Shape := ⟨2, ![128, 9216]⟩

abbrev nBuf : Space → Nat
  | .hbm => 125
  | .vmem => 0
  | .smem => 0
  | _ => 0

abbrev bufTy : (tb : Table) → Fin (tcTables nBuf tb) → BufTy
  | .hbm, ⟨0, _⟩ => ⟨S128x5120, .f32⟩
  | .hbm, ⟨1, _⟩ => ⟨S128x3x3072, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128x3072, .f32⟩
  | .hbm, ⟨6, _⟩ => ⟨S128x1x3072, .f32⟩
  | .hbm, ⟨7, _⟩ => ⟨S128x4x3072, .f32⟩
  | .hbm, ⟨8, _⟩ => ⟨S128x1x3072, .f32⟩
  | .hbm, ⟨9, _⟩ => ⟨S128x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S128x3072, .f32⟩
  | .hbm, ⟨14, _⟩ => ⟨S128x3072, .f32⟩
  | .hbm, ⟨15, _⟩ => ⟨S_, .f32⟩
  | .hbm, ⟨16, _⟩ => ⟨S128x3072, .f32⟩
  | .hbm, ⟨17, _⟩ => ⟨S128x3072, .f32⟩
  | .hbm, ⟨18, _⟩ => ⟨S128x1x3072, .f32⟩
  | .hbm, ⟨19, _⟩ => ⟨S128x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S128x3072, .f32⟩
  | .hbm, ⟨24, _⟩ => ⟨S128x3072, .f32⟩
  | .hbm, ⟨25, _⟩ => ⟨S128x3072, .f32⟩
  | .hbm, ⟨26, _⟩ => ⟨S128x1x3072, .f32⟩
  | .hbm, ⟨27, _⟩ => ⟨S128x3072, .f32⟩
  | .hbm, ⟨28, _⟩ => ⟨S1x3072, .f32⟩
  | .hbm, ⟨29, _⟩ => ⟨S3072, .f32⟩
  | .hbm, ⟨30, _⟩ => ⟨S1x3072, .f32⟩
  | .hbm, ⟨31, _⟩ => ⟨S128x3072, .f32⟩
  | .hbm, ⟨32, _⟩ => ⟨S128x3072, .f32⟩
  | .hbm, ⟨33, _⟩ => ⟨S128x3072, .f32⟩
  | .hbm, ⟨34, _⟩ => ⟨S128x1x3072, .f32⟩
  | .hbm, ⟨35, _⟩ => ⟨S128x3072, .f32⟩
  | .hbm, ⟨36, _⟩ => ⟨S1x3072, .f32⟩
  | .hbm, ⟨37, _⟩ => ⟨S3072, .f32⟩
  | .hbm, ⟨38, _⟩ => ⟨S1x3072, .f32⟩
  | .hbm, ⟨39, _⟩ => ⟨S128x3072, .f32⟩
  | .hbm, ⟨40, _⟩ => ⟨S128x3072, .f32⟩
  | .hbm, ⟨41, _⟩ => ⟨S128x3072, .f32⟩
  | .hbm, ⟨42, _⟩ => ⟨S128x3072, .f32⟩
  | .hbm, ⟨43, _⟩ => ⟨S128x3072, .f32⟩
  | .hbm, ⟨44, _⟩ => ⟨S_, .f32⟩
  | .hbm, ⟨45, _⟩ => ⟨S128x3072, .f32⟩
  | .hbm, ⟨46, _⟩ => ⟨S128x3072, .f32⟩
  | .hbm, ⟨47, _⟩ => ⟨S_, .f32⟩
  | .hbm, ⟨48, _⟩ => ⟨S128x3072, .f32⟩
  | .hbm, ⟨49, _⟩ => ⟨S128x3072, .f32⟩
  | .hbm, ⟨50, _⟩ => ⟨S128x3072, .f32⟩
  | .hbm, ⟨51, _⟩ => ⟨S128x3x8x128, .f32⟩
  | .hbm, ⟨52, _⟩ => ⟨S128x1x8x128, .f32⟩
  | .hbm, ⟨53, _⟩ => ⟨S128x8x128, .f32⟩
  | .hbm, ⟨54, _⟩ => ⟨S128x8x128, .f32⟩
  | .hbm, ⟨55, _⟩ => ⟨S_, .f32⟩
  | .hbm, ⟨56, _⟩ => ⟨S128x8, .f32⟩
  | .hbm, ⟨57, _⟩ => ⟨S128x8x1, .f32⟩
  | .hbm, ⟨58, _⟩ => ⟨S_, .f32⟩
  | .hbm, ⟨59, _⟩ => ⟨S128x8x1, .f32⟩
  | .hbm, ⟨60, _⟩ => ⟨S128x8x1, .f32⟩
  | .hbm, ⟨61, _⟩ => ⟨S128x8x1, .f32⟩
  | .hbm, ⟨62, _⟩ => ⟨S128x8x128, .f32⟩
  | .hbm, ⟨63, _⟩ => ⟨S128x8x128, .f32⟩
  | .hbm, ⟨64, _⟩ => ⟨S_, .f32⟩
  | .hbm, ⟨65, _⟩ => ⟨S128x8x128, .f32⟩
  | .hbm, ⟨66, _⟩ => ⟨S128x8x128, .f32⟩
  | .hbm, ⟨67, _⟩ => ⟨S128x1x8x128, .f32⟩
  | .hbm, ⟨68, _⟩ => ⟨S128x8x128, .f32⟩
  | .hbm, ⟨69, _⟩ => ⟨S128x8x128, .f32⟩
  | .hbm, ⟨70, _⟩ => ⟨S_, .f32⟩
  | .hbm, ⟨71, _⟩ => ⟨S128x8, .f32⟩
  | .hbm, ⟨72, _⟩ => ⟨S128x8x1, .f32⟩
  | .hbm, ⟨73, _⟩ => ⟨S_, .f32⟩
  | .hbm, ⟨74, _⟩ => ⟨S128x8x1, .f32⟩
  | .hbm, ⟨75, _⟩ => ⟨S128x8x1, .f32⟩
  | .hbm, ⟨76, _⟩ => ⟨S128x8x1, .f32⟩
  | .hbm, ⟨77, _⟩ => ⟨S128x8x128, .f32⟩
  | .hbm, ⟨78, _⟩ => ⟨S128x8x128, .f32⟩
  | .hbm, ⟨79, _⟩ => ⟨S128x8, .f32⟩
  | .hbm, ⟨80, _⟩ => ⟨S128x8, .f32⟩
  | .hbm, ⟨81, _⟩ => ⟨S128x8, .f32⟩
  | .hbm, ⟨82, _⟩ => ⟨S_, .f32⟩
  | .hbm, ⟨83, _⟩ => ⟨S128x8, .f32⟩
  | .hbm, ⟨84, _⟩ => ⟨S128x8, .f32⟩
  | .hbm, ⟨85, _⟩ => ⟨S_, .f32⟩
  | .hbm, ⟨86, _⟩ => ⟨S128x8, .f32⟩
  | .hbm, ⟨87, _⟩ => ⟨S128x8, .f32⟩
  | .hbm, ⟨88, _⟩ => ⟨S_, .i32⟩
  | .hbm, ⟨89, _⟩ => ⟨S_, .f32⟩
  | .hbm, ⟨90, _⟩ => ⟨S120, .f32⟩
  | .hbm, ⟨91, _⟩ => ⟨S_, .i32⟩
  | .hbm, ⟨92, _⟩ => ⟨S_, .f32⟩
  | .hbm, ⟨93, _⟩ => ⟨S120, .f32⟩
  | .hbm, ⟨94, _⟩ => ⟨S120, .f32⟩
  | .hbm, ⟨95, _⟩ => ⟨S120, .f32⟩
  | .hbm, ⟨96, _⟩ => ⟨S128x120, .f32⟩
  | .hbm, ⟨97, _⟩ => ⟨S1x120, .f32⟩
  | .hbm, ⟨98, _⟩ => ⟨S128x120, .f32⟩
  | .hbm, ⟨99, _⟩ => ⟨S128x120, .f32⟩
  | .hbm, ⟨100, _⟩ => ⟨S_, .f32⟩
  | .hbm, ⟨101, _⟩ => ⟨S128x120, .f32⟩
  | .hbm, ⟨102, _⟩ => ⟨S128x120, .f32⟩
  | .hbm, ⟨103, _⟩ => ⟨S128x120, .f32⟩
  | .hbm, ⟨104, _⟩ => ⟨S128x120, .f32⟩
  | .hbm, ⟨105, _⟩ => ⟨S128x120, .i1⟩
  | .hbm, ⟨106, _⟩ => ⟨S128x120, .f32⟩
  | .hbm, ⟨107, _⟩ => ⟨S128x120, .f32⟩
  | .hbm, ⟨108, _⟩ => ⟨S128x120, .f32⟩
  | .hbm, ⟨109, _⟩ => ⟨S128x120, .f32⟩
  | .hbm, ⟨110, _⟩ => ⟨S128x120, .f32⟩
  | .hbm, ⟨111, _⟩ => ⟨S128x120, .f32⟩
  | .hbm, ⟨112, _⟩ => ⟨S128x120, .f32⟩
  | .hbm, ⟨113, _⟩ => ⟨S128x120, .f32⟩
  | .hbm, ⟨114, _⟩ => ⟨S1x120, .f32⟩
  | .hbm, ⟨115, _⟩ => ⟨S128x120, .f32⟩
  | .hbm, ⟨116, _⟩ => ⟨S128x120, .f32⟩
  | .hbm, ⟨117, _⟩ => ⟨S128x1024, .f32⟩
  | .hbm, ⟨118, _⟩ => ⟨S128x1024, .f32⟩
  | .hbm, ⟨119, _⟩ => ⟨S128x1x8x128, .f32⟩
  | .hbm, ⟨120, _⟩ => ⟨S128x8x128, .f32⟩
  | .hbm, ⟨121, _⟩ => ⟨S128x1024, .f32⟩
  | .hbm, ⟨122, _⟩ => ⟨S128x128, .f32⟩
  | .hbm, ⟨123, _⟩ => ⟨S128x3x3072, .f32⟩
  | .hbm, ⟨124, _⟩ => ⟨S128x9216, .f32⟩
  | _, _ => ⟨S128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_0 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_2 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_3 : Ref sig .tc := ⟨.hbm, 70, rfl⟩
abbrev main_v53 : Ref sig .tc := ⟨.hbm, 71, rfl⟩
abbrev main_v54 : Ref sig .tc := ⟨.hbm, 72, rfl⟩
abbrev main_cst_4 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_5 : Ref sig .tc := ⟨.hbm, 82, rfl⟩
abbrev main_v63 : Ref sig .tc := ⟨.hbm, 83, rfl⟩
abbrev main_v64 : Ref sig .tc := ⟨.hbm, 84, rfl⟩
abbrev main_cst_6 : Ref sig .tc := ⟨.hbm, 85, rfl⟩
abbrev main_v65 : Ref sig .tc := ⟨.hbm, 86, rfl⟩
abbrev main_v66 : Ref sig .tc := ⟨.hbm, 87, rfl⟩
abbrev main_c : Ref sig .tc := ⟨.hbm, 88, rfl⟩
abbrev main_call1_v0 : Ref sig .tc := ⟨.hbm, 89, rfl⟩
abbrev main_v67 : Ref sig .tc := ⟨.hbm, 90, rfl⟩
abbrev main_c_7 : Ref sig .tc := ⟨.hbm, 91, rfl⟩
abbrev main_call2_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call3_cst : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩

abbrev nD : Nat := 1
abbrev τ : Topo := Topo.v7x

variable {F : FTy → Type} [FloatOps F]
-- ==== Rows.lean ====
abbrev S128x5120 : Shape := ⟨2, ![128, 5120]⟩
abbrev S512 : Shape := ⟨1, ![512]⟩
abbrev S256 : Shape := ⟨1, ![256]⟩
abbrev S512x8x192 : Shape := ⟨3, ![512, 8, 192]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S128x512 : Shape := ⟨2, ![128, 512]⟩
abbrev S128x64 : Shape := ⟨2, ![128, 64]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S512x8x2x32 : Shape := ⟨4, ![512, 8, 2, 32]⟩
abbrev S1x256 : Shape := ⟨2, ![1, 256]⟩
abbrev S128x256 : Shape := ⟨2, ![128, 256]⟩
abbrev S128x1024 : Shape := ⟨2, ![128, 1024]⟩
abbrev S8x128x64 : Shape := ⟨3, ![8, 128, 64]⟩
abbrev S128x128 : Shape := ⟨2, ![128, 128]⟩
abbrev S128 : Shape := ⟨1, ![128]⟩
abbrev S128x1 : Shape := ⟨2, ![128, 1]⟩
abbrev S1x128x64 : Shape := ⟨3, ![1, 128, 64]⟩

abbrev nBuf : Space → Nat
  | .hbm => 54
  | .vmem => 18
  | .smem => 0
  | _ => 0

abbrev bufTy : (tb : Table) → Fin (tcTables nBuf tb) → BufTy
  | .hbm, ⟨0, _⟩ => ⟨S128x5120, .f32⟩
  | .hbm, ⟨1, _⟩ => ⟨S512, .f32⟩
  | .hbm, ⟨2, _⟩ => ⟨S256, .f32⟩
  | .hbm, ⟨3, _⟩ => ⟨S512x8x192, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S1, .f32⟩
  | .hbm, ⟨17, _⟩ => ⟨S1x1, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x64, .f32⟩
  | .hbm, ⟨24, _⟩ => ⟨S1x32, .f32⟩
  | .hbm, ⟨25, _⟩ => ⟨S1x64, .f32⟩
  | .hbm, ⟨26, _⟩ => ⟨S1x1x1x64, .f32⟩
  | .hbm, ⟨27, _⟩ => ⟨S1x1x8x64, .f32⟩
  | .hbm, ⟨28, _⟩ => ⟨S1x512, .f32⟩
  | .hbm, ⟨29, _⟩ => ⟨S1x1x1x64, .f32⟩
  | .hbm, ⟨30, _⟩ => ⟨S1x1x8x64, .f32⟩
  | .hbm, ⟨31, _⟩ => ⟨S1x512, .f32⟩
  | .hbm, ⟨32, _⟩ => ⟨S128x512, .f32⟩
  | .hbm, ⟨33, _⟩ => ⟨S128x512, .f32⟩
  | .hbm, ⟨34, _⟩ => ⟨S128x64, .f32⟩
  | .hbm, ⟨35, _⟩ => ⟨S128x64, .f32⟩
  | .hbm, ⟨36, _⟩ => ⟨S512x8x128, .f32⟩
  | .hbm, ⟨37, _⟩ => ⟨S512x1024, .f32⟩
  | .hbm, ⟨38, _⟩ => ⟨S512x1024, .bf16⟩
  | .hbm, ⟨39, _⟩ => ⟨S512x8x64, .f32⟩
  | .hbm, ⟨40, _⟩ => ⟨S512x512, .f32⟩
  | .hbm, ⟨41, _⟩ => ⟨S512x512, .bf16⟩
  | .hbm, ⟨42, _⟩ => ⟨S512x8x2x32, .f32⟩
  | .hbm, ⟨43, _⟩ => ⟨S512x8x2x32, .f32⟩
  | .hbm, ⟨44, _⟩ => ⟨S512x512, .f32⟩
  | .hbm, ⟨45, _⟩ => ⟨S512x512, .bf16⟩
  | .hbm, ⟨46, _⟩ => ⟨S1x512, .f32⟩
  | .hbm, ⟨47, _⟩ => ⟨S1x256, .f32⟩
  | .hbm, ⟨48, _⟩ => ⟨S128x256, .f32⟩
  | .hbm, ⟨49, _⟩ => ⟨S128x64, .f32⟩
  | .hbm, ⟨50, _⟩ => ⟨S128x256, .bf16⟩
  | .hbm, ⟨51, _⟩ => ⟨S128x64, .bf16⟩
  | .hbm, ⟨52, _⟩ => ⟨S128x1024, .bf16⟩
  | .hbm, ⟨53, _⟩ => ⟨S8x128x64, .bf16⟩
  | .local _ .vmem, ⟨0, _⟩ => ⟨S128x512, .f32⟩
  | .local _ .vmem, ⟨1, _⟩ => ⟨S128x256, .f32⟩
  | .local _ .vmem, ⟨2, _⟩ => ⟨S128x128, .f32⟩
  | .local _ .vmem, ⟨3, _⟩ => ⟨S1x512, .f32⟩
  | .local _ .vmem, ⟨4, _⟩ => ⟨S1x256, .f32⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S128x512, .f32⟩
  | .local _ .vmem, ⟨9, _⟩ => ⟨S128x512, .f32⟩
  | .local _ .vmem, ⟨10, _⟩ => ⟨S128x64, .f32⟩
  | .local _ .vmem, ⟨11, _⟩ => ⟨S128x64, .f32⟩
  | .local _ .vmem, ⟨12, _⟩ => ⟨S128x256, .f32⟩
  | .local _ .vmem, ⟨13, _⟩ => ⟨S128x64, .f32⟩
  | .local _ .vmem, ⟨14, _⟩ => ⟨S128x256, .bf16⟩
  | .local _ .vmem, ⟨15, _⟩ => ⟨S128x64, .bf16⟩
  | .local _ .vmem, ⟨16, _⟩ => ⟨S128x1024, .bf16⟩
  | .local _ .vmem, ⟨17, _⟩ => ⟨S8x128x64, .bf16⟩
  | _, _ => ⟨S128x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_2 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x128x64 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== RowsRefIdeal.lean ====
abbrev S128x5120 : Shape := ⟨2, ![128, 5120]⟩
abbrev S512 : Shape := ⟨1, ![512]⟩
abbrev S256 : Shape := ⟨1, ![256]⟩
abbrev S512x8x192 : Shape := ⟨3, ![512, 8, 192]⟩
abbrev S32 : Shape := ⟨1, ![32]⟩
abbrev S_ : Shape := ⟨0, ![]⟩
abbrev S1 : Shape := ⟨1, ![1]⟩
abbrev S1x1 : Shape := ⟨2, ![1, 1]⟩
abbrev S1x32 : Shape := ⟨2, ![1, 32]⟩
abbrev S128x32 : Shape := ⟨2, ![128, 32]⟩
abbrev S128x64 : Shape := ⟨2, ![128, 64]⟩
abbrev S128x256 : Shape := ⟨2, ![128, 256]⟩
abbrev S128 : Shape := ⟨1, ![128]⟩
abbrev S128x1 : Shape := ⟨2, ![128, 1]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S128x5120, .f32⟩
  | .hbm, ⟨1, _⟩ => ⟨S512, .f32⟩
  | .hbm, ⟨2, _⟩ => ⟨S256, .f32⟩
  | .hbm, ⟨3, _⟩ => ⟨S512x8x192, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S1, .f32⟩
  | .hbm, ⟨17, _⟩ => ⟨S1x1, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S128x32, .f32⟩
  | .hbm, ⟨32, _⟩ => ⟨S128x32, .f32⟩
  | .hbm, ⟨33, _⟩ => ⟨S128x32, .f32⟩
  | .hbm, ⟨34, _⟩ => ⟨S128x32, .f32⟩
  | .hbm, ⟨35, _⟩ => ⟨S128x32, .f32⟩
  | .hbm, ⟨36, _⟩ => ⟨S128x32, .f32⟩
  | .hbm, ⟨37, _⟩ => ⟨S128x64, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x256, .f32⟩
  | .hbm, ⟨51, _⟩ => ⟨S128x256, .f32⟩
  | .hbm, ⟨52, _⟩ => ⟨S1x256, .f32⟩
  | .hbm, ⟨53, _⟩ => ⟨S128x256, .f32⟩
  | .hbm, ⟨54, _⟩ => ⟨S128x256, .f32⟩
  | _, _ => ⟨S128x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Dense.lean ====
abbrev S8192x2048 : Shape := ⟨2, ![8192, 2048]⟩
abbrev S16384x2048 : Shape := ⟨2, ![16384, 2048]⟩
abbrev S8x128x8192 : Shape := ⟨3, ![8, 128, 8192]⟩
abbrev S2048 : Shape := ⟨1, ![2048]⟩
abbrev S2048x16384 : Shape := ⟨2, ![2048, 16384]⟩
abbrev S1x2048 : Shape := ⟨2, ![1, 2048]⟩
abbrev S512x2048 : Shape := ⟨2, ![512, 2048]⟩
abbrev S2048x512 : Shape := ⟨2, ![2048, 512]⟩
abbrev S8x128x512 : Shape := ⟨3, ![8, 128, 512]⟩
abbrev S512x512 : Shape := ⟨2, ![512, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S16384x2048, .bf16⟩
  | .hbm, ⟨10, _⟩ => ⟨S2048x16384, .f32⟩
  | .hbm, ⟨11, _⟩ => ⟨S2048x16384, .bf16⟩
  | .hbm, ⟨12, _⟩ => ⟨S1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 32], ![false, false]⟩

def k0_off1 (i : grid0.Coords) (c0_i32_7 : BitVec 32) : Fin 3 → Nat :=
  let c0_9 : Index := 0#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v18 : Index := Scalar.indexCast v16
  let c0_10 : Index := 0#32
  ![0, v18.toNat, 0]
def k0_off2 (i : grid0.Coords) (c0_i32_7 : BitVec 32) : Fin 3 → Nat :=
  let c1 : Index := 1#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v35 : Index := Scalar.indexCast v16
  let c0_20 : Index := 0#32
  ![1, v35.toNat, 0]
def k0_off3 (i : grid0.Coords) (c0_i32_7 : BitVec 32) : Fin 3 → Nat :=
  let c2 : Index := 2#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v52 : Index := Scalar.indexCast v16
  let c0_30 : Index := 0#32
  ![2, v52.toNat, 0]
def k0_off4 (i : grid0.Coords) (c0_i32_7 : BitVec 32) : Fin 3 → Nat :=
  let c3 : Index := 3#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v69 : Index := Scalar.indexCast v16
  let c0_40 : Index := 0#32
  ![3, v69.toNat, 0]
def k0_off5 (i : grid0.Coords) (c0_i32_7 : BitVec 32) : Fin 3 → Nat :=
  let c4 : Index := 4#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v86 : Index := Scalar.indexCast v16
  let c0_50 : Index := 0#32
  ![4, v86.toNat, 0]
def k0_off6 (i : grid0.Coords) (c0_i32_7 : BitVec 32) : Fin 3 → Nat :=
  let c5 : Index := 5#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v103 : Index := Scalar.indexCast v16
  let c0_60 : Index := 0#32
  ![5, v103.toNat, 0]
def k0_off7 (i : grid0.Coords) (c0_i32_7 : BitVec 32) : Fin 3 → Nat :=
  let c6 : Index := 6#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v120 : Index := Scalar.indexCast v16
  let c0_70 : Index := 0#32
  ![6, v120.toNat, 0]
def k0_off8 (i : grid0.Coords) (c0_i32_7 : BitVec 32) : Fin 3 → Nat :=
  let c7 : Index := 7#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v137 : Index := Scalar.indexCast v16
  let c0_80 : Index := 0#32
  ![7, v137.toNat, 0]
def k0_cond2 (i : grid0.Coords) : BitVec 1 :=
  let arg1 : BitVec 32 := BitVec.ofNat 32 (i 1).val
  let c31_i32 : BitVec 32 := 31#32
  let v592 : BitVec 1 := Scalar.cmpi .eq arg1 c31_i32
  let v593 : BitVec 32 := Scalar.extui v592
  let c0_i32_367 : BitVec 32 := 0#32
  let v594 : BitVec 1 := Scalar.cmpi .ne v593 c0_i32_367
  v594

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DenseIdeal.lean ====
abbrev S8192x2048 : Shape := ⟨2, ![8192, 2048]⟩
abbrev S16384x2048 : Shape := ⟨2, ![16384, 2048]⟩
abbrev S8x128x8192 : Shape := ⟨3, ![8, 128, 8192]⟩
abbrev S2048 : Shape := ⟨1, ![2048]⟩
abbrev S2048x16384 : Shape := ⟨2, ![2048, 16384]⟩
abbrev S1x2048 : Shape := ⟨2, ![1, 2048]⟩
abbrev S512x2048 : Shape := ⟨2, ![512, 2048]⟩
abbrev S2048x512 : Shape := ⟨2, ![2048, 512]⟩
abbrev S8x128x512 : Shape := ⟨3, ![8, 128, 512]⟩
abbrev S512x512 : Shape := ⟨2, ![512, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S16384x2048, .bf16⟩
  | .hbm, ⟨10, _⟩ => ⟨S2048x16384, .f32⟩
  | .hbm, ⟨11, _⟩ => ⟨S2048x16384, .bf16⟩
  | .hbm, ⟨12, _⟩ => ⟨S1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 32], ![false, false]⟩

def k0_off1 (i : grid0.Coords) (c0_i32_7 : BitVec 32) : Fin 3 → Nat :=
  let c0_9 : Index := 0#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v18 : Index := Scalar.indexCast v16
  let c0_10 : Index := 0#32
  ![0, v18.toNat, 0]
def k0_off2 (i : grid0.Coords) (c0_i32_7 : BitVec 32) : Fin 3 → Nat :=
  let c1 : Index := 1#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v35 : Index := Scalar.indexCast v16
  let c0_20 : Index := 0#32
  ![1, v35.toNat, 0]
def k0_off3 (i : grid0.Coords) (c0_i32_7 : BitVec 32) : Fin 3 → Nat :=
  let c2 : Index := 2#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v52 : Index := Scalar.indexCast v16
  let c0_30 : Index := 0#32
  ![2, v52.toNat, 0]
def k0_off4 (i : grid0.Coords) (c0_i32_7 : BitVec 32) : Fin 3 → Nat :=
  let c3 : Index := 3#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v69 : Index := Scalar.indexCast v16
  let c0_40 : Index := 0#32
  ![3, v69.toNat, 0]
def k0_off5 (i : grid0.Coords) (c0_i32_7 : BitVec 32) : Fin 3 → Nat :=
  let c4 : Index := 4#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v86 : Index := Scalar.indexCast v16
  let c0_50 : Index := 0#32
  ![4, v86.toNat, 0]
def k0_off6 (i : grid0.Coords) (c0_i32_7 : BitVec 32) : Fin 3 → Nat :=
  let c5 : Index := 5#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v103 : Index := Scalar.indexCast v16
  let c0_60 : Index := 0#32
  ![5, v103.toNat, 0]
def k0_off7 (i : grid0.Coords) (c0_i32_7 : BitVec 32) : Fin 3 → Nat :=
  let c6 : Index := 6#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v120 : Index := Scalar.indexCast v16
  let c0_70 : Index := 0#32
  ![6, v120.toNat, 0]
def k0_off8 (i : grid0.Coords) (c0_i32_7 : BitVec 32) : Fin 3 → Nat :=
  let c7 : Index := 7#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v137 : Index := Scalar.indexCast v16
  let c0_80 : Index := 0#32
  ![7, v137.toNat, 0]
def k0_cond2 (i : grid0.Coords) : BitVec 1 :=
  let arg1 : BitVec 32 := BitVec.ofNat 32 (i 1).val
  let c31_i32 : BitVec 32 := 31#32
  let v592 : BitVec 1 := Scalar.cmpi .eq arg1 c31_i32
  let v593 : BitVec 32 := Scalar.extui v592
  let c0_i32_367 : BitVec 32 := 0#32
  let v594 : BitVec 1 := Scalar.cmpi .ne v593 c0_i32_367
  v594

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DenseRefIdeal.lean ====
abbrev S8192x2048 : Shape := ⟨2, ![8192, 2048]⟩
abbrev S16384x2048 : Shape := ⟨2, ![16384, 2048]⟩
abbrev S8x128x8192 : Shape := ⟨3, ![8, 128, 8192]⟩
abbrev S2048 : Shape := ⟨1, ![2048]⟩
abbrev S8x1x128x8192 : Shape := ⟨4, ![8, 1, 128, 8192]⟩
abbrev S8x128x1x8192 : Shape := ⟨4, ![8, 128, 1, 8192]⟩
abbrev S8x128x128x8192 : Shape := ⟨4, ![8, 128, 128, 8192]⟩
abbrev S_ : Shape := ⟨0, ![]⟩
abbrev S128x128x8192 : Shape := ⟨3, ![128, 128, 8192]⟩
abbrev S2048x8192 : Shape := ⟨2, ![2048, 8192]⟩
abbrev S16384x8192 : Shape := ⟨2, ![16384, 8192]⟩
abbrev S8192x16384 : Shape := ⟨2, ![8192, 16384]⟩
abbrev S8192 : Shape := ⟨1, ![8192]⟩
abbrev S8192x1 : Shape := ⟨2, ![8192, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S16384x2048, .f32⟩
  | .hbm, ⟨2, _⟩ => ⟨S16384x2048, .f32⟩
  | .hbm, ⟨3, _⟩ => ⟨S8x128x8192, .f32⟩
  | .hbm, ⟨4, _⟩ => ⟨S8x128x8192, .f32⟩
  | .hbm, ⟨5, _⟩ => ⟨S8x128x8192, .f32⟩
  | .hbm, ⟨6, _⟩ => ⟨S8x128x8192, .f32⟩
  | .hbm, ⟨7, _⟩ => ⟨S8192x2048, .f32⟩
  | .hbm, ⟨8, _⟩ => ⟨S2048, .f32⟩
  | .hbm, ⟨9, _⟩ => ⟨S8x1x128x8192, .f32⟩
  | .hbm, ⟨10, _⟩ => ⟨S8x128x1x8192, .f32⟩
  | .hbm, ⟨11, _⟩ => ⟨S8x128x128x8192, .f32⟩
  | .hbm, ⟨12, _⟩ => ⟨S8x128x128x8192, .f32⟩
  | .hbm, ⟨13, _⟩ => ⟨S8x128x128x8192, .i1⟩
  | .hbm, ⟨14, _⟩ => ⟨S8x1x128x8192, .f32⟩
  | .hbm, ⟨15, _⟩ => ⟨S_, .f32⟩
  | .hbm, ⟨16, _⟩ => ⟨S_, .f32⟩
  | .hbm, ⟨17, _⟩ => ⟨S8x128x128x8192, .f32⟩
  | .hbm, ⟨18, _⟩ => ⟨S8x128x128x8192, .f32⟩
  | .hbm, ⟨19, _⟩ => ⟨S8x128x128x8192, .f32⟩
  | .hbm, ⟨20, _⟩ => ⟨S8x128x1x8192, .f32⟩
  | .hbm, ⟨21, _⟩ => ⟨S8x128x128x8192, .f32⟩
  | .hbm, ⟨22, _⟩ => ⟨S8x128x128x8192, .f32⟩
  | .hbm, ⟨23, _⟩ => ⟨S_, .f32⟩
  | .hbm, ⟨24, _⟩ => ⟨S128x128x8192, .f32⟩
  | .hbm, ⟨25, _⟩ => ⟨S8192x2048, .f32⟩
  | .hbm, ⟨26, _⟩ => ⟨S2048x8192, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S_, .f32⟩
  | .hbm, ⟨36, _⟩ => ⟨S16384x8192, .f32⟩
  | .hbm, ⟨37, _⟩ => ⟨S16384x8192, .f32⟩
  | .hbm, ⟨38, _⟩ => ⟨S16384x8192, .f32⟩
  | .hbm, ⟨39, _⟩ => ⟨S16384x8192, .f32⟩
  | .hbm, ⟨40, _⟩ => ⟨S16384x8192, .f32⟩
  | .hbm, ⟨41, _⟩ => ⟨S16384x8192, .bf16⟩
  | .hbm, ⟨42, _⟩ => ⟨S16384x8192, .f32⟩
  | .hbm, ⟨43, _⟩ => ⟨S8192x16384, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== DenseSample.lean ====
abbrev S128x2048 : Shape := ⟨2, ![128, 2048]⟩
abbrev S16384x2048 : Shape := ⟨2, ![16384, 2048]⟩
abbrev S8x128x128 : Shape := ⟨3, ![8, 128, 128]⟩
abbrev S2048 : Shape := ⟨1, ![2048]⟩
abbrev S2048x16384 : Shape := ⟨2, ![2048, 16384]⟩
abbrev S1x2048 : Shape := ⟨2, ![1, 2048]⟩
abbrev S512x2048 : Shape := ⟨2, ![512, 2048]⟩
abbrev S2048x512 : Shape := ⟨2, ![2048, 512]⟩
abbrev S2048x128 : Shape := ⟨2, ![2048, 128]⟩
abbrev S512x128 : Shape := ⟨2, ![512, 128]⟩
abbrev S128x128 : Shape := ⟨2, ![128, 128]⟩
abbrev S1x1x128 : Shape := ⟨3, ![1, 1, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 14
  | .vmem => 13
  | .smem => 0
  | _ => 0

abbrev bufTy : (tb : Table) → Fin (tcTables nBuf tb) → BufTy
  | .hbm, ⟨0, _⟩ => ⟨S128x2048, .bf16⟩
  | .hbm, ⟨1, _⟩ => ⟨S16384x2048, .f32⟩
  | .hbm, ⟨2, _⟩ => ⟨S16384x2048, .f32⟩
  | .hbm, ⟨3, _⟩ => ⟨S8x128x128, .f32⟩
  | .hbm, ⟨4, _⟩ => ⟨S8x128x128, .f32⟩
  | .hbm, ⟨5, _⟩ => ⟨S8x128x128, .f32⟩
  | .hbm, ⟨6, _⟩ => ⟨S8x128x128, .f32⟩
  | .hbm, ⟨7, _⟩ => ⟨S128x2048, .f32⟩
  | .hbm, ⟨8, _⟩ => ⟨S2048, .f32⟩
  | .hbm, ⟨9, _⟩ => ⟨S16384x2048, .bf16⟩
  | .hbm, ⟨10, _⟩ => ⟨S2048x16384, .f32⟩
  | .hbm, ⟨11, _⟩ => ⟨S2048x16384, .bf16⟩
  | .hbm, ⟨12, _⟩ => ⟨S1x2048, .f32⟩
  | .hbm, ⟨13, _⟩ => ⟨S128x2048, .f32⟩
  | .local _ .vmem, ⟨0, _⟩ => ⟨S128x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S128x2048, .f32⟩
  | .local _ .vmem, ⟨10, _⟩ => ⟨S1x2048, .f32⟩
  | .local _ .vmem, ⟨11, _⟩ => ⟨S128x2048, .f32⟩
  | .local _ .vmem, ⟨12, _⟩ => ⟨S2048x128, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![1, 32], ![false, false]⟩

def k0_off1 (i : grid0.Coords) (c0_i32_7 : BitVec 32) : Fin 3 → Nat :=
  let c0_9 : Index := 0#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v18 : Index := Scalar.indexCast v16
  let c0_10 : Index := 0#32
  ![0, v18.toNat, 0]
def k0_off2 (i : grid0.Coords) (c0_i32_7 : BitVec 32) : Fin 3 → Nat :=
  let c1 : Index := 1#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v35 : Index := Scalar.indexCast v16
  let c0_20 : Index := 0#32
  ![1, v35.toNat, 0]
def k0_off3 (i : grid0.Coords) (c0_i32_7 : BitVec 32) : Fin 3 → Nat :=
  let c2 : Index := 2#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v52 : Index := Scalar.indexCast v16
  let c0_30 : Index := 0#32
  ![2, v52.toNat, 0]
def k0_off4 (i : grid0.Coords) (c0_i32_7 : BitVec 32) : Fin 3 → Nat :=
  let c3 : Index := 3#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v69 : Index := Scalar.indexCast v16
  let c0_40 : Index := 0#32
  ![3, v69.toNat, 0]
def k0_off5 (i : grid0.Coords) (c0_i32_7 : BitVec 32) : Fin 3 → Nat :=
  let c4 : Index := 4#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v86 : Index := Scalar.indexCast v16
  let c0_50 : Index := 0#32
  ![4, v86.toNat, 0]
def k0_off6 (i : grid0.Coords) (c0_i32_7 : BitVec 32) : Fin 3 → Nat :=
  let c5 : Index := 5#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v103 : Index := Scalar.indexCast v16
  let c0_60 : Index := 0#32
  ![5, v103.toNat, 0]
def k0_off7 (i : grid0.Coords) (c0_i32_7 : BitVec 32) : Fin 3 → Nat :=
  let c6 : Index := 6#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v120 : Index := Scalar.indexCast v16
  let c0_70 : Index := 0#32
  ![6, v120.toNat, 0]
def k0_off8 (i : grid0.Coords) (c0_i32_7 : BitVec 32) : Fin 3 → Nat :=
  let c7 : Index := 7#32
  let arg1 : BitVec 32 := BitVec.ofNat 32 (i 1).val
  let c4_i32 : BitVec 32 := 4#32
  let v15 : BitVec 32 := Scalar.muli arg1 c4_i32
  let v16 : BitVec 32 := Scalar.addi v15 c0_i32_7
  let v137 : Index := Scalar.indexCast v16
  let c0_80 : Index := 0#32
  ![7, v137.toNat, 0]
def k0_cond2 (i : grid0.Coords) : BitVec 1 :=
  let arg1 : BitVec 32 := BitVec.ofNat 32 (i 1).val
  let c31_i32 : BitVec 32 := 31#32
  let v592 : BitVec 1 := Scalar.cmpi .eq arg1 c31_i32
  let v593 : BitVec 32 := Scalar.extui v592
  let c0_i32_367 : BitVec 32 := 0#32
  let v594 : BitVec 1 := Scalar.cmpi .ne v593 c0_i32_367
  v594

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== DenseSampleRefIdeal.lean ====
abbrev S128x2048 : Shape := ⟨2, ![128, 2048]⟩
abbrev S16384x2048 : Shape := ⟨2, ![16384, 2048]⟩
abbrev S8x128x128 : Shape := ⟨3, ![8, 128, 128]⟩
abbrev S2048 : Shape := ⟨1, ![2048]⟩
abbrev S8x1x128x128 : Shape := ⟨4, ![8, 1, 128, 128]⟩
abbrev S8x128x1x128 : Shape := ⟨4, ![8, 128, 1, 128]⟩
abbrev S8x128x128x128 : Shape := ⟨4, ![8, 128, 128, 128]⟩
abbrev S_ : Shape := ⟨0, ![]⟩
abbrev S128x128x128 : Shape := ⟨3, ![128, 128, 128]⟩
abbrev S2048x128 : Shape := ⟨2, ![2048, 128]⟩
abbrev S16384x128 : Shape := ⟨2, ![16384, 128]⟩
abbrev S128x16384 : Shape := ⟨2, ![128, 16384]⟩
abbrev S128 : Shape := ⟨1, ![128]⟩
abbrev S128x1 : Shape := ⟨2, ![128, 1]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S16384x2048, .f32⟩
  | .hbm, ⟨2, _⟩ => ⟨S16384x2048, .f32⟩
  | .hbm, ⟨3, _⟩ => ⟨S8x128x128, .f32⟩
  | .hbm, ⟨4, _⟩ => ⟨S8x128x128, .f32⟩
  | .hbm, ⟨5, _⟩ => ⟨S8x128x128, .f32⟩
  | .hbm, ⟨6, _⟩ => ⟨S8x128x128, .f32⟩
  | .hbm, ⟨7, _⟩ => ⟨S128x2048, .f32⟩
  | .hbm, ⟨8, _⟩ => ⟨S2048, .f32⟩
  | .hbm, ⟨9, _⟩ => ⟨S8x1x128x128, .f32⟩
  | .hbm, ⟨10, _⟩ => ⟨S8x128x1x128, .f32⟩
  | .hbm, ⟨11, _⟩ => ⟨S8x128x128x128, .f32⟩
  | .hbm, ⟨12, _⟩ => ⟨S8x128x128x128, .f32⟩
  | .hbm, ⟨13, _⟩ => ⟨S8x128x128x128, .i1⟩
  | .hbm, ⟨14, _⟩ => ⟨S8x1x128x128, .f32⟩
  | .hbm, ⟨15, _⟩ => ⟨S_, .f32⟩
  | .hbm, ⟨16, _⟩ => ⟨S_, .f32⟩
  | .hbm, ⟨17, _⟩ => ⟨S8x128x128x128, .f32⟩
  | .hbm, ⟨18, _⟩ => ⟨S8x128x128x128, .f32⟩
  | .hbm, ⟨19, _⟩ => ⟨S8x128x128x128, .f32⟩
  | .hbm, ⟨20, _⟩ => ⟨S8x128x1x128, .f32⟩
  | .hbm, ⟨21, _⟩ => ⟨S8x128x128x128, .f32⟩
  | .hbm, ⟨22, _⟩ => ⟨S8x128x128x128, .f32⟩
  | .hbm, ⟨23, _⟩ => ⟨S_, .f32⟩
  | .hbm, ⟨24, _⟩ => ⟨S128x128x128, .f32⟩
  | .hbm, ⟨25, _⟩ => ⟨S128x2048, .f32⟩
  | .hbm, ⟨26, _⟩ => ⟨S2048x128, .f32⟩
  | .hbm, ⟨27, _⟩ => ⟨S16384x128, .f32⟩
  | .hbm, ⟨28, _⟩ => ⟨S_, .f32⟩
  | .hbm, ⟨29, _⟩ => ⟨S16384x128, .f32⟩
  | .hbm, ⟨30, _⟩ => ⟨S16384x128, .f32⟩
  | .hbm, ⟨31, _⟩ => ⟨S_, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S_, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .bf16⟩
  | .hbm, ⟨42, _⟩ => ⟨S16384x128, .f32⟩
  | .hbm, ⟨43, _⟩ => ⟨S128x16384, .f32⟩
  | .hbm, ⟨44, _⟩ => ⟨S128x2048, .f32⟩
  | .hbm, ⟨45, _⟩ => ⟨S128x2048, .f32⟩
  | .hbm, ⟨46, _⟩ => ⟨S128x2048, .f32⟩
  | .hbm, ⟨47, _⟩ => ⟨S_, .f32⟩
  | .hbm, ⟨48, _⟩ => ⟨S128, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S128x1, .f32⟩
  | .hbm, ⟨57, _⟩ => ⟨S128x2048, .f32⟩
  | .hbm, ⟨58, _⟩ => ⟨S128x2048, .f32⟩
  | .hbm, ⟨59, _⟩ => ⟨S1x2048, .f32⟩
  | .hbm, ⟨60, _⟩ => ⟨S128x2048, .f32⟩
  | .hbm, ⟨61, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Proof.Offsets.lean ====
/- Accesses of a whole buffer: the all-zero offsets written out, and what a store of the whole leaves. -/
module

public import Idealize.ShloMosaic.Lib.Pipeline.ValueKit
public import Idealize.ShloMosaic.Lib.WritesUnit

@[expose] public section

namespace Cert.Offsets

open Idealize.ShloMosaic

theorem zz : (![0, 0] : Fin 2 → ℕ) = fun _ => 0 := by funext a; fin_cases a <;> rfl

theorem zzz : (![0, 0, 0] : Fin 3 → ℕ) = fun _ => 0 := by funext a; fin_cases a <;> rfl

/-- A store through the whole of a memref, the last of a list of stores, is what the memref then reads. -/
theorem read_whole_store {sig : RefSig} {sp : Space} {s : Shape} {e : EltTy} (v : View sig .tc sp s e) (f : v.ty.Contents (Elt Ideal))
    {off : Fin s.rank → ℕ} (h0 : off = fun _ => 0) (inb : ∀ a, off a + s.size a ≤ s.size a) (w : s.Idx → Elt Ideal e)
    (L : List (View.Piece (Elt Ideal) s e)) :
    v.read (Elt Ideal) (v.writes (Elt Ideal) f ((⟨Rect.unit off s.size inb, w⟩ : View.Piece (Elt Ideal) s e) :: L)) = w := by
  funext y
  exact View.read_writes_cons_unit_of_mem v f inb w L y y h0 fun a => by simp

end Cert.Offsets

end
-- ==== Proof.Trip.lean ====
/- What one trip of the kernel's loop over the unmasked key blocks leaves in the three scratch buffers, and what the block
   of keys it reads is: rows 512·k to 512·k + 511 of the latent rows and of the rotary keys. -/
module

public import proofs.«01_k».proof.Proof.Gen.KernelIdeal.Value
public import proofs.«01_k».proof.Proof.Offsets
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI Idealize.SL.Sem
open Cert.Offsets

/-- The number of trips of the loop over the unmasked blocks is the block row. -/
theorem trips1 (i : grid0.Coords) : Scf.trips (k0_t1_loop i).lb (k0_t1_loop i).ub (k0_t1_loop i).st = (i 0).val := by
  have h : ∀ n : Fin 16, Scf.trips 0#32 (Scalar.addi 0#32 (Scalar.muli (Scalar.divsi (Scalar.subi (Scalar.muli (BitVec.ofNat 32 n.val) 1#32) 0#32) 1#32) 1#32)) 1#32 = n.val := by decide +kernel
  exact h (i 0)

/-- The remainder loop runs no trip. -/
theorem trips2 (i : grid0.Coords) : Scf.trips (k0_t2_loop i).lb (k0_t2_loop i).ub (k0_t2_loop i).st = 0 :=
  Nat.le_zero.1 (k0_t2_abs i).2.1

/-- The 512 latent rows read by trip `k`. -/
abbrev kblk (i : grid0.Coords) (x2 : Vec Ideal S8192x256 .bf16) (k : Fin (k0_t1_loop i).trips) : Vec Ideal S512x256 .bf16 :=
  View.ld x2 (Rect.unit (s := S8192x256) (k0_off1 i k) S512x256.size (k0_off1_inb i k))

/-- The 512 rotary keys read by trip `k`. -/
abbrev pblk (i : grid0.Coords) (x3 : Vec Ideal S8192x64 .bf16) (k : Fin (k0_t1_loop i).trips) : Vec Ideal S512x64 .bf16 :=
  View.ld x3 (Rect.unit (s := S8192x64) (k0_off2 i k) S512x64.size (k0_off2_inb i k))

section
variable (c : Dev nD) (i : grid0.Coords) (arg2 : Memref sig .tc .vmem S512x256 .bf16) (harg2 : arg2.IsWhole) (arg3 : Memref sig .tc .vmem S1x512x64 .bf16) (harg3 : arg3.IsWhole) (arg4 : Memref sig .tc .vmem S8192x256 .bf16) (harg4 : arg4.IsWhole) (arg5 : Memref sig .tc .vmem S8192x64 .bf16) (harg5 : arg5.IsWhole) (arg6 : Memref sig .tc .vmem S512x256 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)

/-- The stores of trip `k`: one through the whole of each scratch buffer. -/
theorem trip_pieces (v0 : Vec Ideal S512x256 .bf16) (v1 : Vec Ideal S1x512x64 .bf16) (x2 : Vec Ideal S8192x256 .bf16) (x3 : Vec Ideal S8192x64 .bf16) (k : Fin (k0_t1_loop i).trips) (f7 : BufTy.Contents (Elt Ideal) arg7.view.ty) (f8 : BufTy.Contents (Elt Ideal) arg8.view.ty) (f9 : BufTy.Contents (Elt Ideal) arg9.view.ty) :
    tripL_k0_t1 (F := Ideal) Variants.none c none i arg2 harg2 arg3 harg3 arg4 harg4 arg5 harg5 arg6 harg6 arg7 harg7 arg8 harg8 arg9 harg9 v0 v1 (harg4.unread x2) (harg5.unread x3) k f7 f8 f9
      = ([⟨Rect.unit ![0, 0] S512x1.size inb_S512x1_S512x1_0_0, k0_pay19 (k0_pay4 v0 (k0_pay15 v1) (kblk i x2 k) (pblk i x3 k) (arg7.view.read (Elt Ideal) f7))⟩],
         [⟨Rect.unit ![0, 0] S512x1.size inb_S512x1_S512x1_0_0, k0_pay7 v0 (k0_pay15 v1) (kblk i x2 k) (pblk i x3 k) (arg7.view.read (Elt Ideal) f7) (arg8.view.read (Elt Ideal) f8)⟩],
         [⟨Rect.unit ![0, 0] S512x256.size inb_S512x256_S512x256_0_0, k0_pay8 v0 (k0_pay15 v1) (kblk i x2 k) (pblk i x3 k) (arg7.view.read (Elt Ideal) f7) (arg9.view.read (Elt Ideal) f9)⟩]) := by
  unfold tripL_k0_t1 trip_k0_t1
  dsimp only
  sl_unfold_words
  simp only [View.readAt_eq_ld, harg4.read_unread, harg5.read_unread]
  rw [View.ld_unit_zero zz, View.ld_unit_zero zz, View.ld_unit_zero zz]
  rfl
end

end Cert.Attn

end
-- ==== Proof.Softmax.lean ====
/- The running softmax over the extended reals: keys are taken block by block, and after each block three numbers
   stand for the keys met so far, the largest score, the sum of the exponentials of the scores less the largest, and the
   same sum weighted by the keys' values. This module proves how the three move when a block is added, that keys with the
   score -∞ change nothing, and that dividing the weighted sum by the plain one is the softmax average. -/
module

public import Idealize.ShloMosaic.PureOps.Ideal
public import Mathlib.Data.EReal.Operations
public import Mathlib.Algebra.BigOperators.Intervals

@[expose] public section

noncomputable section

namespace Cert.Softmax

open Idealize.ShloMosaic Finset

/-- The weight of a key: the exponential of its score less a reference score. -/
def wt (s m : EReal) : EReal := Ideal.exp (s - m)

/-- A key whose score is -∞ has weight 0. -/
theorem wt_bot (m : EReal) : wt ⊥ m = 0 := by
  simp [wt, sub_eq_add_neg, EReal.bot_add]

/-- Relative to +∞ every weight is 0. -/
theorem wt_top (s : EReal) : wt s ⊤ = 0 := by
  simp [wt, sub_eq_add_neg, EReal.neg_top, EReal.add_bot]

/-- The weight of a score that is at most the reference score is a real number that is not negative. -/
theorem wt_real {s m : EReal} (h : s ≤ m) : ∃ r : ℝ, 0 ≤ r ∧ wt s m = (r : EReal) := by
  induction m with
  | bot => exact ⟨0, le_rfl, by rw [le_bot_iff.1 h, wt_bot]; rfl⟩
  | top => exact ⟨0, le_rfl, by rw [wt_top]; rfl⟩
  | coe m =>
    induction s with
    | bot => exact ⟨0, le_rfl, by rw [wt_bot]; rfl⟩
    | top => exact absurd h (by simp)
    | coe s => exact ⟨Real.exp (s - m), (Real.exp_pos _).le, by rw [wt, ← EReal.coe_sub, Ideal.exp_coe]⟩

/-- Weights against two reference scores: moving the reference up from `m` to `m'` multiplies the weight by that of `m`. -/
theorem wt_mul {s m m' : EReal} (h : s ≤ m) (h' : m ≤ m') : wt m m' * wt s m = wt s m' := by
  induction m' with
  | bot => rw [le_bot_iff.1 h'] at h; rw [le_bot_iff.1 h', le_bot_iff.1 h]; simp [wt_bot]
  | top => simp [wt_top]
  | coe m' =>
    induction m with
    | bot => rw [le_bot_iff.1 h]; simp [wt_bot]
    | top => exact absurd h' (by simp)
    | coe m =>
      induction s with
      | bot => simp [wt_bot]
      | top => exact absurd h (by simp)
      | coe s =>
        simp only [wt, ← EReal.coe_sub, Ideal.exp_coe, ← EReal.coe_mul, ← Real.exp_add]
        congr 2; ring

/-- A real factor that is not negative goes into a finite sum of extended reals. -/
theorem mul_sum_of_nonneg {ι : Type} {r : ℝ} (hr : 0 ≤ r) (J : Finset ι) (f : ι → EReal) :
    (r : EReal) * ∑ j ∈ J, f j = ∑ j ∈ J, (r : EReal) * f j := by
  classical
  induction J using Finset.induction_on with
  | empty => simp
  | insert a J ha ih =>
    rw [sum_insert ha, sum_insert ha, ← ih]
    exact EReal.left_distrib_of_nonneg_of_ne_top (EReal.coe_nonneg.2 hr) (EReal.coe_ne_top r) _ _

/-- The largest score of the first `n` keys, -∞ when there is none. -/
def top (s : ℕ → EReal) (n : ℕ) : EReal := (range n).sup s

/-- The sum of the weights of the first `n` keys against the largest score. -/
def den (s : ℕ → EReal) (n : ℕ) : EReal := ∑ j ∈ range n, wt (s j) (top s n)

/-- The sum of the values of the first `n` keys, each times its weight against the largest score. -/
def num (s v : ℕ → EReal) (n : ℕ) : EReal := ∑ j ∈ range n, wt (s j) (top s n) * v j

theorem le_top (s : ℕ → EReal) {n j : ℕ} (h : j < n) : s j ≤ top s n := le_sup (f := s) (mem_range.2 h)

/-- The largest score after a further block of `b` keys. -/
theorem top_add (s : ℕ → EReal) (n b : ℕ) : top s (n + b) = max (top s n) ((range b).sup fun x => s (n + x)) := by
  apply le_antisymm
  · refine Finset.sup_le fun j hj => ?_
    by_cases h : j < n
    · exact le_max_of_le_left (le_top s h)
    · refine le_max_of_le_right ?_
      have e : s j = (fun x => s (n + x)) (j - n) := by show s j = s (n + (j - n)); congr 1; omega
      rw [e]; exact le_sup (f := fun x => s (n + x)) (mem_range.2 (by have := mem_range.1 hj; omega))
  · refine max_le (Finset.sup_le fun j hj => le_top s (by have := mem_range.1 hj; omega))
      (Finset.sup_le fun j hj => le_top s (by have := mem_range.1 hj; omega))

theorem top_mono (s : ℕ → EReal) (n b : ℕ) : top s n ≤ top s (n + b) := by rw [top_add]; exact le_max_left _ _

/-- The sum of the weights after a further block. -/
theorem den_add (s : ℕ → EReal) (n b : ℕ) :
    den s (n + b) = wt (top s n) (top s (n + b)) * den s n + ∑ x ∈ range b, wt (s (n + x)) (top s (n + b)) := by
  obtain ⟨r, hr, e⟩ := wt_real (top_mono s n b)
  unfold den
  rw [sum_range_add, e, mul_sum_of_nonneg hr, ← e]
  congr 1
  exact sum_congr rfl fun j hj => (wt_mul (le_top s (mem_range.1 hj)) (top_mono s n b)).symm

/-- The weighted sum after a further block. -/
theorem num_add (s v : ℕ → EReal) (n b : ℕ) :
    num s v (n + b)
      = wt (top s n) (top s (n + b)) * num s v n + ∑ x ∈ range b, wt (s (n + x)) (top s (n + b)) * v (n + x) := by
  obtain ⟨r, hr, e⟩ := wt_real (top_mono s n b)
  unfold num
  rw [sum_range_add, e, mul_sum_of_nonneg hr, ← e]
  congr 1
  exact sum_congr rfl fun j hj => by rw [← mul_assoc, wt_mul (le_top s (mem_range.1 hj)) (top_mono s n b)]

theorem top_zero (s : ℕ → EReal) : top s 0 = ⊥ := rfl
theorem den_zero (s : ℕ → EReal) : den s 0 = 0 := rfl
theorem num_zero (s v : ℕ → EReal) : num s v 0 = 0 := rfl

/-- Keys of score -∞ beyond the first `n` leave the largest score. -/
theorem top_ext (s : ℕ → EReal) {n N : ℕ} (h : n ≤ N) (hs : ∀ j, n ≤ j → s j = ⊥) : top s N = top s n := by
  obtain ⟨b, rfl⟩ := Nat.exists_eq_add_of_le h
  rw [top_add]
  refine max_eq_left (Finset.sup_le fun j _ => ?_)
  rw [hs (n + j) (by omega)]; exact bot_le

/-- Keys of score -∞ beyond the first `n` leave the sum of the weights. -/
theorem den_ext (s : ℕ → EReal) {n N : ℕ} (h : n ≤ N) (hs : ∀ j, n ≤ j → s j = ⊥) : den s N = den s n := by
  unfold den; rw [top_ext s h hs]
  refine (sum_subset (range_mono h) fun j _ hj => ?_).symm
  rw [hs j (not_lt.1 fun a => hj (mem_range.2 a)), wt_bot]

/-- Keys of score -∞ beyond the first `n` leave the weighted sum. -/
theorem num_ext (s v : ℕ → EReal) {n N : ℕ} (h : n ≤ N) (hs : ∀ j, n ≤ j → s j = ⊥) : num s v N = num s v n := by
  unfold num; rw [top_ext s h hs]
  refine (sum_subset (range_mono h) fun j _ hj => ?_).symm
  rw [hs j (not_lt.1 fun a => hj (mem_range.2 a)), wt_bot, zero_mul]

/-- When no score is +∞ and one is not -∞, the sum of the weights is a positive real number. -/
theorem den_pos (s : ℕ → EReal) (n : ℕ) (ht : ∀ j, s j ≠ ⊤) {j₀ : ℕ} (h₀ : j₀ < n) (hb : s j₀ ≠ ⊥) :
    ∃ r : ℝ, 0 < r ∧ den s n = (r : EReal) := by
  have hT : top s n ≠ ⊤ := by
    refine ne_of_lt ((Finset.sup_lt_iff (bot_lt_top)).2 fun j _ => lt_top_iff_ne_top.2 (ht j))
  have hB : top s n ≠ ⊥ := fun e => hb (le_bot_iff.1 (e ▸ le_top s h₀))
  choose! f hf0 hf using fun j (hj : j < n) => wt_real (le_top s hj)
  refine ⟨∑ j ∈ range n, f j, ?_, ?_⟩
  · refine sum_pos' (fun j hj => hf0 j (mem_range.1 hj)) ⟨j₀, mem_range.2 h₀, ?_⟩
    have e := hf j₀ h₀
    lift top s n to ℝ using ⟨hT, hB⟩ with M
    lift s j₀ to ℝ using ⟨ht j₀, hb⟩ with x
    rw [wt, ← EReal.coe_sub, Ideal.exp_coe, EReal.coe_eq_coe_iff] at e
    rw [← e]; exact Real.exp_pos _
  · unfold den
    rw [sum_congr rfl fun j hj => hf j (mem_range.1 hj)]
    exact (map_sum (⟨⟨Real.toEReal, rfl⟩, EReal.coe_add⟩ : ℝ →+ EReal) f (range n)).symm

/-- The quotient of the two sums is the average of the values under the normalised weights. -/
theorem div_num (s v : ℕ → EReal) (n : ℕ) {r : ℝ} (hr : 0 < r) (e : den s n = (r : EReal)) :
    Ideal.div (num s v n) (den s n) = ∑ j ∈ range n, v j * Ideal.div (wt (s j) (top s n)) (den s n) := by
  rw [e, Ideal.div_coe hr.ne']
  unfold num
  rw [mul_comm, mul_sum_of_nonneg (by positivity)]
  exact sum_congr rfl fun j _ => by rw [Ideal.div_coe hr.ne', mul_comm, mul_comm (v j), mul_assoc, mul_comm (v j), ← mul_assoc]

/-- The largest of a block's scores, as a fold of the maximum from -∞. -/
theorem fold_max {b : ℕ} (g : ℕ → EReal) (f : Fin b → EReal) (hf : ∀ x : Fin b, g x = f x) :
    Finset.fold max ⊥ f univ = (range b).sup g := by
  show univ.sup f = _
  apply le_antisymm
  · exact Finset.sup_le fun x _ => by rw [← hf x]; exact le_sup (f := g) (mem_range.2 x.isLt)
  · exact Finset.sup_le fun x hx => by
      have e := hf ⟨x, mem_range.1 hx⟩
      simp only at e
      rw [e]; exact le_sup (f := f) (mem_univ _)

/-- One step of the running softmax: from the three numbers of the first `n` keys and a block of `b` further keys, with
    scores `f` and values `g`, the new largest score, and the two sums rescaled and added to, are those of the first
    `n + b` keys. -/
theorem step {s v : ℕ → EReal} {n b : ℕ} {f g : Fin b → EReal} (hf : ∀ x : Fin b, s (n + x) = f x)
    (hg : ∀ x : Fin b, v (n + x) = g x) {m l a : EReal} (hm : m = top s n) (hl : l = den s n) (ha : a = num s v n) :
    max m (Finset.fold max ⊥ f univ) = top s (n + b)
    ∧ Ideal.exp (m - top s (n + b)) * l + ∑ x, Ideal.exp (f x - top s (n + b)) = den s (n + b)
    ∧ Ideal.exp (m - top s (n + b)) * a + ∑ x, Ideal.exp (f x - top s (n + b)) * g x = num s v (n + b) := by
  subst hm hl ha
  refine ⟨?_, ?_, ?_⟩
  · rw [top_add, fold_max (fun x => s (n + x)) f hf]
  · rw [den_add, sum_range]
    simp only [hf]; rfl
  · rw [num_add, sum_range]
    simp only [hf, hg]; rfl

end Cert.Softmax

end
-- ==== Proof.Block.lean ====
/- What one block of keys adds: the kernel's arithmetic on a block, read at an index, is one step of the running softmax. -/
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.ShloMosaic.Tactic
open Cert.Softmax Finset

/-- The scale 1/√192 at the precision the programs carry it. -/
def scale : EReal := Ideal.ofBits FTy.f32 1033096506#32

/-- The bit pattern of -∞. -/
theorem neg_inf : Ideal.ofBits FTy.f32 4286578688#32 = ⊥ := by
  simp [Ideal.ofBits, Ideal.ieee]

/-- Three scratch buffers hold, row by row, the softmax of the first `n` keys with scores `s` and values `v`: the largest
    score, the sum of the weights, the weighted sum of the values. -/
def Holds (s : Fin 512 → ℕ → EReal) (v : Fin 256 → ℕ → EReal) (n : ℕ) (M L : FVec Ideal S512x1 .f32)
    (A : FVec Ideal S512x256 .f32) : Prop :=
  ∀ r : Fin 512, M (ix2 r 0) = top (s r) n ∧ L (ix2 r 0) = den (s r) n ∧ ∀ c : Fin 256, A (ix2 r c) = num (s r) (v c) n

theorem pay19_eq (x : FVec Ideal S512x1 .f32) : k0_pay19 x = x := by
  funext j; unfold k0_pay19; pointwise

theorem pay1_eq (x : FVec Ideal S512x1 .f32) : k0_pay1 x = x := by
  funext j; unfold k0_pay1; pointwise

/-- The initial contents hold the softmax of no key. -/
theorem holds_zero (s : Fin 512 → ℕ → EReal) (v : Fin 256 → ℕ → EReal) :
    Holds s v 0 (k0_pay16 (F := Ideal)) (k0_pay17 (F := Ideal)) (k0_pay18 (F := Ideal)) := by
  intro r
  refine ⟨?_, ?_, fun c => ?_⟩
  · rw [top_zero]; unfold k0_pay16; pointwise; exact neg_inf
  · rw [den_zero]; unfold k0_pay17; pointwise
  · rw [num_zero]; unfold k0_pay18; pointwise

section
variable (v0 : Vec Ideal S512x256 .bf16) (v2 : FVec Ideal S512x64 .bf16) (v81 : Vec Ideal S512x256 .bf16)
  (v83 : Vec Ideal S512x64 .bf16) (M L : Vec Ideal S512x1 .f32) (A : Vec Ideal S512x256 .f32)

/-- A score: the two products summed, times the scale. -/
theorem pay3_apply (r x : Fin 512) : k0_pay3 v0 v2 v81 v83 (ix2 r x)
    = (∑ k, v0 (ix2 r k) * v81 (ix2 x k) + ∑ k, v2 (ix2 r k) * v83 (ix2 x k)) * scale := by
  unfold k0_pay3; pointwise; rfl

theorem pay4_apply (r : Fin 512) : k0_pay4 v0 v2 v81 v83 M (ix2 r 0)
    = max (M (ix2 r 0)) (Finset.fold max ⊥ (fun x => k0_pay3 v0 v2 v81 v83 (ix2 r x)) univ) := by
  unfold k0_pay4; generalize k0_pay3 v0 v2 v81 v83 = s; pointwise; rw [neg_inf]

theorem pay7_apply (r : Fin 512) : k0_pay7 v0 v2 v81 v83 M L (ix2 r 0)
    = Ideal.exp (M (ix2 r 0) - k0_pay4 v0 v2 v81 v83 M (ix2 r 0)) * L (ix2 r 0)
      + ∑ x, Ideal.exp (k0_pay3 v0 v2 v81 v83 (ix2 r x) - k0_pay4 v0 v2 v81 v83 M (ix2 r 0)) := by
  unfold k0_pay7 k0_pay5 k0_pay6
  generalize k0_pay4 v0 v2 v81 v83 M = m; generalize k0_pay3 v0 v2 v81 v83 = s; pointwise

theorem pay8_apply (r : Fin 512) (c : Fin 256) : k0_pay8 v0 v2 v81 v83 M A (ix2 r c)
    = Ideal.exp (M (ix2 r 0) - k0_pay4 v0 v2 v81 v83 M (ix2 r 0)) * A (ix2 r c)
      + ∑ x, Ideal.exp (k0_pay3 v0 v2 v81 v83 (ix2 r x) - k0_pay4 v0 v2 v81 v83 M (ix2 r 0)) * v81 (ix2 x c) := by
  unfold k0_pay8 k0_pay5 k0_pay6
  generalize k0_pay4 v0 v2 v81 v83 M = m; generalize k0_pay3 v0 v2 v81 v83 = s; pointwise

/-- An unmasked block of 512 keys is one step of the running softmax. -/
theorem Holds.advance {s : Fin 512 → ℕ → EReal} {v : Fin 256 → ℕ → EReal} {n : ℕ} (h : Holds s v n M L A)
    (hs : ∀ r x : Fin 512, s r (n + x) = k0_pay3 v0 v2 v81 v83 (ix2 r x))
    (hv : ∀ (c : Fin 256) (x : Fin 512), v c (n + x) = v81 (ix2 x c)) :
    Holds s v (n + 512) (k0_pay4 v0 v2 v81 v83 M) (k0_pay7 v0 v2 v81 v83 M L) (k0_pay8 v0 v2 v81 v83 M A) := by
  intro r
  obtain ⟨hM, hL, hA⟩ := h r
  have hm : k0_pay4 v0 v2 v81 v83 M (ix2 r 0) = top (s r) (n + 512) := by
    rw [pay4_apply]; exact (step (hs r) (hv 0) hM hL (hA 0)).1
  refine ⟨hm, ?_, fun c => ?_⟩
  · rw [pay7_apply, hm]; exact (step (hs r) (hv 0) hM hL (hA 0)).2.1
  · rw [pay8_apply, hm]; exact (step (hs r) (hv c) hM hL (hA c)).2.2
end

section
variable (a0 : BitVec 32) (v0 : Vec Ideal S512x256 .bf16) (v2 : FVec Ideal S512x64 .bf16) (b0 : BitVec 32)
  (v25 : Vec Ideal S512x256 .bf16) (v27 : Vec Ideal S512x64 .bf16) (z : FVec Ideal S512x512 .f32)
  (M L : Vec Ideal S512x1 .f32) (A : Vec Ideal S512x256 .f32)

theorem pay22_apply (r : Fin 512) : k0_pay22 a0 v0 v2 b0 v25 v27 z M (ix2 r 0)
    = max (M (ix2 r 0)) (Finset.fold max ⊥ (fun x => k0_pay21 a0 v0 v2 b0 v25 v27 z (ix2 r x)) univ) := by
  unfold k0_pay22; generalize k0_pay21 a0 v0 v2 b0 v25 v27 z = s; pointwise; rw [neg_inf]

theorem pay25_apply (r : Fin 512) : k0_pay25 a0 v0 v2 b0 v25 v27 z M L (ix2 r 0)
    = Ideal.exp (M (ix2 r 0) - k0_pay22 a0 v0 v2 b0 v25 v27 z M (ix2 r 0)) * L (ix2 r 0)
      + ∑ x, Ideal.exp (k0_pay21 a0 v0 v2 b0 v25 v27 z (ix2 r x) - k0_pay22 a0 v0 v2 b0 v25 v27 z M (ix2 r 0)) := by
  unfold k0_pay25 k0_pay23 k0_pay24
  generalize k0_pay22 a0 v0 v2 b0 v25 v27 z M = m; generalize k0_pay21 a0 v0 v2 b0 v25 v27 z = s; pointwise

theorem pay26_apply (r : Fin 512) (c : Fin 256) : k0_pay26 a0 v0 v2 b0 v25 v27 z M A (ix2 r c)
    = Ideal.exp (M (ix2 r 0) - k0_pay22 a0 v0 v2 b0 v25 v27 z M (ix2 r 0)) * A (ix2 r c)
      + ∑ x, Ideal.exp (k0_pay21 a0 v0 v2 b0 v25 v27 z (ix2 r x) - k0_pay22 a0 v0 v2 b0 v25 v27 z M (ix2 r 0))
        * v25 (ix2 x c) := by
  unfold k0_pay26 k0_pay23 k0_pay24
  generalize k0_pay22 a0 v0 v2 b0 v25 v27 z M = m; generalize k0_pay21 a0 v0 v2 b0 v25 v27 z = s; pointwise

/-- The masked block of 512 keys is one step of the running softmax of the masked scores. -/
theorem Holds.advance_masked {s : Fin 512 → ℕ → EReal} {v : Fin 256 → ℕ → EReal} {n : ℕ} (h : Holds s v n M L A)
    (hs : ∀ r x : Fin 512, s r (n + x) = k0_pay21 a0 v0 v2 b0 v25 v27 z (ix2 r x))
    (hv : ∀ (c : Fin 256) (x : Fin 512), v c (n + x) = v25 (ix2 x c)) :
    Holds s v (n + 512) (k0_pay22 a0 v0 v2 b0 v25 v27 z M) (k0_pay25 a0 v0 v2 b0 v25 v27 z M L)
      (k0_pay26 a0 v0 v2 b0 v25 v27 z M A) := by
  intro r
  obtain ⟨hM, hL, hA⟩ := h r
  have hm : k0_pay22 a0 v0 v2 b0 v25 v27 z M (ix2 r 0) = top (s r) (n + 512) := by
    rw [pay22_apply]; exact (step (hs r) (hv 0) hM hL (hA 0)).1
  refine ⟨hm, ?_, fun c => ?_⟩
  · rw [pay25_apply, hm]; exact (step (hs r) (hv 0) hM hL (hA 0)).2.1
  · rw [pay26_apply, hm]; exact (step (hs r) (hv c) hM hL (hA c)).2.2

/-- The comparison of the row's number with the key's number, at the words the block carries. -/
theorem cmp_row (i : Fin 16) (r x : Fin 512) :
    IntOp.cmpi CmpIPredicate.sge (IntOp.addi (Scalar.muli (BitVec.ofNat 32 i.val) 512#32) (BitVec.ofNat 32 r.val))
        (IntOp.addi (Scalar.muli (BitVec.ofNat 32 i.val) 512#32) (BitVec.ofNat 32 x.val))
      = if x.val ≤ r.val then 1#1 else 0#1 := by
  have hi := i.isLt; have hr := r.isLt; have hx := x.isLt
  have e : ∀ y : Fin 512, (IntOp.addi (Scalar.muli (BitVec.ofNat 32 i.val) 512#32) (BitVec.ofNat 32 y.val)).toInt
      = ((512 * i.val + y.val : ℕ) : ℤ) := by
    intro y
    have hy := y.isLt
    have e' : IntOp.addi (Scalar.muli (BitVec.ofNat 32 i.val) 512#32) (BitVec.ofNat 32 y.val)
        = BitVec.ofNat 32 (512 * i.val + y.val) := by
      apply BitVec.eq_of_toNat_eq
      simp [IntOp.addi, Scalar.muli, IntOp.muli, BitVec.toNat_add, BitVec.toNat_mul]
      omega
    rw [e', BitVec.toInt_eq_toNat_cond, BitVec.toNat_ofNat, Nat.mod_eq_of_lt (by omega), if_pos (by omega)]
  unfold IntOp.cmpi
  simp only [BitVec.sle, e]
  by_cases h : x.val ≤ r.val
  · simp [h]
  · simp [h]

/-- A masked score: the score at a key not after the row, -∞ at a later key. -/
theorem pay21_apply (i : Fin 16) (hz : z = fun _ => 0) (r x : Fin 512) :
    k0_pay21 (BitVec.ofNat 32 i.val) v0 v2 (Scalar.muli (BitVec.ofNat 32 i.val) 512#32) v25 v27 z (ix2 r x)
      = if x.val ≤ r.val then (∑ k, v0 (ix2 r k) * v25 (ix2 x k) + ∑ k, v2 (ix2 r k) * v27 (ix2 x k)) * scale else ⊥ := by
  subst hz
  unfold k0_pay21; pointwise
  rw [neg_inf]
  have e := cmp_row i r x
  rw [e]
  by_cases h : x.val ≤ r.val
  · simp [h, scale, Scalar.select]
  · simp [h, Scalar.select]

/-- The block's result: the weighted sum over the sum of the weights. -/
theorem pay2_apply (r : Fin 512) (c : Fin 256) : k0_pay2 A L (ix2 r c) = Ideal.div (A (ix2 r c)) (L (ix2 r 0)) := by
  unfold k0_pay2; pointwise
end

end Cert.Attn

end
-- ==== Proof.Loop.lean ====
/- What one grid point of the attention kernel computes: its loop over the unmasked key blocks keeps the running softmax of
   the keys read so far, the masked block adds the last 512 keys, and the stored block is the quotient of the two sums. -/
module

public import proofs.«01_k».proof.Proof.Trip
public import proofs.«01_k».proof.Proof.Block

@[expose] public section

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI Idealize.SL.Sem
open Cert.Softmax Cert.Offsets

/-- The score of a query row against key `j`: latent part plus rotary part, scaled; -∞ where there is no key. -/
def score (x0 : Vec Ideal S512x256 .bf16) (x1 : Vec Ideal S1x512x64 .bf16) (x2 : Vec Ideal S8192x256 .bf16)
    (x3 : Vec Ideal S8192x64 .bf16) (r : Fin 512) (j : ℕ) : EReal :=
  if h : j < 8192 then
    (∑ k : Fin 256, x0 (ix2 r k) * x2 (ix2 (⟨j, h⟩ : Fin 8192) k)
      + ∑ k : Fin 64, x1 (ix3 (0 : Fin 1) r k) * x3 (ix2 (⟨j, h⟩ : Fin 8192) k)) * scale
  else ⊥

/-- The score under the causal mask: query row `512·i + r` sees the keys up to its own. -/
def masked (x0 : Vec Ideal S512x256 .bf16) (x1 : Vec Ideal S1x512x64 .bf16) (x2 : Vec Ideal S8192x256 .bf16)
    (x3 : Vec Ideal S8192x64 .bf16) (i : ℕ) (r : Fin 512) (j : ℕ) : EReal :=
  if j ≤ 512 * i + r.val then score x0 x1 x2 x3 r j else ⊥

/-- Column `c` of the latent rows, the value of key `j`; 0 where there is no key. -/
def value (x2 : Vec Ideal S8192x256 .bf16) (c : Fin 256) (j : ℕ) : EReal :=
  if h : j < 8192 then x2 (ix2 (⟨j, h⟩ : Fin 8192) c) else 0

theorem trip_lt (i : grid0.Coords) (k : Fin (k0_t1_loop i).trips) : k.val < (i 0).val := by
  have h := k.isLt
  have e := trips1 i
  unfold Scf.Loop.trips at h
  omega

theorem coord_lt (i : grid0.Coords) : (i 0).val < 16 := (i 0).isLt

theorem kblk_apply (i : grid0.Coords) (x2 : Vec Ideal S8192x256 .bf16) (k : Fin (k0_t1_loop i).trips) (x : Fin 512) (c : Fin 256)
    (h : 512 * k.val + x.val < 8192) : kblk i x2 k (ix2 x c) = x2 (ix2 (⟨512 * k.val + x.val, h⟩ : Fin 8192) c) := by
  refine View.ld_unit_apply_of _ _ _ _ _ _ fun a => ?_
  rw [congrFun (k0_off1_eq i k) a]
  fin_cases a
  · rfl
  · show c.val = 0 + c.val; omega

theorem pblk_apply (i : grid0.Coords) (x3 : Vec Ideal S8192x64 .bf16) (k : Fin (k0_t1_loop i).trips) (x : Fin 512) (c : Fin 64)
    (h : 512 * k.val + x.val < 8192) : pblk i x3 k (ix2 x c) = x3 (ix2 (⟨512 * k.val + x.val, h⟩ : Fin 8192) c) := by
  refine View.ld_unit_apply_of _ _ _ _ _ _ fun a => ?_
  rw [congrFun (k0_off2_eq i k) a]
  fin_cases a
  · rfl
  · show c.val = 0 + c.val; omega

/-- The 512 latent rows of the masked block. -/
abbrev kdiag (i : grid0.Coords) (x2 : Vec Ideal S8192x256 .bf16) : Vec Ideal S512x256 .bf16 :=
  View.ld x2 (Rect.unit (s := S8192x256) (k0_off5 i) S512x256.size (k0_off5_inb i))

/-- The 512 rotary keys of the masked block. -/
abbrev pdiag (i : grid0.Coords) (x3 : Vec Ideal S8192x64 .bf16) : Vec Ideal S512x64 .bf16 :=
  View.ld x3 (Rect.unit (s := S8192x64) (k0_off6 i) S512x64.size (k0_off6_inb i))

theorem kdiag_apply (i : grid0.Coords) (x2 : Vec Ideal S8192x256 .bf16) (x : Fin 512) (c : Fin 256)
    (h : 512 * (i 0).val + x.val < 8192) : kdiag i x2 (ix2 x c) = x2 (ix2 (⟨512 * (i 0).val + x.val, h⟩ : Fin 8192) c) := by
  refine View.ld_unit_apply_of _ _ _ _ _ _ fun a => ?_
  rw [congrFun (k0_off5_eq i) a]
  fin_cases a
  · rfl
  · show c.val = 0 + c.val; omega

theorem pdiag_apply (i : grid0.Coords) (x3 : Vec Ideal S8192x64 .bf16) (x : Fin 512) (c : Fin 64)
    (h : 512 * (i 0).val + x.val < 8192) : pdiag i x3 (ix2 x c) = x3 (ix2 (⟨512 * (i 0).val + x.val, h⟩ : Fin 8192) c) := by
  refine View.ld_unit_apply_of _ _ _ _ _ _ fun a => ?_
  rw [congrFun (k0_off6_eq i) a]
  fin_cases a
  · rfl
  · show c.val = 0 + c.val; omega

theorem pay15_apply (x1 : Vec Ideal S1x512x64 .bf16) (r : Fin 512) (k : Fin 64) :
    k0_pay15 x1 (ix2 r k) = x1 (ix3 (0 : Fin 1) r k) := by
  unfold k0_pay15; pointwise

section
variable (x0 : Vec Ideal S512x256 .bf16) (x1 : Vec Ideal S1x512x64 .bf16) (x2 : Vec Ideal S8192x256 .bf16)
  (x3 : Vec Ideal S8192x64 .bf16)

/-- The scores of an unmasked block are the masked scores of its keys. -/
theorem masked_blk (i : grid0.Coords) (k : Fin (k0_t1_loop i).trips) (r x : Fin 512) :
    masked x0 x1 x2 x3 (i 0).val r (512 * k.val + x.val)
      = k0_pay3 x0 (k0_pay15 x1) (kblk i x2 k) (pblk i x3 k) (ix2 r x) := by
  have hk := trip_lt i k; have hi := coord_lt i; have hx := x.isLt
  have h : 512 * k.val + x.val < 8192 := by omega
  rw [pay3_apply, masked, if_pos (by omega), score, dif_pos h]
  simp only [kblk_apply i x2 k x _ h, pblk_apply i x3 k x _ h, pay15_apply]

/-- The values of an unmasked block are the latent rows it reads. -/
theorem value_blk (i : grid0.Coords) (k : Fin (k0_t1_loop i).trips) (c : Fin 256) (x : Fin 512) :
    value x2 c (512 * k.val + x.val) = kblk i x2 k (ix2 x c) := by
  have hk := trip_lt i k; have hi := coord_lt i; have hx := x.isLt
  have h : 512 * k.val + x.val < 8192 := by omega
  rw [value, dif_pos h, kblk_apply i x2 k x c h]

/-- The masked block's scores are the masked scores of its keys. -/
theorem masked_diag (i : grid0.Coords) (z : FVec Ideal S512x512 .f32) (hz : z = fun _ => 0) (r x : Fin 512) :
    masked x0 x1 x2 x3 (i 0).val r (512 * (i 0).val + x.val)
      = k0_pay21 (BitVec.ofNat 32 (i 0).val) x0 (k0_pay15 x1) (Scalar.muli (BitVec.ofNat 32 (i 0).val) 512#32) (kdiag i x2) (pdiag i x3) z (ix2 r x) := by
  have hi := coord_lt i; have hx := x.isLt
  have h : 512 * (i 0).val + x.val < 8192 := by omega
  have e := pay21_apply x0 (k0_pay15 x1) (kdiag i x2) (pdiag i x3) z (i 0) hz r x
  refine Eq.trans ?_ e.symm
  rw [masked, score, dif_pos h]
  simp only [kdiag_apply i x2 x _ h, pdiag_apply i x3 x _ h, pay15_apply]
  by_cases hr : x.val ≤ r.val
  · rw [if_pos hr, if_pos (by omega)]
  · rw [if_neg hr, if_neg (by omega)]

theorem value_diag (i : grid0.Coords) (c : Fin 256) (x : Fin 512) :
    value x2 c (512 * (i 0).val + x.val) = kdiag i x2 (ix2 x c) := by
  have hi := coord_lt i; have hx := x.isLt
  have h : 512 * (i 0).val + x.val < 8192 := by omega
  rw [value, dif_pos h, kdiag_apply i x2 x c h]
end

section
variable (c : Dev nD) (i : grid0.Coords) (arg2 : Memref sig .tc .vmem S512x256 .bf16) (harg2 : arg2.IsWhole) (arg3 : Memref sig .tc .vmem S1x512x64 .bf16) (harg3 : arg3.IsWhole) (arg4 : Memref sig .tc .vmem S8192x256 .bf16) (harg4 : arg4.IsWhole) (arg5 : Memref sig .tc .vmem S8192x64 .bf16) (harg5 : arg5.IsWhole) (arg6 : Memref sig .tc .vmem S512x256 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
  (x0 : Vec Ideal S512x256 .bf16) (x1 : Vec Ideal S1x512x64 .bf16) (x2 : Vec Ideal S8192x256 .bf16) (x3 : Vec Ideal S8192x64 .bf16)
  (G7 : BufTy.Contents (Elt Ideal) arg7.view.ty) (G8 : BufTy.Contents (Elt Ideal) arg8.view.ty) (G9 : BufTy.Contents (Elt Ideal) arg9.view.ty)

/-- The pieces of the trips before `n`. -/
abbrev pieces (n : ℕ) :=
  pb_k0_t1 (F := Ideal) Variants.none c none i arg2 harg2 arg3 harg3 arg4 harg4 arg5 harg5 arg6 harg6 arg7 harg7 arg8 harg8 arg9 harg9 x0 x1 (harg4.unread x2) (harg5.unread x3) G7 G8 G9 n

/-- Before trip `n` the scratch buffers hold the softmax of the first `512·n` keys. -/
theorem loop_holds
    (h0 : Holds (masked x0 x1 x2 x3 (i 0).val) (value x2) 0 (arg7.view.read (Elt Ideal) G7) (arg8.view.read (Elt Ideal) G8) (arg9.view.read (Elt Ideal) G9))
    (n : ℕ) (hn : n ≤ (k0_t1_loop i).trips) :
    Holds (masked x0 x1 x2 x3 (i 0).val) (value x2) (512 * n)
      (arg7.view.read (Elt Ideal) (arg7.view.writes (Elt Ideal) G7 (pieces c i arg2 harg2 arg3 harg3 arg4 harg4 arg5 harg5 arg6 harg6 arg7 harg7 arg8 harg8 arg9 harg9 x0 x1 x2 x3 G7 G8 G9 n).1))
      (arg8.view.read (Elt Ideal) (arg8.view.writes (Elt Ideal) G8 (pieces c i arg2 harg2 arg3 harg3 arg4 harg4 arg5 harg5 arg6 harg6 arg7 harg7 arg8 harg8 arg9 harg9 x0 x1 x2 x3 G7 G8 G9 n).2.1))
      (arg9.view.read (Elt Ideal) (arg9.view.writes (Elt Ideal) G9 (pieces c i arg2 harg2 arg3 harg3 arg4 harg4 arg5 harg5 arg6 harg6 arg7 harg7 arg8 harg8 arg9 harg9 x0 x1 x2 x3 G7 G8 G9 n).2.2)) := by
  induction n with
  | zero => exact h0
  | succ n ih =>
    have ih := ih (by omega)
    have e := pb_k0_t1_succ (F := Ideal) Variants.none c none i arg2 harg2 arg3 harg3 arg4 harg4 arg5 harg5 arg6 harg6 arg7 harg7 arg8 harg8 arg9 harg9 x0 x1 (harg4.unread x2) (harg5.unread x3) G7 G8 G9 ⟨n, hn⟩
    rw [trip_pieces] at e
    unfold pieces at ih ⊢
    rw [e]
    simp only [List.cons_append, List.nil_append]
    rw [read_whole_store _ _ zz, read_whole_store _ _ zz, read_whole_store _ _ zz, pay19_eq]
    exact ih.advance _ _ _ _ _ _ _ (masked_blk x0 x1 x2 x3 i ⟨n, hn⟩) (value_blk x2 i ⟨n, hn⟩)
end

section
variable (c : Dev nD) (i : grid0.Coords) (arg2 : Memref sig .tc .vmem S512x256 .bf16) (harg2 : arg2.IsWhole) (arg3 : Memref sig .tc .vmem S1x512x64 .bf16) (harg3 : arg3.IsWhole) (arg4 : Memref sig .tc .vmem S8192x256 .bf16) (harg4 : arg4.IsWhole) (arg5 : Memref sig .tc .vmem S8192x64 .bf16) (harg5 : arg5.IsWhole) (arg6 : Memref sig .tc .vmem S512x256 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .f32) (harg9 : arg9.IsWhole)
  (x0 : Vec Ideal S512x256 .bf16) (x1 : Vec Ideal S1x512x64 .bf16) (x2 : Vec Ideal S8192x256 .bf16) (x3 : Vec Ideal S8192x64 .bf16)

/-- The stored block, from the scratch contents `M L A` the loop leaves: the masked block's step, then the quotient. -/
theorem out_form : ∃ (G7 : BufTy.Contents (Elt Ideal) arg7.view.ty) (G8 : BufTy.Contents (Elt Ideal) arg8.view.ty) (G9 : BufTy.Contents (Elt Ideal) arg9.view.ty) (z : FVec Ideal S512x512 .f32) (n : ℕ) (M L : Vec Ideal S512x1 .f32) (A : Vec Ideal S512x256 .f32),
    arg7.view.read (Elt Ideal) G7 = k0_pay16 (F := Ideal) ∧ arg8.view.read (Elt Ideal) G8 = k0_pay17 (F := Ideal) ∧ arg9.view.read (Elt Ideal) G9 = k0_pay18 (F := Ideal)
    ∧ (z = fun _ => 0) ∧ n = Scf.trips (k0_t1_loop i).lb (k0_t1_loop i).ub (k0_t1_loop i).st
    ∧ M = arg7.view.read (Elt Ideal) (arg7.view.writes (Elt Ideal) G7 (pieces c i arg2 harg2 arg3 harg3 arg4 harg4 arg5 harg5 arg6 harg6 arg7 harg7 arg8 harg8 arg9 harg9 x0 x1 x2 x3 G7 G8 G9 n).1)
    ∧ L = arg8.view.read (Elt Ideal) (arg8.view.writes (Elt Ideal) G8 (pieces c i arg2 harg2 arg3 harg3 arg4 harg4 arg5 harg5 arg6 harg6 arg7 harg7 arg8 harg8 arg9 harg9 x0 x1 x2 x3 G7 G8 G9 n).2.1)
    ∧ A = arg9.view.read (Elt Ideal) (arg9.view.writes (Elt Ideal) G9 (pieces c i arg2 harg2 arg3 harg3 arg4 harg4 arg5 harg5 arg6 harg6 arg7 harg7 arg8 harg8 arg9 harg9 x0 x1 x2 x3 G7 G8 G9 n).2.2)
    ∧ out0_A_4 (F := Ideal) c i arg2 harg2 arg3 harg3 arg4 harg4 arg5 harg5 arg6 harg6 arg7 harg7 arg8 harg8 arg9 harg9 x0 x1 x2 x3
      = k0_pay2 (k0_pay26 (BitVec.ofNat 32 (i 0).val) x0 (k0_pay15 x1) (Scalar.muli (Scalar.addi (Scalar.muli (BitVec.ofNat 32 (i 0).val) 1#32) 0#32) 512#32) (kdiag i x2) (pdiag i x3) z M A)
          (k0_pay25 (BitVec.ofNat 32 (i 0).val) x0 (k0_pay15 x1) (Scalar.muli (Scalar.addi (Scalar.muli (BitVec.ofNat 32 (i 0).val) 1#32) 0#32) 512#32) (kdiag i x2) (pdiag i x3) z M L) := by
  refine ⟨arg7.view.writes (Elt Ideal) arg7.view.junk [⟨Rect.unit ![0, 0] S512x1.size inb_S512x1_S512x1_0_0, k0_pay16 (F := Ideal)⟩],
    arg8.view.writes (Elt Ideal) arg8.view.junk [⟨Rect.unit ![0, 0] S512x1.size inb_S512x1_S512x1_0_0, k0_pay17 (F := Ideal)⟩],
    arg9.view.writes (Elt Ideal) arg9.view.junk [⟨Rect.unit ![0, 0] S512x256.size inb_S512x256_S512x256_0_0, k0_pay18 (F := Ideal)⟩],
    constant S512x512 FTy.f32 0#32, _, _, _, _,
    read_whole_store _ _ zz _ _ _, read_whole_store _ _ zz _ _ _, read_whole_store _ _ zz _ _ _, ?_, rfl, rfl, rfl, rfl, ?_⟩
  · funext j; pointwise
  unfold out0_A_4
  rw [View.read_writes_eq_canon _ _ _ (fun y => cover0_A_4 c i arg2 harg2 arg3 harg3 arg4 harg4 arg5 harg5 arg6 harg6 arg7 harg7 arg8 harg8 arg9 harg9 x0 x1 x2 x3 y)]
  unfold kernelRun0_A
  dsimp only
  sl_unfold_words
  simp only [View.readAt_eq_ld, harg2.read_unread, harg3.read_unread, harg4.read_unread, harg5.read_unread]
  generalize hQ : pb_k0_t2 (F := Ideal) _ _ _ _ _ _ _ _ _ _ _ _ _ _ _ _ _ _ _ _ _ _ _ _ _ _ _ _ = Q
  have hQ0 : ∀ a b d : BitVec 32, Scf.trips a b d = 0 → Q (Scf.trips a b d) = ([], [], []) := by
    intro a b d h; rw [h, ← hQ]; rfl
  rw [hQ0]
  swap
  · exact trips2 i
  rw [View.canon_cons_unit_zero zz]
  simp only [View.readCov, View.readAt_eq_ld, List.nil_append]
  rw [View.ld_unit_zero (X := x0) zz, View.ld_unit_zero (X := x1) zzz]
  rw [read_whole_store _ _ zz, read_whole_store _ _ zz]
  clear hQ hQ0 Q
  unfold pieces
  generalize pb_k0_t1 (F := Ideal) _ _ _ _ _ _ _ _ _ _ _ _ _ _ _ _ _ _ _ _ _ _ _ _ _ _ _ = P
  rw [View.writes_append, View.writes_append, View.writes_append]
  rw [View.ld_unit_zero (S := S512x1) zz, View.ld_unit_zero (S := S512x1) zz, View.ld_unit_zero (S := S512x1) zz, View.ld_unit_zero (S := S512x256) zz, View.ld_unit_zero (S := S512x256) zz]
  rfl

/-- Entry `(r, c)` of the stored block: the weighted sum of the values over the sum of the weights, over the first
    `512·i + 512` keys under the mask. -/
theorem out_apply (r : Fin 512) (q : Fin 256) :
    out0_A_4 (F := Ideal) c i arg2 harg2 arg3 harg3 arg4 harg4 arg5 harg5 arg6 harg6 arg7 harg7 arg8 harg8 arg9 harg9 x0 x1 x2 x3 (ix2 r q)
      = Ideal.div (num (masked x0 x1 x2 x3 (i 0).val r) (value x2 q) (512 * (i 0).val + 512))
          (den (masked x0 x1 x2 x3 (i 0).val r) (512 * (i 0).val + 512)) := by
  obtain ⟨G7, G8, G9, z, n, M, L, A, h7, h8, h9, hz, hn, hM, hL, hA, e⟩ := out_form c i arg2 harg2 arg3 harg3 arg4 harg4 arg5 harg5 arg6 harg6 arg7 harg7 arg8 harg8 arg9 harg9 x0 x1 x2 x3
  have hb : Scalar.muli (Scalar.addi (Scalar.muli (BitVec.ofNat 32 (i 0).val) 1#32) 0#32) 512#32 = Scalar.muli (BitVec.ofNat 32 (i 0).val) 512#32 := by
    simp [Scalar.muli, Scalar.addi, IntOp.muli, IntOp.addi]
  rw [hb] at e
  have h0 : Holds (masked x0 x1 x2 x3 (i 0).val) (value x2) 0 (arg7.view.read (Elt Ideal) G7) (arg8.view.read (Elt Ideal) G8) (arg9.view.read (Elt Ideal) G9) := by
    rw [h7, h8, h9]; exact holds_zero _ _
  have h1 := loop_holds c i arg2 harg2 arg3 harg3 arg4 harg4 arg5 harg5 arg6 harg6 arg7 harg7 arg8 harg8 arg9 harg9 x0 x1 x2 x3 G7 G8 G9 h0 n hn.le
  rw [← hM, ← hL, ← hA, hn, trips1 i] at h1
  have h2 := h1.advance_masked _ x0 (k0_pay15 x1) _ _ _ z _ _ _ (masked_diag x0 x1 x2 x3 i z hz) (value_diag x2 i)
  obtain ⟨-, e1, e2⟩ := h2 r
  rw [e, pay2_apply, e1, e2 q]
end

end Cert.Attn

end
-- ==== Proof.Array.lean ====
/- What the attention kernel's output array holds after the run: at query row q and column 256·h + c, the weighted sum of
   column c of the latent rows over the sum of the weights, under the causal mask, for head h. -/
module

public import proofs.«01_k».proof.Proof.Loop

@[expose] public section

set_option maxRecDepth 16384

noncomputable section

namespace Cert.Attn

open Cert.KernelIdeal Cert.KernelIdeal.Gen Cert.KernelIdeal.Value Idealize.ShloMosaic Idealize.ShloMosaic.TcCoe Idealize.ShloMosaic.Tactic
open Idealize.SL Idealize.SL.RA Idealize.SL.BI Idealize.SL.Sem
open Cert.Softmax

/-- Column `256·h + k` of the packed queries: latent coordinate `k` of head `h`. -/
def lane (h : Fin 8) (k : Fin 256) : Fin 2048 := ⟨256 * h.val + k.val, by have := h.isLt; have := k.isLt; omega⟩

/-- The causally masked score of query row `q`, head `h`, against key `j`, from the whole arrays. -/
def rowScore (ql : Vec Ideal S8192x2048 .bf16) (qp : Vec Ideal S8x8192x64 .bf16) (ck : Vec Ideal S8192x256 .bf16)
    (kp : Vec Ideal S8192x64 .bf16) (q : Fin 8192) (h : Fin 8) (j : ℕ) : EReal :=
  if j ≤ q.val then
    if hj : j < 8192 then
      (∑ k : Fin 256, ql (ix2 q (lane h k)) * ck (ix2 (⟨j, hj⟩ : Fin 8192) k)
        + ∑ k : Fin 64, qp (ix3 h q k) * kp (ix2 (⟨j, hj⟩ : Fin 8192) k)) * scale
    else ⊥
  else ⊥

/-- Attention's result at query row `q`, head `h`, latent column `c`. -/
def result (ql : Vec Ideal S8192x2048 .bf16) (qp : Vec Ideal S8x8192x64 .bf16) (ck : Vec Ideal S8192x256 .bf16)
    (kp : Vec Ideal S8192x64 .bf16) (q : Fin 8192) (h : Fin 8) (c : Fin 256) : EReal :=
  Ideal.div (num (rowScore ql qp ck kp q h) (value ck c) 8192) (den (rowScore ql qp ck kp q h) 8192)

/-- The head a packed column belongs to. -/
def headOf (n : Fin 2048) : Fin 8 := ⟨n.val / 256, by have := n.isLt; omega⟩

/-- The latent column a packed column stands for. -/
def colOf (n : Fin 2048) : Fin 256 := ⟨n.val % 256, by omega⟩

/-- The output array. -/
def attn (ql : Vec Ideal S8192x2048 .bf16) (qp : Vec Ideal S8x8192x64 .bf16) (ck : Vec Ideal S8192x256 .bf16)
    (kp : Vec Ideal S8192x64 .bf16) : Vec Ideal S8192x2048 .bf16 :=
  fun y => result ql qp ck kp (y 0) (headOf (y 1)) (colOf (y 1))

/-- Where the windows put a grid point's blocks. -/
theorem idx : ∀ t : Fin cfg0.N,
    win0_0.index t = ![(grid0.coords t 0).val, (grid0.coords t 1).val]
    ∧ win0_1.index t = ![(grid0.coords t 1).val, (grid0.coords t 0).val, 0]
    ∧ win0_2.index t = ![0, 0] ∧ win0_3.index t = ![0, 0]
    ∧ win0_4.index t = ![(grid0.coords t 0).val, (grid0.coords t 1).val] :=
  (by decide +kernel : ∀ t : Fin grid0.N, _)

section
variable (m : (ℓ : Loc nD τ sig) → Buf (Elt Ideal) ℓ) (c : Dev nD) (t : Fin cfg0.N)

/-- The query row that row `r` of point `t`'s block is. -/
def rowOf (r : Fin 512) : Fin 8192 :=
  ⟨512 * (grid0.coords t 0).val + r.val, by have := coord_lt (grid0.coords t); have := r.isLt; omega⟩

/-- The head of point `t`. -/
def head : Fin 8 := grid0.coords t 1

theorem blk0 (r : Fin 512) (k : Fin 256) :
    iblk m c 0 t (ix2 r k) = m ((c : Thread nD τ).loc main_arg0) (ix2 (rowOf t r) (lane (head t) k)) := by
  unfold rowOf lane head
  blk_ext [iblk, V, idx t]

theorem blk1 (r : Fin 512) (k : Fin 64) :
    iblk m c 1 t (ix3 (0 : Fin 1) r k) = m ((c : Thread nD τ).loc main_arg1) (ix3 (head t) (rowOf t r) k) := by
  unfold rowOf head
  blk_ext [iblk, V, idx t]

theorem blk2 : iblk m c 2 t = m ((c : Thread nD τ).loc main_arg2) := by
  funext y; blk_ext [iblk, V, idx t]

theorem blk3 : iblk m c 3 t = m ((c : Thread nD τ).loc main_arg3) := by
  funext y; blk_ext [iblk, V, idx t]

/-- The point's masked scores are the array's, at the point's rows and head. -/
theorem masked_eq (r : Fin 512) (j : ℕ) :
    masked (iblk m c 0 t) (iblk m c 1 t) (iblk m c 2 t) (iblk m c 3 t) (grid0.coords t 0).val r j
      = rowScore (m ((c : Thread nD τ).loc main_arg0)) (m ((c : Thread nD τ).loc main_arg1))
          (m ((c : Thread nD τ).loc main_arg2)) (m ((c : Thread nD τ).loc main_arg3)) (rowOf t r) (head t) j := by
  unfold masked rowScore score
  rw [blk2, blk3]
  simp only [blk0, blk1]
  rfl

/-- A grid point's stored block is the attention array there. -/
theorem point (r : Fin 512) (q : Fin 256) :
    outsAt0 m c t (ix2 r q)
      = result (m ((c : Thread nD τ).loc main_arg0)) (m ((c : Thread nD τ).loc main_arg1))
          (m ((c : Thread nD τ).loc main_arg2)) (m ((c : Thread nD τ).loc main_arg3)) (rowOf t r) (head t) q := by
  have hi := coord_lt (grid0.coords t); have hr := r.isLt
  unfold outsAt0
  rw [out_apply]
  have e : masked (iblk m c 0 t) (iblk m c 1 t) (iblk m c 2 t) (iblk m c 3 t) (grid0.coords t 0).val r = _ :=
    funext (masked_eq m c t r)
  rw [e, blk2]
  have hs : ∀ j, 512 * (grid0.coords t 0).val + 512 ≤ j →
      rowScore (m ((c : Thread nD τ).loc main_arg0)) (m ((c : Thread nD τ).loc main_arg1))
          (m ((c : Thread nD τ).loc main_arg2)) (m ((c : Thread nD τ).loc main_arg3)) (rowOf t r) (head t) j = ⊥ := by
    intro j hj
    rw [rowScore, if_neg (by show ¬ j ≤ 512 * (grid0.coords t 0).val + r.val; omega)]
  unfold result
  rw [num_ext _ _ (by omega : 512 * (grid0.coords t 0).val + 512 ≤ 8192) hs, den_ext _ (by omega : 512 * (grid0.coords t 0).val + 512 ≤ 8192) hs]
end

/-- The kernel's output array after the run. -/
theorem array (m : (ℓ : Loc nD τ sig) → Buf (Elt Ideal) ℓ) (c : Dev nD) :
    (dats m 0 c).arrAt 4 cfg0.N = attn (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4]
  have hy : y = ix2 (y 0 : Fin 512) (y 1 : Fin 256) := by funext a; fin_cases a <;> rfl
  have h0 : (y 0).val < 512 := (y 0).isLt
  have h1 : (y 1).val < 256 := (y 1).isLt
  refine (congrArg (outsAt0 m c t) hy).trans ((point m c t (y 0) (y 1)).trans ?_)
  unfold attn
  have e0 : (win0_4.blk t).view.emb y 0 = rowOf t (y 0) := by
    apply Fin.ext; unfold rowOf; blk_simp [idx t]; simp; omega
  have e1 : headOf ((win0_4.blk t).view.emb y 1) = head t := by
    apply Fin.ext; unfold headOf head; blk_simp [idx t]; simp; omega
  have e2 : colOf ((win0_4.blk t).view.emb y 1) = (y 1 : Fin 256) := by
    apply Fin.ext; unfold colOf; blk_simp [idx t]; simp; omega
  rw [e0, e1, e2]

end Cert.Attn

end
-- ==== Proof.Reference.lean ====
/- What the reference computes, at an index: the causally masked scores, their softmax with the division after the
   exponential, and the weighted sum of the latent rows. -/
module

public import proofs.«01_k».proof.Proof.Array
public import proofs.«01_k».proof.Proof.Gen.ReferenceIdeal.Read

@[expose] public section

set_option maxRecDepth 16384

noncomputable section

namespace Cert.Attn.Ref

open Cert.ReferenceIdeal Cert.ReferenceIdeal.Read Idealize.ShloMosaic Idealize.ShloMosaic.TcCoe Idealize.ShloMosaic.Tactic
open Cert.Softmax

variable (x0 : Vec Ideal S8192x2048 .bf16) (x1 : Vec Ideal S8x8192x64 .bf16) (x2 : Vec Ideal S8192x256 .bf16)
  (x3 : Vec Ideal S8192x64 .bf16)

/-- The comparison of the row's number with the key's number. -/
theorem cmp_key (q j : Fin 8192) :
    IntOp.cmpi CmpIPredicate.sge (BitVec.ofNat 32 q.val) (BitVec.ofNat 32 j.val) = if j.val ≤ q.val then 1#1 else 0#1 := by
  have e : ∀ y : Fin 8192, (BitVec.ofNat 32 y.val).toInt = (y.val : ℤ) := by
    intro y
    have hy := y.isLt
    rw [BitVec.toInt_eq_toNat_cond, BitVec.toNat_ofNat, Nat.mod_eq_of_lt (by omega), if_pos (by omega)]
  unfold IntOp.cmpi
  simp only [BitVec.sle, e]
  by_cases h : j.val ≤ q.val
  · simp [h]
  · simp [h]

/-- The masked scores. -/
theorem score_apply (h : Fin 8) (q j : Fin 8192) :
    val_main_v17 (F := Ideal) x0 x1 x2 x3 (ix3 h q j) = rowScore x0 x1 x2 x3 q h j.val := by
  have ec : val_main_call0_v1 (F := Ideal) (ix3 h q j) = if j.val ≤ q.val then 1#1 else 0#1 := by
    rw [val_main_call0_v1_apply, val_main_v16_apply, val_main_v14_apply, val_main_v15_apply, val_main_v12_apply,
      val_main_v13_apply, val_main_v11_apply, val_main_v11_apply]
    exact cmp_key q j
  have eb : val_main_call0_v2 (F := Ideal) (ix3 h q j) = ⊥ := by
    rw [val_main_call0_v2_apply, val_main_call0_v0_apply, val_main_cst_0_apply]
    exact neg_inf
  have e5 : val_main_v5 (F := Ideal) x0 x2 (idx_main_v6 (ix3 h q j)) = ∑ k : Fin 256, x0 (ix2 q (lane h k)) * x2 (ix2 j k) := by
    rw [val_main_v5_apply]
    refine Finset.sum_congr rfl fun k _ => ?_
    rw [val_main_v3_apply, val_main_v1_apply, val_main_v0_apply, mul_comm]
    simp only [Ideal.extf_def]
    congr 1
    · refine congrArg x0 (funext fun a => Fin.ext ?_)
      fin_cases a <;> simp [ix2, ix3, lane] <;> omega
    · refine congrArg x2 (funext fun a => Fin.ext ?_)
      fin_cases a <;> rfl
  have e7 : val_main_v7 (F := Ideal) x1 x3 (ix3 h q j) = ∑ k : Fin 64, x1 (ix3 h q k) * x3 (ix2 j k) := by
    rw [val_main_v7_apply]
    refine Finset.sum_congr rfl fun k _ => ?_
    rw [val_main_v2_apply, val_main_v4_apply]
    simp only [Ideal.extf_def]
    congr 1
    · refine congrArg x1 (funext fun a => Fin.ext ?_)
      fin_cases a <;> rfl
    · refine congrArg x3 (funext fun a => Fin.ext ?_)
      fin_cases a <;> rfl
  rw [val_main_v17_apply, ec, eb, val_main_v10_apply, val_main_v8_apply, val_main_v6_apply, val_main_v9_apply, val_main_cst_apply, e5, e7]
  unfold rowScore
  rw [dif_pos j.isLt]
  by_cases hq : j.val ≤ q.val
  · simp only [hq, if_true]; rfl
  · simp only [hq, if_false]; rfl

/-- The largest score of a row. -/
theorem top_apply (h : Fin 8) (q : Fin 8192) :
    val_main_v20 (F := Ideal) x0 x1 x2 x3 (ix2 h q) = top (rowScore x0 x1 x2 x3 q h) 8192 := by
  have e : val_main_v18 (F := Ideal) x0 x1 x2 x3 (ix2 h q)
      = Finset.fold max ⊥ (fun j => val_main_v17 (F := Ideal) x0 x1 x2 x3 (ix3 h q j)) Finset.univ := by
    unfold val_main_v18 val_main_cst_1
    generalize val_main_v17 (F := Ideal) x0 x1 x2 x3 = y
    pointwise
    rw [neg_inf]
  rw [val_main_v20_apply, val_main_v19_apply, val_main_cst_2_apply, e]
  rw [fold_max (rowScore x0 x1 x2 x3 q h) _ fun j => (score_apply x0 x1 x2 x3 h q j).symm]
  exact (congrArg (max · _) neg_inf).trans (max_eq_right bot_le)

/-- The weight of a key. -/
theorem weight_apply (h : Fin 8) (q j : Fin 8192) :
    val_main_v24 (F := Ideal) x0 x1 x2 x3 (ix3 h q j)
      = wt (rowScore x0 x1 x2 x3 q h j.val) (top (rowScore x0 x1 x2 x3 q h) 8192) := by
  have e : idx_main_v21 (idx_main_v22 (ix3 h q j)) = ix2 h q := by funext a; fin_cases a <;> rfl
  rw [val_main_v24_apply, val_main_v23_apply, val_main_v22_apply, val_main_v21_apply, e, top_apply, score_apply]
  rfl

/-- The sum of a row's weights. -/
theorem den_apply (h : Fin 8) (q : Fin 8192) :
    val_main_v25 (F := Ideal) x0 x1 x2 x3 (ix2 h q) = den (rowScore x0 x1 x2 x3 q h) 8192 := by
  have e : ∀ k, idx_main_v25 (ix2 h q) k = ix3 h q k := fun k => by funext a; fin_cases a <;> rfl
  have z : ∀ i, val_main_cst_3 (F := Ideal) i = 0 := fun i => by
    rw [val_main_cst_3_apply]; simp [Ideal.ofBits_def, Ideal.ofBits, Ideal.ieee]
  rw [val_main_v25_apply, z, zero_add]
  unfold den
  rw [Finset.sum_range]
  exact Finset.sum_congr rfl fun k _ => by rw [e, weight_apply]

/-- The reference's result at query row `q`, head `h`, latent column `c`. -/
theorem result_apply (q : Fin 8192) (h : Fin 8) (c : Fin 256) :
    val_main_v29 (F := Ideal) x0 x1 x2 x3 (ix3 c h q)
      = ∑ j ∈ Finset.range 8192, value x2 c j
          * Ideal.div (wt (rowScore x0 x1 x2 x3 q h j) (top (rowScore x0 x1 x2 x3 q h) 8192)) (den (rowScore x0 x1 x2 x3 q h) 8192) := by
  rw [val_main_v29_apply, Finset.sum_range]
  refine Finset.sum_congr rfl fun j _ => ?_
  have e1 : ridx_main_v29 (ix3 c h q) j = ix3 h q j := by funext a; fin_cases a <;> rfl
  have e2 : idx_main_v26 (idx_main_v27 (ix3 h q j)) = ix2 h q := by funext a; fin_cases a <;> rfl
  have e3 : lidx_main_v29 (ix3 c h q) j = ix2 j c := by funext a; fin_cases a <;> rfl
  rw [e1, e3, val_main_v3_apply, val_main_v28_apply, weight_apply, val_main_v27_apply, val_main_v26_apply, e2, den_apply,
    value, dif_pos j.isLt]
  rfl

end Cert.Attn.Ref

end
-- ==== Proof.Finite.lean ====
/- Finite arguments: the precondition read back as "every entry of the four arguments is a real number". -/
module

public import proofs.«01_k».proof.Proof.Array
public import proofs.«01_k».proof.Proof.Gen.Pre_finite
public import Idealize.ShloMosaic.Lib.ReduceAll
public import Idealize.ShloMosaic.Lib.Pointwise

@[expose] public section

set_option maxRecDepth 16384

noncomputable section

namespace Cert.Fin

open Idealize.ShloMosaic Idealize.ShloMosaic.Tactic

/-- The extended real is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.ne_top {x : EReal} (h : IsReal x) : x ≠ ⊤ := by obtain ⟨r, rfl⟩ := h; exact EReal.coe_ne_top r

theorem IsReal.ne_bot {x : EReal} (h : IsReal x) : x ≠ ⊥ := by obtain ⟨r, rfl⟩ := h; exact EReal.coe_ne_bot r

/-- Strictly between the two infinities is real. -/
theorem IsReal.of_between {x : EReal} (h₁ : ⊥ < x) (h₂ : x < ⊤) : IsReal x :=
  ⟨x.toReal, (EReal.coe_toReal h₂.ne h₁.ne').symm⟩

/-- The two comparisons of one entry with the infinities. -/
theorem IsReal.of_cmp {x : EReal}
    (h : IntOp.andi (Ideal.cmp .ogt x (Ideal.ofBits FTy.bf16 0xFF80#16)) (Ideal.cmp .olt x (Ideal.ofBits FTy.bf16 0x7F80#16)) = 1#1) :
    IsReal x := by
  have b : Ideal.ofBits FTy.bf16 0xFF80#16 = ⊥ := by simp [Ideal.ofBits, Ideal.ieee]
  have t : Ideal.ofBits FTy.bf16 0x7F80#16 = ⊤ := by simp [Ideal.ofBits, Ideal.ieee]
  rw [b, t] at h
  obtain ⟨h₁, h₂⟩ := IntOp.andi_eq_one.1 h
  exact .of_between ((Ideal.cmp_ogt_eq_one _ _).1 h₁) ((Ideal.cmp_olt_eq_one _ _).1 h₂)

open Cert.Pre_finite in
/-- A precondition that holds says that every entry is real. -/
theorem of_pre [Facts] (x0 : FVec Ideal S8192x2048 .bf16) (x1 : FVec Ideal S8x8192x64 .bf16) (x2 : FVec Ideal S8192x256 .bf16)
    (x3 : FVec Ideal S8192x64 .bf16) (h : fn (F := Ideal) x0 x1 x2 x3 = fun _ => 1#1) :
    (∀ i, IsReal (x0 i)) ∧ (∀ i, IsReal (x1 i)) ∧ (∀ i, IsReal (x2 i)) ∧ (∀ i, IsReal (x3 i)) := by
  have : Subsingleton S_.Idx := ⟨fun a b => funext fun k => k.elim0⟩
  let z : S_.Idx := fun k => k.elim0
  have h := congrFun h z
  unfold fn fn_part1 at h
  obtain ⟨h, h3⟩ := IntOp.andi_eq_one.1 h
  obtain ⟨h, h2⟩ := IntOp.andi_eq_one.1 h
  obtain ⟨h0, h1⟩ := IntOp.andi_eq_one.1 h
  exact ⟨fun i => .of_cmp (Host.reduce_andi_all _ _ _ _ z h0 i), fun i => .of_cmp (Host.reduce_andi_all _ _ _ _ z h1 i),
    fun i => .of_cmp (Host.reduce_andi_all _ _ _ _ z h2 i), fun i => .of_cmp (Host.reduce_andi_all _ _ _ _ z h3 i)⟩

end Cert.Fin

end
-- ==== Proof.Equation.lean ====
/- On finite arguments the kernel's attention is the reference's: dividing a row's weighted sum by the sum of its weights is
   summing with the divided weights. -/
module

public import proofs.«01_k».proof.Proof.Reference
public import proofs.«01_k».proof.Proof.Finite

@[expose] public section

set_option maxRecDepth 16384

noncomputable section

namespace Cert.Attn

open Idealize.ShloMosaic Idealize.ShloMosaic.TcCoe Idealize.ShloMosaic.Tactic
open Cert.Softmax Cert.Fin Cert.ReferenceIdeal Cert.ReferenceIdeal.Read

variable {x0 : Vec Ideal S8192x2048 .bf16} {x1 : Vec Ideal S8x8192x64 .bf16} {x2 : Vec Ideal S8192x256 .bf16}
  {x3 : Vec Ideal S8192x64 .bf16}

/-- The scale is a real number. -/
theorem scale_real : IsReal scale := by
  unfold scale
  simp only [Ideal.ofBits, Ideal.ieee]
  simp
  exact ⟨_, (EReal.coe_mul _ _).symm⟩

/-- The score of a key that the mask keeps is real. -/
theorem kept_real (h0 : ∀ i, IsReal (x0 i)) (h1 : ∀ i, IsReal (x1 i)) (h2 : ∀ i, IsReal (x2 i)) (h3 : ∀ i, IsReal (x3 i))
    (q : Fin 8192) (h : Fin 8) {j : ℕ} (hj : j ≤ q.val) : IsReal (rowScore x0 x1 x2 x3 q h j) := by
  unfold rowScore
  rw [if_pos hj, dif_pos (lt_of_le_of_lt hj q.isLt)]
  exact (((IsReal.sum _ _ fun _ => (h0 _).mul (h2 _))).add (IsReal.sum _ _ fun _ => (h1 _).mul (h3 _))).mul scale_real

/-- No score is +∞. -/
theorem score_ne_top (h0 : ∀ i, IsReal (x0 i)) (h1 : ∀ i, IsReal (x1 i)) (h2 : ∀ i, IsReal (x2 i)) (h3 : ∀ i, IsReal (x3 i))
    (q : Fin 8192) (h : Fin 8) (j : ℕ) : rowScore x0 x1 x2 x3 q h j ≠ ⊤ := by
  by_cases hj : j ≤ q.val
  · exact (kept_real h0 h1 h2 h3 q h hj).ne_top
  · unfold rowScore; rw [if_neg hj]; exact bot_ne_top

/-- The kernel's array and the reference's, at finite arguments. -/
theorem equation (h0 : ∀ i, IsReal (x0 i)) (h1 : ∀ i, IsReal (x1 i)) (h2 : ∀ i, IsReal (x2 i)) (h3 : ∀ i, IsReal (x3 i)) :
    val_main_v32 (F := Ideal) x0 x1 x2 x3 = attn x0 x1 x2 x3 := by
  funext y
  have e : idx_main_v30 (idx_main_v31 y) = ix3 (colOf (y 1)) (headOf (y 1)) (y 0) := by
    have a0 : (y 0).val < 8192 := (y 0).isLt
    have a1 : (y 1).val < 2048 := (y 1).isLt
    funext a; apply Fin.ext
    fin_cases a
    · show ((y 0).val * 2048 + (y 1).val) % 256 = (y 1).val % 256; omega
    · show ((y 0).val * 2048 + (y 1).val) / 256 % 8 = (y 1).val / 256; omega
    · show ((y 0).val * 2048 + (y 1).val) / 2048 = (y 0).val; omega
  rw [val_main_v32_apply, val_main_v31_apply, val_main_v30_apply, e]
  refine (Ref.result_apply x0 x1 x2 x3 (y 0) (headOf (y 1)) (colOf (y 1))).trans ?_
  unfold attn result
  obtain ⟨r, hr, er⟩ := den_pos (rowScore x0 x1 x2 x3 (y 0) (headOf (y 1))) 8192
    (fun j => score_ne_top h0 h1 h2 h3 _ _ j) (y 0).isLt (kept_real h0 h1 h2 h3 _ _ le_rfl).ne_bot
  exact (div_num _ _ _ hr er).symm

end Cert.Attn

end
-- ==== Proof.Norm.lean ====
/- The root-mean-square norm of one row, with a gain. -/
module

public import Idealize.ShloMosaic.PureOps.Ideal.Laws

@[expose] public section

noncomputable section

namespace Cert.Norm

open Idealize.ShloMosaic

/-- The small number added to the mean square (1e-6), at the precision the programs carry it. -/
def eps : EReal := Ideal.ofBits FTy.f32 897988541#32

/-- The number of entries in a row, as the programs carry it. -/
def width : EReal := Ideal.ofBits FTy.f32 1157627904#32

/-- Entry `k` of the normed row: the entry over the root of the row's mean square, times the gain. -/
def normed (x g : Fin 2048 → EReal) (k : Fin 2048) : EReal :=
  x k * Ideal.rsqrt (Ideal.div (∑ j, x j * x j) width + eps) * g k

/-- The same over a row of any length, `w` the number of its entries. -/
def normedOf {n : ℕ} (w : EReal) (x g : Fin n → EReal) (k : Fin n) : EReal :=
  x k * Ideal.rsqrt (Ideal.div (∑ j, x j * x j) w + eps) * g k

end Cert.Norm

end
-- ==== Proof.InProj.lean ====
/- The input projection: the normed rows times the weight. A row tile is normed once, at the first of its two column tiles,
   and the second column tile reads what the first left. -/
module

public import proofs.«01_k».proof.Proof.Gen.InIdeal.Value
public import proofs.«01_k».proof.Proof.Gen.InRefIdeal.Read
public import proofs.«01_k».proof.Proof.Offsets
public import proofs.«01_k».proof.Proof.Norm
public import Idealize.ShloMosaic.Lib.Pipeline.ValueKit
public import Idealize.ShloMosaic.Lib.Pointwise

@[expose] public section

set_option maxRecDepth 16384

noncomputable section

namespace Cert.InProj

open Cert.InIdeal Cert.InIdeal.Gen Cert.InIdeal.Value Idealize.ShloMosaic Idealize.ShloMosaic.TcCoe Idealize.ShloMosaic.Tactic
open Cert.Offsets Cert.Norm

/-- The projected array. -/
def proj (x : Vec Ideal S8192x2048 .f32) (g : Vec Ideal S2048 .f32) (w : Vec Ideal S2048x5120 .bf16) :
    Vec Ideal S8192x5120 .f32 :=
  fun y => ∑ k : Fin 2048, normed (fun j => x (ix2 (y 0 : Fin 8192) j)) (fun j => g (ix1 j)) k * w (ix2 k (y 1 : Fin 5120))

theorem pay1_apply (x : Vec Ideal S512x2048 .f32) (g : Vec Ideal S1x2048 .f32) (r : Fin 512) (k : Fin 2048) :
    k0_pay1 x g (ix2 r k) = normed (fun j => x (ix2 r j)) (fun j => g (ix2 0 j)) k := by
  unfold k0_pay1 normed eps width; pointwise

theorem pay2_apply (a : Vec Ideal S512x2048 .bf16) (w : Vec Ideal S2048x2560 .bf16) (r : Fin 512) (n : Fin 2560) :
    k0_pay2 a w (ix2 r n) = ∑ k, a (ix2 r k) * w (ix2 k n) := by
  unfold k0_pay2; pointwise

/-- Where the windows put a grid point's blocks. -/
theorem idx : ∀ t : Fin cfg0.N,
    win0_0.index t = ![(grid0.coords t 0).val, 0] ∧ win0_1.index t = ![0, 0]
    ∧ win0_2.index t = ![0, (grid0.coords t 1).val] ∧ win0_3.index t = ![(grid0.coords t 0).val, (grid0.coords t 1).val]
    ∧ (grid0.coords t 0).val = t.val / 2 :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 512) : Fin 8192 :=
  ⟨512 * (grid0.coords t 0).val + r.val, by have : (grid0.coords t 0).val < 16 := (grid0.coords t 0).isLt; have := r.isLt; omega⟩

/-- The column that column `n` of point `t`'s block is. -/
def colOf (n : Fin 2560) : Fin 5120 :=
  ⟨2560 * (grid0.coords t 1).val + n.val, by have : (grid0.coords t 1).val < 2 := (grid0.coords t 1).isLt; have := n.isLt; omega⟩

theorem blk0 (r : Fin 512) (k : Fin 2048) :
    iblk m c 0 t (ix2 r k) = m ((c : Thread nD τ).loc main_arg0) (ix2 (rowOf t r) k) := by
  unfold rowOf
  blk_ext [iblk, V, idx t]

theorem blk1 (k : Fin 2048) :
    iblk m c 1 t (ix2 (0 : Fin 1) k) = m ((c : Thread nD τ).loc main_arg1) (ix1 k) := by
  have h : V m c main_v0 = (shapeCast S1x2048 (α := Ideal .f32) (m ((c : Thread nD τ).loc main_arg1)) shapeCasts_S2048_S1x2048 : FVec Ideal S1x2048 .f32) := by
    entry_read; rfl
  have e : iblk m c 1 t (ix2 (0 : Fin 1) k) = V m c main_v0 (ix2 (0 : Fin 1) k : S1x2048.Idx) := by
    blk_ext [iblk, idx t]
  rw [e, h]
  pointwise

theorem blk2 (k : Fin 2048) (n : Fin 2560) :
    iblk m c 2 t (ix2 k n) = m ((c : Thread nD τ).loc main_arg2) (ix2 k (colOf t n)) := by
  unfold colOf
  blk_ext [iblk, V, idx t]

end

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2560 .bf16) (harg4 : arg4.IsWhole) (arg5 : Memref sig .tc .vmem S512x2560 .f32) (harg5 : arg5.IsWhole) (arg6 : Memref sig .tc .vmem S512x2048 .bf16) (harg6 : arg6.IsWhole)
  (x0 : Vec Ideal S512x2048 .f32) (x1 : Vec Ideal S1x2048 .f32) (x2 : Vec Ideal S2048x2560 .bf16)

/-- The first column tile leaves the normed rows in the scratch buffer. -/
theorem sout_A (hc0 : cond0_0 i) :
    sout0_A_0 (F := Ideal) c i arg2 harg2 arg3 harg3 arg4 harg4 arg5 harg5 arg6 harg6 hc0 x0 x1 x2 = k0_pay1 x0 x1 := by
  unfold sout0_A_0
  rw [View.read_writes_eq_canon _ _ _ (fun y => scover0_A_0 c i arg2 harg2 arg3 harg3 arg4 harg4 arg5 harg5 arg6 harg6 hc0 x0 x1 x2 y)]
  unfold kernelRun0_A
  dsimp only
  sl_unfold_words
  simp only [View.readAt_eq_ld, harg2.read_unread, harg3.read_unread, harg4.read_unread]
  rw [View.canon_unit_zero zz, View.ld_unit_zero zz, View.ld_unit_zero zz]

theorem out_A (hc0 : cond0_0 i) :
    out0_A_3 (F := Ideal) c i arg2 harg2 arg3 harg3 arg4 harg4 arg5 harg5 arg6 harg6 hc0 x0 x1 x2 = k0_pay2 (k0_pay1 x0 x1) x2 := by
  unfold out0_A_3
  rw [View.read_writes_eq_canon _ _ _ (fun y => cover0_A_3 c i arg2 harg2 arg3 harg3 arg4 harg4 arg5 harg5 arg6 harg6 hc0 x0 x1 x2 y)]
  unfold kernelRun0_A
  dsimp only
  sl_unfold_words
  simp only [View.readCov, View.readAt_eq_ld, harg2.read_unread, harg3.read_unread, harg4.read_unread]
  rw [View.canon_unit_zero zz, read_whole_store _ _ zz, View.ld_unit_zero zz, View.ld_unit_zero zz, View.ld_unit_zero zz, View.ld_unit_zero zz]

theorem out_B (hc0 : ¬cond0_0 i) (s : Vec Ideal S512x2048 .bf16) :
    out0_B_3 (F := Ideal) c i arg2 harg2 arg3 harg3 arg4 harg4 arg5 harg5 arg6 harg6 hc0 x0 x1 x2 s = k0_pay2 s x2 := by
  unfold out0_B_3
  rw [View.read_writes_eq_canon _ _ _ (fun y => cover0_B_3 c i arg2 harg2 arg3 harg3 arg4 harg4 arg5 harg5 arg6 harg6 hc0 x0 x1 x2 s y)]
  unfold kernelRun0_B
  dsimp only
  sl_unfold_words
  simp only [View.readCov, View.readAt_eq_ld, harg2.read_unread, harg3.read_unread, harg4.read_unread, harg6.read_unread]
  rw [View.canon_unit_zero zz, View.ld_unit_zero zz, View.ld_unit_zero zz]
end

section
variable (m : (ℓ : Loc nD τ sig) → Buf (Elt Ideal) ℓ) (c : Dev nD) (t : Fin cfg0.N)

/-- The stored block: the normed rows of the point's row tile times the point's columns. -/
theorem out_eq : (outsAt0 m c t.val t.isLt).1 = k0_pay2 (k0_pay1 (iblk m c 0 t) (iblk m c 1 t)) (iblk m c 2 t) := by
  by_cases h0 : t.val % 2 = 0
  · rw [outsAt0_A m c t h0]; dsimp only; rw [out_A]
  · rw [outsAt0_B m c t h0]; dsimp only; rw [out_B]
    have h1 : (t.val - 1) % 2 = 0 := by omega
    have hl : t.val - 1 < cfg0.N := Nat.lt_of_le_of_lt (Nat.sub_le _ _) t.isLt
    have e := outsAt0_A m c ⟨t.val - 1, hl⟩ h1
    rw [e]; dsimp only; rw [sout_A]
    have hrow : ∀ r, rowOf ⟨t.val - 1, hl⟩ r = rowOf t r := by
      intro r; unfold rowOf; apply Fin.ext
      have e1 := (idx t).2.2.2.2; have e2 := (idx ⟨t.val - 1, hl⟩).2.2.2.2
      simp only [e1, e2]; omega
    congr 1
    funext y
    have hy : y = ix2 (y 0 : Fin 512) (y 1 : Fin 2048) := by funext a; fin_cases a <;> rfl
    have e : ∀ (r : Fin 512) (k : Fin 2048), k0_pay1 (iblk m c 0 ⟨t.val - 1, hl⟩) (iblk m c 1 ⟨t.val - 1, hl⟩) (ix2 r k)
        = k0_pay1 (iblk m c 0 t) (iblk m c 1 t) (ix2 r k) := by
      intro r k
      rw [pay1_apply, pay1_apply]
      simp only [blk0, blk1, hrow]
    exact (congrArg _ hy).trans ((e (y 0) (y 1)).trans (congrArg _ hy.symm))

/-- A grid point's stored block is the projected array there. -/
theorem point (r : Fin 512) (n : Fin 2560) :
    (outsAt0 m c t.val t.isLt).1 (ix2 r n)
      = proj (m ((c : Thread nD τ).loc main_arg0)) (m ((c : Thread nD τ).loc main_arg1))
          (m ((c : Thread nD τ).loc main_arg2)) (ix2 (rowOf t r) (colOf t n)) := by
  rw [out_eq, pay2_apply]
  simp only [pay1_apply, blk0, blk1, blk2]
  rfl
end

/-- The kernel's output array after the run. -/
theorem array (m : (ℓ : Loc nD τ sig) → Buf (Elt Ideal) ℓ) (c : Dev nD) :
    (dats m 0 c).arrAt 3 cfg0.N = proj (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  have hy : y = ix2 (y 0 : Fin 512) (y 1 : Fin 2560) := by funext a; fin_cases a <;> rfl
  have h0 : (y 0).val < 512 := (y 0).isLt
  have h1 : (y 1).val < 2560 := (y 1).isLt
  refine (congrArg (outsAt0 m c t.val t.isLt).1 hy).trans ((point m c t (y 0) (y 1)).trans (congrArg _ ?_))
  unfold rowOf colOf
  funext a
  fin_cases a <;> apply Fin.ext <;> blk_simp [idx t] <;> simp <;> omega

/-- The reference's normed rows. -/
theorem reference_normed (x : Vec Ideal S8192x2048 .f32) (g : Vec Ideal S2048 .f32) (r : Fin 8192) (k : Fin 2048) :
    Cert.InRefIdeal.Read.val_main_v12 x g (ix2 r k : S8192x2048.Idx) = normed (fun j => x (ix2 r j)) (fun j => g (ix1 j)) k := by
  unfold normed eps width
  have h1 : ∀ j, Cert.InRefIdeal.Read.idx_main_v1 (Cert.InRefIdeal.Read.idx_main_v2 (Cert.InRefIdeal.Read.idx_main_v8 (ix2 r k))) j
      = ix2 r j := by intro j; funext a; fin_cases a <;> rfl
  have h2 : Cert.InRefIdeal.Read.idx_main_v10 (Cert.InRefIdeal.Read.idx_main_v11 (ix2 r k)) = ix1 k := by
    funext a; fin_cases a; rfl
  simp only [Cert.InRefIdeal.Read.val_main_v12_apply, Cert.InRefIdeal.Read.val_main_v11_apply, Cert.InRefIdeal.Read.val_main_v10_apply, Cert.InRefIdeal.Read.val_main_v9_apply, Cert.InRefIdeal.Read.val_main_v8_apply, Cert.InRefIdeal.Read.val_main_v7_apply, Cert.InRefIdeal.Read.val_main_v6_apply, Cert.InRefIdeal.Read.val_main_v5_apply, Cert.InRefIdeal.Read.val_main_v4_apply, Cert.InRefIdeal.Read.val_main_v3_apply, Cert.InRefIdeal.Read.val_main_v2_apply, Cert.InRefIdeal.Read.val_main_v1_apply, Cert.InRefIdeal.Read.val_main_v0_apply, Cert.InRefIdeal.Read.val_main_cst_apply, Cert.InRefIdeal.Read.val_main_cst_0_apply, Cert.InRefIdeal.Read.val_main_cst_1_apply, h1, h2]
  have h0 : (FloatOps.ofBits (F := Ideal) FTy.f32 0#32 : EReal) = 0 := by
    show Ideal.ofBits FTy.f32 0#32 = 0
    simp [Ideal.ofBits, Ideal.ieee]
  rw [h0, zero_add]
  rfl

/-- The reference. -/
theorem reference (x : Vec Ideal S8192x2048 .f32) (g : Vec Ideal S2048 .f32) (w : Vec Ideal S2048x5120 .bf16) :
    Cert.InRefIdeal.Read.val_main_v14 x g w = proj x g w := by
  funext y
  unfold proj
  rw [Cert.InRefIdeal.Read.val_main_v14_apply]
  refine Finset.sum_congr rfl fun k _ => congrArg₂ (· * ·) ?_ ?_
  · refine (congrArg _ ?_).trans (reference_normed x g (y 0) k)
    funext a; fin_cases a <;> rfl
  · rw [Cert.InRefIdeal.Read.val_main_v13_apply]
    refine congrArg w ?_
    funext a; fin_cases a <;> rfl

end Cert.InProj

end
-- ==== Proof.PeerQuery.lean ====
/- The expert query projection: the normed rows, and the normed rows times the weight of all heads side by side. -/
module

public import proofs.«01_k».proof.Proof.Gen.QueryIdeal.Value
public import proofs.«01_k».proof.Proof.Gen.QueryRefIdeal.Read
public import proofs.«01_k».proof.Proof.InProj

@[expose] public section

set_option maxRecDepth 16384

noncomputable section

namespace Cert.PeerQuery

open Cert.QueryIdeal Cert.QueryIdeal.Gen Cert.QueryIdeal.Value Idealize.ShloMosaic Idealize.ShloMosaic.TcCoe Idealize.ShloMosaic.Tactic
open Cert.Offsets Cert.Norm

/-- The head a packed column belongs to. -/
def headOf (n : Fin 2048) : Fin 8 := ⟨n.val / 256, by have := n.isLt; omega⟩

/-- The head's column a packed column stands for. -/
def colOf (n : Fin 2048) : Fin 256 := ⟨n.val % 256, by omega⟩

/-- The normed rows. -/
def rows (x : Vec Ideal S8192x2048 .f32) (g : Vec Ideal S2048 .f32) : Vec Ideal S8192x2048 .bf16 :=
  fun y => normed (fun j => x (ix2 (y 0 : Fin 8192) j)) (fun j => g (ix1 j)) (y 1)

/-- The projected array. -/
def proj (x : Vec Ideal S8192x2048 .f32) (g : Vec Ideal S2048 .f32) (w : Vec Ideal S2048x8x256 .f32) :
    Vec Ideal S8192x2048 .f32 :=
  fun y => ∑ k : Fin 2048, normed (fun j => x (ix2 (y 0 : Fin 8192) j)) (fun j => g (ix1 j)) k
    * w (ix3 k (headOf (y 1)) (colOf (y 1)))

theorem pay1_apply (x : Vec Ideal S512x2048 .f32) (g : Vec Ideal S1x2048 .f32) (r : Fin 512) (k : Fin 2048) :
    k0_pay1 x g (ix2 r k) = normed (fun j => x (ix2 r j)) (fun j => g (ix2 0 j)) k := by
  unfold k0_pay1 normed eps width; pointwise

theorem pay2_eq (x : Vec Ideal S512x2048 .f32) (g : Vec Ideal S1x2048 .f32) : k0_pay2 x g = k0_pay1 x g := by
  funext j; unfold k0_pay2; generalize k0_pay1 x g = p; pointwise

theorem pay3_apply (a : Vec Ideal S512x2048 .bf16) (w : Vec Ideal S2048x2048 .bf16) (r : Fin 512) (n : Fin 2048) :
    k0_pay3 a w (ix2 r n) = ∑ k, a (ix2 r k) * w (ix2 k n) := by
  unfold k0_pay3; pointwise

/-- Where the windows put a grid point's blocks. -/
theorem idx : ∀ t : Fin cfg0.N,
    win0_0.index t = ![(grid0.coords t 0).val, 0] ∧ win0_1.index t = ![0, 0]
    ∧ win0_2.index t = ![0, 0] ∧ win0_3.index t = ![(grid0.coords t 0).val, 0]
    ∧ win0_4.index t = ![(grid0.coords t 0).val, 0] :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 512) : Fin 8192 :=
  ⟨512 * (grid0.coords t 0).val + r.val, by have : (grid0.coords t 0).val < 16 := (grid0.coords t 0).isLt; have := r.isLt; omega⟩

theorem blk0 (r : Fin 512) (k : Fin 2048) :
    iblk m c 0 t (ix2 r k) = m ((c : Thread nD τ).loc main_arg0) (ix2 (rowOf t r) k) := by
  unfold rowOf
  blk_ext [iblk, V, idx t]

theorem blk1 (k : Fin 2048) :
    iblk m c 1 t (ix2 (0 : Fin 1) k) = m ((c : Thread nD τ).loc main_arg1) (ix1 k) := by
  have h : V m c main_v2 = (shapeCast S1x2048 (α := Ideal .f32) (m ((c : Thread nD τ).loc main_arg1)) shapeCasts_S2048_S1x2048 : FVec Ideal S1x2048 .f32) := by
    entry_read; rfl
  have e : iblk m c 1 t (ix2 (0 : Fin 1) k) = V m c main_v2 (ix2 (0 : Fin 1) k : S1x2048.Idx) := by
    blk_ext [iblk, idx t]
  rw [e, h]
  pointwise

theorem blk2 (k n : Fin 2048) :
    iblk m c 2 t (ix2 k n) = m ((c : Thread nD τ).loc main_arg2) (ix3 k (headOf n) (colOf n)) := by
  have h : V m c main_v1 = (truncf .bf16 (shapeCast S2048x2048 (α := Ideal .f32) (m ((c : Thread nD τ).loc main_arg2)) shapeCasts_S2048x8x256_S2048x2048) bitsLt_bf16_f32 : FVec Ideal S2048x2048 .bf16) := by
    entry_read; rfl
  have e : iblk m c 2 t (ix2 k n) = V m c main_v1 (ix2 k n : S2048x2048.Idx) := by
    blk_ext [iblk, idx t]
  rw [e, h]
  unfold headOf colOf
  pointwise
end

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2048 .bf16) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S512x2048 .bf16) (harg7 : arg7.IsWhole) (hc0 : cond0_0 i)
  (x0 : Vec Ideal S512x2048 .f32) (x1 : Vec Ideal S1x2048 .f32) (x2 : Vec Ideal S2048x2048 .bf16)

theorem out_proj : out0_A_3 (F := Ideal) c i arg2 harg2 arg3 harg3 arg4 harg4 arg5 harg5 arg6 harg6 arg7 harg7 hc0 x0 x1 x2
    = k0_pay3 (k0_pay1 x0 x1) x2 := by
  unfold out0_A_3
  rw [View.read_writes_eq_canon _ _ _ (fun y => cover0_A_3 c i arg2 harg2 arg3 harg3 arg4 harg4 arg5 harg5 arg6 harg6 arg7 harg7 hc0 x0 x1 x2 y)]
  unfold kernelRun0_A
  dsimp only
  sl_unfold_words
  simp only [View.readCov, View.readAt_eq_ld, harg2.read_unread, harg3.read_unread, harg4.read_unread]
  rw [View.canon_unit_zero zz, read_whole_store _ _ zz, View.ld_unit_zero zz, View.ld_unit_zero zz, View.ld_unit_zero zz, View.ld_unit_zero zz, pay2_eq]

theorem out_rows : out0_A_4 (F := Ideal) c i arg2 harg2 arg3 harg3 arg4 harg4 arg5 harg5 arg6 harg6 arg7 harg7 hc0 x0 x1 x2
    = k0_pay1 x0 x1 := by
  unfold out0_A_4
  rw [View.read_writes_eq_canon _ _ _ (fun y => cover0_A_4 c i arg2 harg2 arg3 harg3 arg4 harg4 arg5 harg5 arg6 harg6 arg7 harg7 hc0 x0 x1 x2 y)]
  unfold kernelRun0_A
  dsimp only
  sl_unfold_words
  simp only [View.readCov, View.readAt_eq_ld, harg2.read_unread, harg3.read_unread, harg4.read_unread]
  rw [View.canon_unit_zero zz, View.ld_unit_zero zz, View.ld_unit_zero zz]
end

section
variable (m : (ℓ : Loc nD τ sig) → Buf (Elt Ideal) ℓ) (c : Dev nD) (t : Fin cfg0.N)

/-- A grid point's stored block is the projected array there. -/
theorem point_proj (r : Fin 512) (n : Fin 2048) :
    (outsAt0 m c t).1 (ix2 r n)
      = proj (m ((c : Thread nD τ).loc main_arg0)) (m ((c : Thread nD τ).loc main_arg1))
          (m ((c : Thread nD τ).loc main_arg2)) (ix2 (rowOf t r) n) := by
  unfold outsAt0; dsimp only
  rw [out_proj, pay3_apply]
  simp only [pay1_apply, blk0, blk1, blk2]
  rfl

/-- A grid point's stored rows are the normed rows there. -/
theorem point_rows (r : Fin 512) (n : Fin 2048) :
    (outsAt0 m c t).2 (ix2 r n)
      = rows (m ((c : Thread nD τ).loc main_arg0)) (m ((c : Thread nD τ).loc main_arg1)) (ix2 (rowOf t r) n) := by
  unfold outsAt0; dsimp only
  rw [out_rows, pay1_apply]
  simp only [blk0, blk1]
  rfl
end

section
variable (m : (ℓ : Loc nD τ sig) → Buf (Elt Ideal) ℓ) (c : Dev nD)

/-- The kernel's projected array after the run. -/
theorem array_proj :
    (dats m 0 c).arrAt 3 cfg0.N = proj (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3]
  have hy : y = ix2 (y 0 : Fin 512) (y 1 : Fin 2048) := by funext a; fin_cases a <;> rfl
  have h0 : (y 0).val < 512 := (y 0).isLt
  refine (congrArg (outsAt0 m c t).1 hy).trans ((point_proj m c t (y 0) (y 1)).trans (congrArg _ ?_))
  unfold rowOf
  funext a
  fin_cases a <;> apply Fin.ext <;> blk_simp [idx t] <;> simp <;> omega

/-- The kernel's array of normed rows after the run. -/
theorem array_rows :
    (dats m 0 c).arrAt 4 cfg0.N = rows (m ((c : Thread nD τ).loc main_arg0)) (m ((c : Thread nD τ).loc main_arg1)) := by
  refine (dats m 0 c).arrAt_eq_of_covers 4 _ (by decide +kernel) fun t hf y => ?_
  blk_simp
  rw [after0_4]
  have hy : y = ix2 (y 0 : Fin 512) (y 1 : Fin 2048) := by funext a; fin_cases a <;> rfl
  have h0 : (y 0).val < 512 := (y 0).isLt
  refine (congrArg (outsAt0 m c t).2 hy).trans ((point_rows m c t (y 0) (y 1)).trans (congrArg _ ?_))
  unfold rowOf
  funext a
  fin_cases a <;> apply Fin.ext <;> blk_simp [idx t] <;> simp <;> omega
end

section
open Cert.QueryRefIdeal.Read
variable (x : Vec Ideal S8192x2048 .f32) (g : Vec Ideal S2048 .f32)

/-- The reference norms its rows as the input projection's does. -/
theorem normed_eq (r : Fin 8192) (k : Fin 2048) :
    val_main_v12 x g (ix2 r k : S8192x2048.Idx) = normed (fun j => x (ix2 r j)) (fun j => g (ix1 j)) k :=
  Cert.InProj.reference_normed x g r k

theorem reference_rows : val_main_v15 x g = rows x g := by
  funext y
  rw [val_main_v15_apply]
  refine (congrArg (val_main_v12 x g) ?_).trans (normed_eq x g (y 0) (y 1))
  funext a; fin_cases a <;> rfl

theorem reference_proj (w : Vec Ideal S2048x8x256 .f32) : val_main_v14 x g w = proj x g w := by
  funext y
  have h0 : (y 0).val < 8192 := (y 0).isLt
  have h1 : (y 1).val < 2048 := (y 1).isLt
  unfold proj
  rw [val_main_v14_apply, val_main_v13_apply]
  refine Finset.sum_congr rfl fun k _ => congrArg₂ (· * ·) ?_ (congrArg w ?_)
  · refine (congrArg _ ?_).trans (normed_eq x g (y 0) k)
    funext a
    fin_cases a <;> apply Fin.ext <;> simp <;> omega
  · unfold headOf colOf
    funext a
    fin_cases a <;> apply Fin.ext <;> simp <;> omega
end

end Cert.PeerQuery

end
-- ==== Proof.OutProj.lean ====
/- The output projection: the residual plus two products, one per half of the weight's rows, is the residual plus the
   product of the two inputs side by side. -/
module

public import proofs.«01_k».proof.Proof.Gen.OutIdeal.Value
public import proofs.«01_k».proof.Proof.Gen.OutRefIdeal.Read
public import proofs.«01_k».proof.Proof.Offsets
public import Idealize.ShloMosaic.Lib.Pipeline.ValueKit
public import Idealize.ShloMosaic.Lib.Pointwise

@[expose] public section

set_option maxRecDepth 16384

noncomputable section

namespace Cert.OutProj

open Cert.OutIdeal Cert.OutIdeal.Gen Cert.OutIdeal.Value Idealize.ShloMosaic Idealize.ShloMosaic.TcCoe Idealize.ShloMosaic.Tactic
open Cert.Offsets

/-- A row of the weight's upper half. -/
def up (k : Fin 1024) : Fin 2048 := ⟨k.val, by omega⟩

/-- A row of the weight's lower half. -/
def down (k : Fin 1024) : Fin 2048 := ⟨1024 + k.val, by omega⟩

/-- The projected array. -/
def proj (a b : Vec Ideal S8192x1024 .bf16) (w : Vec Ideal S2048x2048 .f32) (x : Vec Ideal S8192x2048 .f32) :
    Vec Ideal S8192x2048 .f32 :=
  fun y => x y + (∑ k : Fin 1024, a (ix2 (y 0 : Fin 8192) k) * w (ix2 (up k) (y 1 : Fin 2048))
    + ∑ k : Fin 1024, b (ix2 (y 0 : Fin 8192) k) * w (ix2 (down k) (y 1 : Fin 2048)))

theorem pay_apply (x : Vec Ideal S512x2048 .f32) (a : Vec Ideal S512x1024 .bf16) (u : Vec Ideal S1024x2048 .bf16)
    (b : Vec Ideal S512x1024 .bf16) (d : Vec Ideal S1024x2048 .bf16) (r : Fin 512) (n : Fin 2048) :
    k0_pay1 x a u b d (ix2 r n)
      = x (ix2 r n) + (∑ k, a (ix2 r k) * u (ix2 k n) + ∑ k, b (ix2 r k) * d (ix2 k n)) := by
  unfold k0_pay1; pointwise

/-- Where the windows put a grid point's blocks. -/
theorem idx : ∀ t : Fin cfg0.N,
    win0_0.index t = ![(grid0.coords t 0).val, 0] ∧ win0_1.index t = ![(grid0.coords t 0).val, 0]
    ∧ win0_2.index t = ![0, 0] ∧ win0_3.index t = ![0, 0]
    ∧ win0_4.index t = ![(grid0.coords t 0).val, 0] ∧ win0_5.index t = ![(grid0.coords t 0).val, 0] :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 512) : Fin 8192 :=
  ⟨512 * (grid0.coords t 0).val + r.val, by have : (grid0.coords t 0).val < 16 := (grid0.coords t 0).isLt; have := r.isLt; omega⟩

theorem blk0 (r : Fin 512) (k : Fin 1024) :
    iblk m c 0 t (ix2 r k) = m ((c : Thread nD τ).loc main_arg0) (ix2 (rowOf t r) k) := by
  unfold rowOf
  blk_ext [iblk, V, idx t]

theorem blk1 (r : Fin 512) (k : Fin 1024) :
    iblk m c 1 t (ix2 r k) = m ((c : Thread nD τ).loc main_arg1) (ix2 (rowOf t r) k) := by
  unfold rowOf
  blk_ext [iblk, V, idx t]

theorem blk2 (k : Fin 1024) (n : Fin 2048) :
    iblk m c 2 t (ix2 k n) = m ((c : Thread nD τ).loc main_arg2) (ix2 (up k) n) := by
  have h : V m c main_v1 = (truncf .bf16 (extractStridedSlice (α := Ideal .f32) S1024x2048 ![0, 0] (m ((c : Thread nD τ).loc main_arg2)) slices_S2048x2048_S1024x2048_0_0) bitsLt_bf16_f32 : FVec Ideal S1024x2048 .bf16) := by
    entry_read; rfl
  have e : iblk m c 2 t (ix2 k n) = V m c main_v1 (ix2 k n : S1024x2048.Idx) := by
    blk_ext [iblk, idx t]
  rw [e, h]
  unfold up
  pointwise

theorem blk3 (k : Fin 1024) (n : Fin 2048) :
    iblk m c 3 t (ix2 k n) = m ((c : Thread nD τ).loc main_arg2) (ix2 (down k) n) := by
  have h : V m c main_v3 = (truncf .bf16 (extractStridedSlice (α := Ideal .f32) S1024x2048 ![1024, 0] (m ((c : Thread nD τ).loc main_arg2)) slices_S2048x2048_S1024x2048_1024_0) bitsLt_bf16_f32 : FVec Ideal S1024x2048 .bf16) := by
    entry_read; rfl
  have e : iblk m c 3 t (ix2 k n) = V m c main_v3 (ix2 k n : S1024x2048.Idx) := by
    blk_ext [iblk, idx t]
  rw [e, h]
  unfold down
  pointwise

theorem blk4 (r : Fin 512) (n : Fin 2048) :
    iblk m c 4 t (ix2 r n) = m ((c : Thread nD τ).loc main_arg3) (ix2 (rowOf t r) n) := by
  unfold rowOf
  blk_ext [iblk, V, idx t]

/-- A grid point's stored block is the projected array there. -/
theorem point (r : Fin 512) (n : Fin 2048) :
    out0_5 (iblk m c 0 t) (iblk m c 1 t) (iblk m c 2 t) (iblk m c 3 t) (iblk m c 4 t) (ix2 r n)
      = proj (m ((c : Thread nD τ).loc main_arg0)) (m ((c : Thread nD τ).loc main_arg1))
          (m ((c : Thread nD τ).loc main_arg2)) (m ((c : Thread nD τ).loc main_arg3)) (ix2 (rowOf t r) n) := by
  unfold out0_5
  rw [View.canon_unit_zero zz, View.ld_unit_zero zz, View.ld_unit_zero zz, View.ld_unit_zero zz, View.ld_unit_zero zz, View.ld_unit_zero zz, pay_apply]
  simp only [blk0, blk1, blk2, blk3, blk4]
  rfl
end

/-- The kernel's output array after the run. -/
theorem array (m : (ℓ : Loc nD τ sig) → Buf (Elt Ideal) ℓ) (c : Dev nD) :
    (dats m 0 c).arrAt 5 cfg0.N = proj (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  blk_simp
  rw [after0_5]
  have hy : y = ix2 (y 0 : Fin 512) (y 1 : Fin 2048) := by funext a; fin_cases a <;> rfl
  have h0 : (y 0).val < 512 := (y 0).isLt
  refine (congrArg (out0_5 _ _ _ _ _) hy).trans ((point m c t (y 0) (y 1)).trans (congrArg _ ?_))
  unfold rowOf
  funext a
  fin_cases a <;> apply Fin.ext <;> blk_simp [idx t] <;> simp <;> omega

/-- The reference's product over all 2048 columns is the two halves' products, summed. -/
theorem reference (a b : Vec Ideal S8192x1024 .bf16) (w : Vec Ideal S2048x2048 .f32) (x : Vec Ideal S8192x2048 .f32) :
    Cert.OutRefIdeal.Read.val_main_v4 a b w x = proj a b w x := by
  funext y
  rw [Cert.OutRefIdeal.Read.val_main_v4_apply, Cert.OutRefIdeal.Read.val_main_v3_apply]
  unfold proj
  refine congrArg (x y + ·) ?_
  refine (Fin.sum_univ_add (a := 1024) (b := 1024) _).trans ?_
  refine congrArg₂ (· + ·) (Finset.sum_congr rfl fun k _ => ?_) (Finset.sum_congr rfl fun k _ => ?_)
  · refine congrArg₂ (· * ·) ?_ (congrArg w ?_)
    · unfold Cert.OutRefIdeal.Read.val_main_v2
      pointwise
      rw [dif_pos (show (Fin.castAdd 1024 k).val < 1024 from k.isLt)]
      rfl
    · funext a; fin_cases a <;> rfl
  · refine congrArg₂ (· * ·) ?_ (congrArg w ?_)
    · unfold Cert.OutRefIdeal.Read.val_main_v2
      pointwise
      rw [dif_neg (by simp)]
      rw [Cert.OutRefIdeal.Read.val_main_v1_apply]
      refine congrArg b (funext fun i => Fin.ext ?_)
      fin_cases i <;> simp
    · funext a; fin_cases a <;> rfl
end Cert.OutProj

end
-- ==== Proof.Heads.lean ====
/- The two projections head by head: queries into the latent space (128 entries of a head to 256), and the latent attention's
   result out of it (256 entries of a head to 128). Each head's rows are multiplied by that head's matrix. -/
module

public import proofs.«01_k».proof.Proof.Gen.AbsorbIdeal.Value
public import proofs.«01_k».proof.Proof.Gen.AbsorbRefIdeal.Read
public import proofs.«01_k».proof.Proof.Gen.UpIdeal.Value
public import proofs.«01_k».proof.Proof.Gen.UpRefIdeal.Read
public import proofs.«01_k».proof.Proof.Offsets
public import Idealize.ShloMosaic.Lib.Pipeline.ValueKit
public import Idealize.ShloMosaic.Lib.Pointwise

@[expose] public section

set_option maxRecDepth 16384

noncomputable section

namespace Cert.Heads

open Idealize.ShloMosaic Idealize.ShloMosaic.TcCoe Idealize.ShloMosaic.Tactic Cert.Offsets

/-- Entry `k` of head `h`, packed 128 entries a head. -/
def narrow (h : Fin 8) (k : Fin 128) : Fin 1024 := ⟨128 * h.val + k.val, by have := h.isLt; have := k.isLt; omega⟩

/-- Entry `k` of head `h`, packed 256 entries a head. -/
def wide (h : Fin 8) (k : Fin 256) : Fin 2048 := ⟨256 * h.val + k.val, by have := h.isLt; have := k.isLt; omega⟩

namespace Absorb

open Cert.AbsorbIdeal Cert.AbsorbIdeal.Gen Cert.AbsorbIdeal.Value

/-- The queries in the latent space. -/
def result (q : Vec Ideal S8192x1024 .bf16) (w : Vec Ideal S256x8x128 .f32) (r : Fin 8192) (h : Fin 8) (n : Fin 256) : EReal :=
  ∑ k : Fin 128, q (ix2 r (narrow h k)) * w (ix3 n h k)

def headOf (n : Fin 2048) : Fin 8 := ⟨n.val / 256, by have := n.isLt; omega⟩
def colOf (n : Fin 2048) : Fin 256 := ⟨n.val % 256, by omega⟩

def packed (q : Vec Ideal S8192x1024 .bf16) (w : Vec Ideal S256x8x128 .f32) : Vec Ideal S8192x2048 .bf16 :=
  fun y => result q w (y 0) (headOf (y 1)) (colOf (y 1))

theorem pay_apply (a : Vec Ideal S1024x128 .bf16) (w : Vec Ideal S1x128x256 .bf16) (r : Fin 1024) (n : Fin 256) :
    k0_pay1 a w (ix2 r n) = ∑ k, a (ix2 r k) * w (ix3 0 k n) := by
  unfold k0_pay1; pointwise

theorem idx : ∀ t : Fin cfg0.N,
    win0_0.index t = ![(grid0.coords t 0).val, (grid0.coords t 1).val]
    ∧ win0_1.index t = ![(grid0.coords t 1).val, 0, 0]
    ∧ win0_2.index t = ![(grid0.coords t 0).val, (grid0.coords t 1).val] :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 1024) : Fin 8192 :=
  ⟨1024 * (grid0.coords t 0).val + r.val, by have : (grid0.coords t 0).val < 8 := (grid0.coords t 0).isLt; have := r.isLt; omega⟩

/-- The head of point `t`. -/
def head : Fin 8 := grid0.coords t 1

theorem blk0 (r : Fin 1024) (k : Fin 128) :
    iblk m c 0 t (ix2 r k) = m ((c : Thread nD τ).loc main_arg0) (ix2 (rowOf t r) (narrow (head t) k)) := by
  unfold rowOf narrow head
  blk_ext [iblk, V, idx t]

theorem blk1 (k : Fin 128) (n : Fin 256) :
    iblk m c 1 t (ix3 (0 : Fin 1) k n) = m ((c : Thread nD τ).loc main_arg1) (ix3 n (head t) k) := by
  have h : V m c main_v1 = (truncf .bf16 (transpose (α := Ideal .f32) S8x128x256 [1, 2, 0] (m ((c : Thread nD τ).loc main_arg1)) transposes_S256x8x128_S8x128x256_1_2_0) bitsLt_bf16_f32 : FVec Ideal S8x128x256 .bf16) := by
    entry_read; rfl
  have e : iblk m c 1 t (ix3 (0 : Fin 1) k n) = V m c main_v1 (ix3 (head t) k n : S8x128x256.Idx) := by
    unfold head
    blk_ext [iblk, idx t]
  rw [e, h]
  pointwise

theorem point (r : Fin 1024) (n : Fin 256) :
    out0_2 (iblk m c 0 t) (iblk m c 1 t) (ix2 r n)
      = result (m ((c : Thread nD τ).loc main_arg0)) (m ((c : Thread nD τ).loc main_arg1)) (rowOf t r) (head t) n := by
  unfold out0_2
  rw [View.canon_unit_zero zz, View.ld_unit_zero zz, View.ld_unit_zero zzz, pay_apply]
  simp only [blk0, blk1]
  rfl
end

/-- The kernel's output array after the run. -/
theorem array (m : (ℓ : Loc nD τ sig) → Buf (Elt Ideal) ℓ) (c : Dev nD) :
    (dats m 0 c).arrAt 2 cfg0.N = packed (m ((c : Thread nD τ).loc main_arg0)) (m ((c : Thread nD τ).loc main_arg1)) := by
  refine (dats m 0 c).arrAt_eq_of_covers 2 _ (by decide +kernel) fun t hf y => ?_
  blk_simp
  rw [after0_2]
  have hy : y = ix2 (y 0 : Fin 1024) (y 1 : Fin 256) := by funext a; fin_cases a <;> rfl
  have h0 : (y 0).val < 1024 := (y 0).isLt
  have h1 : (y 1).val < 256 := (y 1).isLt
  refine (congrArg (out0_2 _ _) hy).trans ((point m c t (y 0) (y 1)).trans ?_)
  unfold packed
  have e0 : (win0_2.blk t).view.emb y 0 = rowOf t (y 0) := by
    apply Fin.ext; unfold rowOf; blk_simp [idx t]; simp; omega
  have e1 : headOf ((win0_2.blk t).view.emb y 1) = head t := by
    apply Fin.ext; unfold headOf head; blk_simp [idx t]; simp; omega
  have e2 : colOf ((win0_2.blk t).view.emb y 1) = (y 1 : Fin 256) := by
    apply Fin.ext; unfold colOf; blk_simp [idx t]; simp; omega
  rw [e0, e1, e2]

open Cert.AbsorbRefIdeal.Read in
theorem reference (q : Vec Ideal S8192x1024 .bf16) (w : Vec Ideal S256x8x128 .f32) : val_main_v5 q w = packed q w := by
  funext y
  have h0 : (y 0).val < 8192 := (y 0).isLt
  have h1 : (y 1).val < 2048 := (y 1).isLt
  rw [val_main_v5_apply, val_main_v4_apply, val_main_v3_apply, val_main_v2_apply]
  simp only [val_main_v1_apply, val_main_v0_apply]
  unfold packed result
  refine Finset.sum_congr rfl fun k _ => (mul_comm _ _).trans ?_
  have hk : k.val < 128 := k.isLt
  refine congrArg₂ (· * ·) (congrArg q ?_) (congrArg w ?_)
  · unfold narrow headOf
    funext a
    fin_cases a <;> apply Fin.ext <;> simp <;> omega
  · unfold headOf colOf
    funext a
    fin_cases a <;> apply Fin.ext <;> simp <;> omega

end Absorb

namespace Up

open Cert.UpIdeal Cert.UpIdeal.Gen Cert.UpIdeal.Value

/-- A head's result in the value space. -/
def result (q : Vec Ideal S8192x2048 .bf16) (w : Vec Ideal S256x8x128 .f32) (r : Fin 8192) (h : Fin 8) (n : Fin 128) : EReal :=
  ∑ k : Fin 256, q (ix2 r (wide h k)) * w (ix3 k h n)

def headOf (n : Fin 1024) : Fin 8 := ⟨n.val / 128, by have := n.isLt; omega⟩
def colOf (n : Fin 1024) : Fin 128 := ⟨n.val % 128, by omega⟩

def packed (q : Vec Ideal S8192x2048 .bf16) (w : Vec Ideal S256x8x128 .f32) : Vec Ideal S8192x1024 .bf16 :=
  fun y => result q w (y 0) (headOf (y 1)) (colOf (y 1))

theorem pay_apply (a : Vec Ideal S1024x256 .bf16) (w : Vec Ideal S1x256x128 .bf16) (r : Fin 1024) (n : Fin 128) :
    k0_pay1 a w (ix2 r n) = ∑ k, a (ix2 r k) * w (ix3 0 k n) := by
  unfold k0_pay1; pointwise

theorem idx : ∀ t : Fin cfg0.N,
    win0_0.index t = ![(grid0.coords t 0).val, (grid0.coords t 1).val]
    ∧ win0_1.index t = ![(grid0.coords t 1).val, 0, 0]
    ∧ win0_2.index t = ![(grid0.coords t 0).val, (grid0.coords t 1).val] :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 1024) : Fin 8192 :=
  ⟨1024 * (grid0.coords t 0).val + r.val, by have : (grid0.coords t 0).val < 8 := (grid0.coords t 0).isLt; have := r.isLt; omega⟩

/-- The head of point `t`. -/
def head : Fin 8 := grid0.coords t 1

theorem blk0 (r : Fin 1024) (k : Fin 256) :
    iblk m c 0 t (ix2 r k) = m ((c : Thread nD τ).loc main_arg0) (ix2 (rowOf t r) (wide (head t) k)) := by
  unfold rowOf wide head
  blk_ext [iblk, V, idx t]

theorem blk1 (k : Fin 256) (n : Fin 128) :
    iblk m c 1 t (ix3 (0 : Fin 1) k n) = m ((c : Thread nD τ).loc main_arg1) (ix3 k (head t) n) := by
  have h : V m c main_v1 = (truncf .bf16 (transpose (α := Ideal .f32) S8x256x128 [1, 0, 2] (m ((c : Thread nD τ).loc main_arg1)) transposes_S256x8x128_S8x256x128_1_0_2) bitsLt_bf16_f32 : FVec Ideal S8x256x128 .bf16) := by
    entry_read; rfl
  have e : iblk m c 1 t (ix3 (0 : Fin 1) k n) = V m c main_v1 (ix3 (head t) k n : S8x256x128.Idx) := by
    unfold head
    blk_ext [iblk, idx t]
  rw [e, h]
  pointwise

theorem point (r : Fin 1024) (n : Fin 128) :
    out0_2 (iblk m c 0 t) (iblk m c 1 t) (ix2 r n)
      = result (m ((c : Thread nD τ).loc main_arg0)) (m ((c : Thread nD τ).loc main_arg1)) (rowOf t r) (head t) n := by
  unfold out0_2
  rw [View.canon_unit_zero zz, View.ld_unit_zero zz, View.ld_unit_zero zzz, pay_apply]
  simp only [blk0, blk1]
  rfl
end

/-- The kernel's output array after the run. -/
theorem array (m : (ℓ : Loc nD τ sig) → Buf (Elt Ideal) ℓ) (c : Dev nD) :
    (dats m 0 c).arrAt 2 cfg0.N = packed (m ((c : Thread nD τ).loc main_arg0)) (m ((c : Thread nD τ).loc main_arg1)) := by
  refine (dats m 0 c).arrAt_eq_of_covers 2 _ (by decide +kernel) fun t hf y => ?_
  blk_simp
  rw [after0_2]
  have hy : y = ix2 (y 0 : Fin 1024) (y 1 : Fin 128) := by funext a; fin_cases a <;> rfl
  have h0 : (y 0).val < 1024 := (y 0).isLt
  have h1 : (y 1).val < 128 := (y 1).isLt
  refine (congrArg (out0_2 _ _) hy).trans ((point m c t (y 0) (y 1)).trans ?_)
  unfold packed
  have e0 : (win0_2.blk t).view.emb y 0 = rowOf t (y 0) := by
    apply Fin.ext; unfold rowOf; blk_simp [idx t]; simp; omega
  have e1 : headOf ((win0_2.blk t).view.emb y 1) = head t := by
    apply Fin.ext; unfold headOf head; blk_simp [idx t]; simp; omega
  have e2 : colOf ((win0_2.blk t).view.emb y 1) = (y 1 : Fin 128) := by
    apply Fin.ext; unfold colOf; blk_simp [idx t]; simp; omega
  rw [e0, e1, e2]

open Cert.UpRefIdeal.Read in
theorem reference (q : Vec Ideal S8192x2048 .bf16) (w : Vec Ideal S256x8x128 .f32) : val_main_v5 q w = packed q w := by
  funext y
  have h0 : (y 0).val < 8192 := (y 0).isLt
  have h1 : (y 1).val < 1024 := (y 1).isLt
  rw [val_main_v5_apply, val_main_v4_apply, val_main_v3_apply, val_main_v2_apply]
  simp only [val_main_v1_apply, val_main_v0_apply]
  unfold packed result
  refine Finset.sum_congr rfl fun k _ => (mul_comm _ _).trans ?_
  have hk : k.val < 256 := k.isLt
  refine congrArg₂ (· * ·) (congrArg q ?_) (congrArg w ?_)
  · unfold wide headOf
    funext a
    fin_cases a <;> apply Fin.ext <;> simp <;> omega
  · unfold headOf colOf
    funext a
    fin_cases a <;> apply Fin.ext <;> simp <;> omega

end Up

end Cert.Heads

end
-- ==== Proof.ConvRows.lean ====
/- The last three rows of the convolution's input, from the layer's own arguments: the input projection of the prompt with the
   packed weight, then the host lines that cut the rows out of it. -/
module

public import proofs.«01_k».proof.Proof.Gen.StateIdeal.Frame
public import proofs.«01_k».proof.Proof.Gen.StateRefIdeal.Read
public import proofs.«01_k».proof.Proof.InProj

@[expose] public section

set_option maxRecDepth 16384

noncomputable section

namespace Cert.ConvRows

open Cert.StateIdeal Cert.StateIdeal.Gen Idealize.ShloMosaic Idealize.ShloMosaic.TcCoe Idealize.ShloMosaic.Tactic
open Cert.Offsets Cert.Norm

/-- Row `i` of the last three. -/
def lastRow (i : Fin 3) : Fin 8192 := ⟨8189 + i.val, by omega⟩

/-- The last three rows of the convolution's input. -/
def rows (x : Vec Ideal S1x8192x2048 .f32) (g : Vec Ideal S1x2048 .f32) (w : Vec Ideal S1x2048x4944 .f32) :
    Vec Ideal S1x1x3x3072 .f32 :=
  fun y => ∑ k : Fin 2048, normed (fun j => x (ix3 (0 : Fin 1) (lastRow (y 2 : Fin 3)) j)) (fun j => g (ix2 (0 : Fin 1) j)) k
    * w (ix3 (0 : Fin 1) k (⟨(y 3).val, by have : (y 3).val < 3072 := (y 3).isLt; omega⟩ : Fin 4944))

theorem pay1_apply (x : Vec Ideal S512x2048 .f32) (g : Vec Ideal S1x2048 .f32) (r : Fin 512) (k : Fin 2048) :
    k0_pay1 x g (ix2 r k) = normed (fun j => x (ix2 r j)) (fun j => g (ix2 0 j)) k := by
  unfold k0_pay1 normed eps width; pointwise

theorem pay2_apply (a : Vec Ideal S512x2048 .bf16) (w : Vec Ideal S2048x2560 .bf16) (r : Fin 512) (n : Fin 2560) :
    k0_pay2 a w (ix2 r n) = ∑ k, a (ix2 r k) * w (ix2 k n) := by
  unfold k0_pay2; pointwise

/-- Where the windows put a grid point's blocks. -/
theorem idx : ∀ t : Fin cfg0.N,
    win0_0.index t = ![(grid0.coords t 0).val, 0] ∧ win0_1.index t = ![0, 0]
    ∧ win0_2.index t = ![0, (grid0.coords t 1).val] ∧ win0_3.index t = ![(grid0.coords t 0).val, (grid0.coords t 1).val]
    ∧ (grid0.coords t 0).val = t.val / 2 :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 512) : Fin 8192 :=
  ⟨512 * (grid0.coords t 0).val + r.val, by have : (grid0.coords t 0).val < 16 := (grid0.coords t 0).isLt; have := r.isLt; omega⟩

/-- The column that column `n` of point `t`'s block is. -/
def colOf (n : Fin 2560) : Fin 5120 :=
  ⟨2560 * (grid0.coords t 1).val + n.val, by have : (grid0.coords t 1).val < 2 := (grid0.coords t 1).isLt; have := n.isLt; omega⟩

theorem blk0 (r : Fin 512) (k : Fin 2048) :
    iblk m c 0 t (ix2 r k) = m ((c : Thread nD τ).loc main_arg0) (ix3 (0 : Fin 1) (rowOf t r) k) := by
  have h : V m c main_v0 = (shapeCast S8192x2048 (α := Ideal .f32) (m ((c : Thread nD τ).loc main_arg0)) shapeCasts_S1x8192x2048_S8192x2048 : FVec Ideal S8192x2048 .f32) := by
    entry_read; rfl
  have e : iblk m c 0 t (ix2 r k) = V m c main_v0 (ix2 (rowOf t r) k : S8192x2048.Idx) := by
    unfold rowOf
    blk_ext [iblk, idx t]
  rw [e, h]
  generalize rowOf t r = q
  exact shapeCast_apply _ shapeCasts_S1x8192x2048_S8192x2048 (ix2 q k) (ix3 (0 : Fin 1) q k)
    (by rewrite [Shape.rowMajor_val_three, Shape.rowMajor_val_two]; show (0 * 8192 + q.val) * 2048 + k.val = q.val * 2048 + k.val; omega)

theorem blk1 (k : Fin 2048) :
    iblk m c 1 t (ix2 (0 : Fin 1) k) = m ((c : Thread nD τ).loc main_arg1) (ix2 (0 : Fin 1) k) := by
  have h : V m c main_v13 = (shapeCast S1x2048 (α := Ideal .f32) (shapeCast S2048 (α := Ideal .f32) (m ((c : Thread nD τ).loc main_arg1)) shapeCasts_S1x2048_S2048) shapeCasts_S2048_S1x2048 : FVec Ideal S1x2048 .f32) := by
    entry_read; rfl
  have e : iblk m c 1 t (ix2 (0 : Fin 1) k) = V m c main_v13 (ix2 (0 : Fin 1) k : S1x2048.Idx) := by
    blk_ext [iblk, idx t]
  rw [e, h]
  pointwise

theorem blk2 (k : Fin 2048) (n : Fin 2560) :
    iblk m c 2 t (ix2 k n) = V m c main_v11 (ix2 k (colOf t n) : S2048x5120.Idx) := by
  unfold colOf
  blk_ext [iblk, idx t]

theorem first_piece (a : FVec Ideal S2048x4096 .f32) (b : FVec Ideal S2048x768 .f32) (d e : FVec Ideal S2048x64 .f32)
    (f : FVec Ideal S2048x16 .f32) (g : FVec Ideal S2048x112 .f32) (k : Fin 2048) (n : Fin 3072) :
    (truncf .bf16 (concatenate (α := Ideal .f32) S2048x5120 1 [⟨S2048x4096, a⟩, ⟨S2048x768, b⟩, ⟨S2048x64, d⟩, ⟨S2048x64, e⟩, ⟨S2048x16, f⟩, ⟨S2048x112, g⟩]
      concatenates_S2048x4096_S2048x768_S2048x64_S2048x64_S2048x16_S2048x112_S2048x5120_d1) bitsLt_bf16_f32 : FVec Ideal S2048x5120 .bf16)
      (ix2 k (⟨n.val, by omega⟩ : Fin 5120)) = (a (ix2 k (⟨n.val, by omega⟩ : Fin 4096)) : EReal) := by
  pointwise
  rw [dif_pos (by omega)]

/-- The packed weight's first columns are the weight's own. -/
theorem weight (k : Fin 2048) (n : Fin 3072) :
    V m c main_v11 (ix2 k (⟨n.val, by omega⟩ : Fin 5120) : S2048x5120.Idx)
      = m ((c : Thread nD τ).loc main_arg2) (ix3 (0 : Fin 1) k (⟨n.val, by omega⟩ : Fin 4944)) := by
  unfold V V0
  simp only [hostOps0, List.flatten_cons, List.flatten_nil, List.append_nil]
  after_results
  refine (first_piece _ _ _ _ _ _ k n).trans ?_
  show HloOp.result _ _ (Proc.devRef .tc main_v3) _ = _
  after_results_loop
  generalize m ((c : Thread nD τ).loc main_arg2) = z
  pointwise
end

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x2560 .bf16) (harg4 : arg4.IsWhole) (arg5 : Memref sig .tc .vmem S512x2560 .f32) (harg5 : arg5.IsWhole) (arg6 : Memref sig .tc .vmem S512x2048 .bf16) (harg6 : arg6.IsWhole)
  (x0 : Vec Ideal S512x2048 .f32) (x1 : Vec Ideal S1x2048 .f32) (x2 : Vec Ideal S2048x2560 .bf16)

/-- The first column tile leaves the normed rows in the scratch buffer. -/
theorem sout_A (hc0 : cond0_0 i) :
    sout0_A_0 (F := Ideal) c i arg2 harg2 arg3 harg3 arg4 harg4 arg5 harg5 arg6 harg6 hc0 x0 x1 x2 = k0_pay1 x0 x1 := by
  unfold sout0_A_0
  rw [View.read_writes_eq_canon _ _ _ (fun y => scover0_A_0 c i arg2 harg2 arg3 harg3 arg4 harg4 arg5 harg5 arg6 harg6 hc0 x0 x1 x2 y)]
  unfold kernelRun0_A
  dsimp only
  sl_unfold_words
  simp only [View.readAt_eq_ld, harg2.read_unread, harg3.read_unread, harg4.read_unread]
  rw [View.canon_unit_zero zz, View.ld_unit_zero zz, View.ld_unit_zero zz]

theorem out_A (hc0 : cond0_0 i) :
    out0_A_3 (F := Ideal) c i arg2 harg2 arg3 harg3 arg4 harg4 arg5 harg5 arg6 harg6 hc0 x0 x1 x2 = k0_pay2 (k0_pay1 x0 x1) x2 := by
  unfold out0_A_3
  rw [View.read_writes_eq_canon _ _ _ (fun y => cover0_A_3 c i arg2 harg2 arg3 harg3 arg4 harg4 arg5 harg5 arg6 harg6 hc0 x0 x1 x2 y)]
  unfold kernelRun0_A
  dsimp only
  sl_unfold_words
  simp only [View.readCov, View.readAt_eq_ld, harg2.read_unread, harg3.read_unread, harg4.read_unread]
  rw [View.canon_unit_zero zz, read_whole_store _ _ zz, View.ld_unit_zero zz, View.ld_unit_zero zz, View.ld_unit_zero zz, View.ld_unit_zero zz]

theorem out_B (hc0 : ¬cond0_0 i) (s : Vec Ideal S512x2048 .bf16) :
    out0_B_3 (F := Ideal) c i arg2 harg2 arg3 harg3 arg4 harg4 arg5 harg5 arg6 harg6 hc0 x0 x1 x2 s = k0_pay2 s x2 := by
  unfold out0_B_3
  rw [View.read_writes_eq_canon _ _ _ (fun y => cover0_B_3 c i arg2 harg2 arg3 harg3 arg4 harg4 arg5 harg5 arg6 harg6 hc0 x0 x1 x2 s y)]
  unfold kernelRun0_B
  dsimp only
  sl_unfold_words
  simp only [View.readCov, View.readAt_eq_ld, harg2.read_unread, harg3.read_unread, harg4.read_unread, harg6.read_unread]
  rw [View.canon_unit_zero zz, View.ld_unit_zero zz, View.ld_unit_zero zz]
end

section
variable (m : (ℓ : Loc nD τ sig) → Buf (Elt Ideal) ℓ) (c : Dev nD) (t : Fin cfg0.N)

/-- The stored block: the normed rows of the point's row tile times the point's columns. -/
theorem out_eq : (outsAt0 m c t.val t.isLt).1 = k0_pay2 (k0_pay1 (iblk m c 0 t) (iblk m c 1 t)) (iblk m c 2 t) := by
  by_cases h0 : t.val % 2 = 0
  · rw [outsAt0_A m c t h0]; dsimp only; rw [out_A]
  · rw [outsAt0_B m c t h0]; dsimp only; rw [out_B]
    have h1 : (t.val - 1) % 2 = 0 := by omega
    have hl : t.val - 1 < cfg0.N := Nat.lt_of_le_of_lt (Nat.sub_le _ _) t.isLt
    have e := outsAt0_A m c ⟨t.val - 1, hl⟩ h1
    rw [e]; dsimp only; rw [sout_A]
    have hrow : ∀ r, rowOf ⟨t.val - 1, hl⟩ r = rowOf t r := by
      intro r; unfold rowOf; apply Fin.ext
      have e1 := (idx t).2.2.2.2; have e2 := (idx ⟨t.val - 1, hl⟩).2.2.2.2
      simp only [e1, e2]; omega
    refine congrArg (fun s => k0_pay2 s (iblk m c 2 t)) ?_
    funext y
    have hy : y = ix2 (y 0 : Fin 512) (y 1 : Fin 2048) := by funext a; fin_cases a <;> rfl
    have e : ∀ (r : Fin 512) (k : Fin 2048), k0_pay1 (iblk m c 0 ⟨t.val - 1, hl⟩) (iblk m c 1 ⟨t.val - 1, hl⟩) (ix2 r k)
        = k0_pay1 (iblk m c 0 t) (iblk m c 1 t) (ix2 r k) := by
      intro r k
      rw [pay1_apply, pay1_apply]
      simp only [blk0, blk1, hrow]
    exact (congrArg _ hy).trans ((e (y 0) (y 1)).trans (congrArg _ hy.symm))

/-- The projected array, with the weight as packed. -/
def proj : Vec Ideal S8192x5120 .f32 :=
  fun y => ∑ k : Fin 2048, normed (fun j => m ((c : Thread nD τ).loc main_arg0) (ix3 (0 : Fin 1) (y 0 : Fin 8192) j))
    (fun j => m ((c : Thread nD τ).loc main_arg1) (ix2 (0 : Fin 1) j)) k * (V m c main_v11 (ix2 k (y 1 : Fin 5120) : S2048x5120.Idx) : EReal)

theorem point (r : Fin 512) (n : Fin 2560) :
    (outsAt0 m c t.val t.isLt).1 (ix2 r n) = proj m c (ix2 (rowOf t r) (colOf t n)) := by
  rw [out_eq, pay2_apply]
  simp only [pay1_apply, blk0, blk1, blk2]
  rfl
end

section
variable (m : (ℓ : Loc nD τ sig) → Buf (Elt Ideal) ℓ) (c : Dev nD)

theorem array : (dats m 0 c).arrAt 3 cfg0.N = proj m c := by
  refine (dats m 0 c).arrAt_eq_of_covers 3 _ (by decide +kernel) fun t hf y => ?_
  blk_simp
  rw [after0_3]
  have hy : y = ix2 (y 0 : Fin 512) (y 1 : Fin 2560) := by funext a; fin_cases a <;> rfl
  have h0 : (y 0).val < 512 := (y 0).isLt
  have h1 : (y 1).val < 2560 := (y 1).isLt
  refine (congrArg (outsAt0 m c t.val t.isLt).1 hy).trans ((point m c t (y 0) (y 1)).trans (congrArg _ ?_))
  unfold rowOf colOf
  funext a
  fin_cases a <;> apply Fin.ext <;> blk_simp [idx t] <;> simp <;> omega

/-- What the host lines after the kernel leave in the result. -/
theorem tail : Pipeline.afterTail₀ cfgs (dats m) 0 (V0 m) [hostOps1] c main_v17
    = rows (m ((c : Thread nD τ).loc main_arg0)) (m ((c : Thread nD τ).loc main_arg1)) (m ((c : Thread nD τ).loc main_arg2)) := by
  have h : Pipeline.afterTail₀ cfgs (dats m) 0 (V0 m) [hostOps1] c main_v17
      = (broadcastInDim S1x1x3x3072 ![1, 2, 3] bcast_S1x3x3072_S1x1x3x3072_1_2_3 (broadcastInDim S1x3x3072 ![1, 2] bcast_S3x3072_S1x3x3072_1_2
          (extractStridedSlice (α := Ideal .f32) S3x3072 ![8189, 0] (proj m c) slices_S8192x5120_S3x3072_8189_0)) : FVec Ideal S1x1x3x3072 .f32) := by
    unfold Pipeline.afterTail₀
    simp only [hostOps1, List.flatten_cons, List.flatten_nil, List.append_nil]
    after_results
    rw [← array m c]
    exact congrArg (fun z : Vec Ideal S8192x5120 .f32 => (broadcastInDim S1x1x3x3072 ![1, 2, 3] bcast_S1x3x3072_S1x1x3x3072_1_2_3 (broadcastInDim S1x3x3072 ![1, 2] bcast_S3x3072_S1x3x3072_1_2
      (extractStridedSlice (α := Ideal .f32) S3x3072 ![8189, 0] z slices_S8192x5120_S3x3072_8189_0)) : FVec Ideal S1x1x3x3072 .f32))
      (Pipeline.withArrays_arr spec0 (by decide) c (V0 m c) (fun w => (dats m 0 c).arrAt w cfg0.N) 3)
  rw [h]
  funext y
  have hy : y = ix4 (y 0 : Fin 1) (y 1 : Fin 1) (y 2 : Fin 3) (y 3 : Fin 3072) := by funext a; fin_cases a <;> rfl
  have e : ∀ (a b : Fin 1) (i : Fin 3) (n : Fin 3072), (broadcastInDim S1x1x3x3072 ![1, 2, 3] bcast_S1x3x3072_S1x1x3x3072_1_2_3 (broadcastInDim S1x3x3072 ![1, 2] bcast_S3x3072_S1x3x3072_1_2
      (extractStridedSlice (α := Ideal .f32) S3x3072 ![8189, 0] (proj m c) slices_S8192x5120_S3x3072_8189_0)) : FVec Ideal S1x1x3x3072 .f32) (ix4 a b i n)
      = rows (m ((c : Thread nD τ).loc main_arg0)) (m ((c : Thread nD τ).loc main_arg1)) (m ((c : Thread nD τ).loc main_arg2)) (ix4 a b i n) := by
    intro a b i n
    have e1 : ∀ z : FVec Ideal S8192x5120 .f32, (broadcastInDim S1x1x3x3072 ![1, 2, 3] bcast_S1x3x3072_S1x1x3x3072_1_2_3 (broadcastInDim S1x3x3072 ![1, 2] bcast_S3x3072_S1x3x3072_1_2
        (extractStridedSlice (α := Ideal .f32) S3x3072 ![8189, 0] z slices_S8192x5120_S3x3072_8189_0)) : FVec Ideal S1x1x3x3072 .f32) (ix4 a b i n)
        = z (ix2 (lastRow i) (⟨n.val, by omega⟩ : Fin 5120)) := by
      intro z
      unfold lastRow
      pointwise
    rw [e1]
    unfold proj rows
    exact Finset.sum_congr rfl fun k _ => congrArg₂ (· * ·) rfl (weight m c k n)
  exact (congrArg _ hy).trans ((e (y 0) (y 1) (y 2) (y 3)).trans (congrArg _ hy.symm))

/-- The run: the result, and the arguments unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v17)
        = rows (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (run_main m g) (unchanged m g)) fun _ h c => ⟨((h.1 c).2 main_v17 (by decide)).trans (tail m c), h.2 c⟩
end

section
open Cert.StateRefIdeal.Read

theorem ref_normed (x : Vec Ideal S1x8192x2048 .f32) (g : Vec Ideal S1x2048 .f32) (t : Fin 8192) (k : Fin 2048) :
    val_main_v13 x g (ix3 (0 : Fin 1) t k) = normed (fun j => x (ix3 (0 : Fin 1) t j)) (fun j => g (ix2 (0 : Fin 1) j)) k := by
  have hz : (val_main_cst (F := Ideal)) (Shape.Idx.first Cert.StateRefIdeal.Gen.h_S_) = 0 := by
    show Ideal.ofBits FTy.f32 0#32 = 0
    simp [Ideal.ofBits, Ideal.ieee]
  rw [val_main_v13_apply, val_main_v10_apply, val_main_v9_apply, val_main_v8_apply, val_main_v7_apply, val_main_v5_apply,
    val_main_v3_apply, val_main_v2_apply, val_main_v12_apply, val_main_v11_apply, val_main_v0_apply, hz, zero_add]
  unfold normed
  refine congrArg₂ (· * ·) (congrArg₂ (· * ·) rfl (congrArg Ideal.rsqrt (congrArg₂ (· + ·) (congrArg₂ Ideal.div ?_ rfl) rfl))) (congrArg g ?_)
  · refine Finset.sum_congr rfl fun j _ => ?_
    rw [val_main_v1_apply]
    have e : idx_main_v2 (idx_main_v3 (idx_main_v9 (ix3 (0 : Fin 1) t k))) j = ix3 (0 : Fin 1) t j := by
      funext a; fin_cases a <;> rfl
    rw [e]
    rfl
  · funext a
    fin_cases a <;> apply Fin.ext <;> simp <;> omega

theorem reference (x : Vec Ideal S1x8192x2048 .f32) (g : Vec Ideal S1x2048 .f32) (w : Vec Ideal S1x2048x4944 .f32) :
    val_main_v20 x g w = rows x g w := by
  funext y
  have h2 : (y 2).val < 3 := (y 2).isLt
  rw [val_main_v20_apply, val_main_v19_apply]
  have e : idx_main_v19 (idx_main_v20 y) = ix3 (0 : Fin 1) (⟨8192 + (y 2).val, by omega⟩ : Fin 8195) (y 3 : Fin 3072) := by
    funext a; fin_cases a <;> rfl
  refine (congrArg (val_main_v18 x g w) e).trans ?_
  unfold val_main_v18
  pointwise
  rw [dif_neg (by omega), val_main_v17_apply, val_main_v15_apply]
  unfold rows
  refine Finset.sum_congr rfl fun k _ => congrArg₂ (· * ·) ?_ ?_
  · refine (congrArg _ ?_).trans (ref_normed x g (lastRow (y 2 : Fin 3)) k)
    unfold lastRow
    funext a
    fin_cases a <;> apply Fin.ext <;> simp <;> omega
  · rw [val_main_v14_apply]
    refine congrArg w ?_
    funext a
    fin_cases a <;> apply Fin.ext <;> simp <;> omega
end

end Cert.ConvRows

end
-- ==== Proof.Latent.lean ====
/- The arrays that attention reads, from the projected columns: latent rows, rotary keys, and the two parts of the queries.
   Here what each holds, as one function of the call's arguments, and the calculation of one block. -/
module

public import proofs.«01_k».proof.Proof.Gen.PrepIdeal.Value
public import proofs.«01_k».proof.Proof.Gen.PrepRefIdeal.Read
public import proofs.«01_k».proof.Proof.Offsets
public import proofs.«01_k».proof.Proof.Norm
public import Idealize.ShloMosaic.Lib.Pipeline.ValueKit
public import Idealize.ShloMosaic.Lib.Pointwise

@[expose] public section

set_option maxRecDepth 16384

noncomputable section

namespace Cert.Latent

open Cert.PrepIdeal Cert.PrepIdeal.Gen Cert.PrepIdeal.Value Idealize.ShloMosaic Idealize.ShloMosaic.TcCoe Idealize.ShloMosaic.Tactic
open Cert.Offsets Cert.Norm

/-- The numbers of entries in a query row and in a latent row, as the programs carry them. -/
def w512 : EReal := Ideal.ofBits FTy.f32 0x44000000#32
def w256 : EReal := Ideal.ofBits FTy.f32 0x43800000#32

/-- The columns of the query's row, of the latent row, of the rotary key and of that key with its halves exchanged. -/
def colQ (k : Fin 512) : Fin 5120 := ⟨4096 + k.val, by omega⟩
def colC (k : Fin 256) : Fin 5120 := ⟨4608 + k.val, by omega⟩
def colK (j : Fin 64) : Fin 5120 := ⟨4864 + j.val, by omega⟩
def colX (j : Fin 64) : Fin 5120 := ⟨4928 + j.val, by omega⟩

/-- A rotary column's frequency. -/
def freq (j : Fin 64) : Fin 32 := ⟨j.val % 32, Nat.mod_lt _ (by decide)⟩

/-- The cosine that rotary column `j` of row `t` is multiplied by, and the sine with its sign. -/
def cosk (t : Fin 8192) (j : Fin 64) : EReal := Cert.PrepRefIdeal.Read.val_main_v13 (F := Ideal) (ix2 t (freq j))
def sink (t : Fin 8192) (j : Fin 64) : EReal :=
  if j.val < 32 then -(Cert.PrepRefIdeal.Read.val_main_v14 (F := Ideal) (ix2 t (freq j)) : EReal)
  else Cert.PrepRefIdeal.Read.val_main_v14 (F := Ideal) (ix2 t (freq j))

/-- A query column's head, and its place among the head's 128 plain columns. -/
def headN (n : Fin 1024) : Fin 8 := ⟨n.val / 128, by omega⟩
def placeN (n : Fin 1024) : Fin 192 := ⟨n.val % 128, by omega⟩
/-- The place of rotary column `j` among a head's columns, and the place of its partner in the other half. -/
def placeR (j : Fin 64) : Fin 192 := ⟨128 + j.val, by omega⟩
def placeX (j : Fin 64) : Fin 192 := ⟨128 + (j.val + 32) % 64, by omega⟩
/-- A column of the eight heads' rotary columns side by side: its head and its place there. -/
def headR (n : Fin 512) : Fin 8 := ⟨n.val / 64, by omega⟩
def rotR (n : Fin 512) : Fin 64 := ⟨n.val % 64, by omega⟩

section
variable (p : Vec Ideal S8192x5120 .f32) (gq : Vec Ideal S512 .f32) (gc : Vec Ideal S256 .f32) (w : Vec Ideal S512x8x192 .f32)

/-- The normed query row. -/
def cq (t : Fin 8192) (r : Fin 512) : EReal := normedOf w512 (fun j => p (ix2 t (colQ j))) (fun j => gq (ix1 j)) r

/-- The latent rows. -/
def latent : Vec Ideal S8192x256 .f32 :=
  fun y => normedOf w256 (fun j => p (ix2 (y 0 : Fin 8192) (colC j))) (fun j => gc (ix1 j)) (y 1 : Fin 256)

/-- The rotary keys. -/
def keys : Vec Ideal S8192x64 .f32 :=
  fun y => p (ix2 (y 0 : Fin 8192) (colK (y 1 : Fin 64))) * cosk (y 0 : Fin 8192) (y 1 : Fin 64)
    + p (ix2 (y 0 : Fin 8192) (colX (y 1 : Fin 64))) * sink (y 0 : Fin 8192) (y 1 : Fin 64)

/-- The queries' plain columns. -/
def plain : Vec Ideal S8192x1024 .bf16 :=
  fun y => ∑ r : Fin 512, cq p gq (y 0 : Fin 8192) r * w (ix3 r (headN (y 1 : Fin 1024)) (placeN (y 1 : Fin 1024)))

/-- The queries' rotary columns, head by head. -/
def rotary : Vec Ideal S8x8192x64 .bf16 :=
  fun y => (∑ r : Fin 512, cq p gq (y 1 : Fin 8192) r * w (ix3 r (y 0 : Fin 8) (placeR (y 2 : Fin 64)))) * cosk (y 1 : Fin 8192) (y 2 : Fin 64)
    + (∑ r : Fin 512, cq p gq (y 1 : Fin 8192) r * w (ix3 r (y 0 : Fin 8) (placeX (y 2 : Fin 64)))) * sink (y 1 : Fin 8192) (y 2 : Fin 64)
end

theorem pay2_apply (x : Vec Ideal S512x512 .f32) (g : Vec Ideal S1x512 .f32) (r k : Fin 512) :
    k0_pay2 x g (ix2 r k) = normedOf w512 (fun j => x (ix2 r j)) (fun j => g (ix2 0 j)) k := by
  unfold k0_pay2 normedOf eps w512; pointwise

theorem pay14_apply (x : Vec Ideal S512x256 .f32) (g : Vec Ideal S1x256 .f32) (r : Fin 512) (k : Fin 256) :
    k0_pay14 x g (ix2 r k) = normedOf w256 (fun j => x (ix2 r j)) (fun j => g (ix2 0 j)) k := by
  unfold k0_pay14 normedOf eps w256; pointwise

theorem pay15_apply (x : Vec Ideal S512x256 .f32) (g : Vec Ideal S1x256 .f32) (r : Fin 512) (k : Fin 256) :
    k0_pay15 x g (ix2 r k) = k0_pay14 x g (ix2 r k) := by
  unfold k0_pay15; generalize k0_pay14 x g = z; pointwise

theorem pay3_apply (x : Vec Ideal S512x512 .f32) (g : Vec Ideal S1x512 .f32) (w : Vec Ideal S512x1024 .bf16) (r : Fin 512) (n : Fin 1024) :
    k0_pay3 x g w (ix2 r n) = ∑ k, k0_pay2 x g (ix2 r k) * w (ix2 k n) := by
  unfold k0_pay3; generalize k0_pay2 x g = z; pointwise

theorem pay4_apply (x : Vec Ideal S512x512 .f32) (g : Vec Ideal S1x512 .f32) (wa : Vec Ideal S512x512 .bf16) (c : Vec Ideal S512x512 .f32)
    (wb : Vec Ideal S512x512 .bf16) (s : Vec Ideal S512x512 .f32) (r n : Fin 512) :
    k0_pay4 x g wa c wb s (ix2 r n) = (∑ k, k0_pay2 x g (ix2 r k) * wa (ix2 k n)) * c (ix2 r n)
      + (∑ k, k0_pay2 x g (ix2 r k) * wb (ix2 k n)) * s (ix2 r n) := by
  unfold k0_pay4; generalize k0_pay2 x g = z; pointwise

theorem pay16_apply (x : Vec Ideal S512x128 .f32) (c s : Vec Ideal S512x64 .f32) (r : Fin 512) (j : Fin 64) :
    k0_pay16 x c s (ix2 r j) = x (ix2 r (⟨j.val, by omega⟩ : Fin 128)) * c (ix2 r j)
      + x (ix2 r (⟨64 + j.val, by omega⟩ : Fin 128)) * s (ix2 r j) := by
  unfold k0_pay16; pointwise

theorem pay1_apply (x : Vec Ideal S512x64 .f32) (r : Fin 512) (j : Fin 64) :
    (k0_pay1 (F := Ideal) x (ix2 r j) : EReal) = x (ix2 r j) := by
  unfold k0_pay1; pointwise

/-- The cosines of the 64 rotary columns, and the sines with their signs, as the arrays that are read. -/
def cosArr : FVec Ideal S8192x64 .f32 :=
  concatenate (α := Ideal .f32) S8192x64 1
    [⟨S8192x32, (Cert.PrepRefIdeal.Read.val_main_v13 (F := Ideal) : FVec Ideal S8192x32 .f32)⟩,
     ⟨S8192x32, (Cert.PrepRefIdeal.Read.val_main_v13 (F := Ideal) : FVec Ideal S8192x32 .f32)⟩] concatenates_S8192x32_S8192x32_S8192x64_d1
def sinArr : FVec Ideal S8192x64 .f32 :=
  concatenate (α := Ideal .f32) S8192x64 1
    [⟨S8192x32, (Host.negf (Cert.PrepRefIdeal.Read.val_main_v14 (F := Ideal) : FVec Ideal S8192x32 .f32) : FVec Ideal S8192x32 .f32)⟩,
     ⟨S8192x32, (Cert.PrepRefIdeal.Read.val_main_v14 (F := Ideal) : FVec Ideal S8192x32 .f32)⟩] concatenates_S8192x32_S8192x32_S8192x64_d1

theorem freq_high (j : Fin 64) (h : ¬ j.val < 32) : j.val % 32 = j.val - 32 := by omega

theorem cosArr_apply (t : Fin 8192) (j : Fin 64) : cosArr (ix2 t j) = cosk t j := by
  unfold cosArr cosk freq
  generalize Cert.PrepRefIdeal.Read.val_main_v13 (F := Ideal) = z
  pointwise
  by_cases h : j.val < 32
  · simp only [h, Nat.mod_eq_of_lt h, dite_true, if_true]
  · simp only [h, dite_false, if_false, freq_high j h]

theorem sinArr_apply (t : Fin 8192) (j : Fin 64) : sinArr (ix2 t j) = sink t j := by
  unfold sinArr sink freq
  generalize Cert.PrepRefIdeal.Read.val_main_v14 (F := Ideal) = z
  pointwise
  by_cases h : j.val < 32
  · simp only [h, Nat.mod_eq_of_lt h, dite_true, if_true]
  · simp only [h, dite_false, if_false, freq_high j h]

/-- A rotary row repeated for the eight heads. -/
def heads (x : FVec Ideal S8192x64 .f32) : FVec Ideal S8192x512 .f32 :=
  shapeCast S8192x512 (α := Ideal .f32) (broadcastInDim S1x8192x8x64 ![0, 1, 2, 3] bcast_S1x8192x1x64_S1x8192x8x64_0_1_2_3
    (shapeCast S1x8192x1x64 (α := Ideal .f32) x shapeCasts_S8192x64_S1x8192x1x64)) shapeCasts_S1x8192x8x64_S8192x512

theorem heads_apply (x : FVec Ideal S8192x64 .f32) (t : Fin 8192) (n : Fin 512) : heads x (ix2 t n) = x (ix2 t (rotR n)) := by
  unfold heads rotR
  pointwise

/-- Where the windows put a grid point's blocks. -/
theorem idx : ∀ t : Fin cfg0.N,
    win0_0.index t = ![(grid0.coords t 0).val, 8] ∧ win0_1.index t = ![(grid0.coords t 0).val, 18]
    ∧ win0_2.index t = ![(grid0.coords t 0).val, 38]
    ∧ win0_3.index t = ![0, 0] ∧ win0_4.index t = ![0, 0] ∧ win0_5.index t = ![0, 0] ∧ win0_6.index t = ![0, 0]
    ∧ win0_7.index t = ![0, 0] ∧ win0_8.index t = ![(grid0.coords t 0).val, 0] ∧ win0_9.index t = ![(grid0.coords t 0).val, 0]
    ∧ win0_10.index t = ![(grid0.coords t 0).val, 0] ∧ win0_11.index t = ![(grid0.coords t 0).val, 0]
    ∧ win0_12.index t = ![(grid0.coords t 0).val, 0] ∧ win0_13.index t = ![(grid0.coords t 0).val, 0]
    ∧ win0_14.index t = ![(grid0.coords t 0).val, 0] ∧ win0_15.index t = ![(grid0.coords t 0).val, 0]
    ∧ win0_16.index t = ![(grid0.coords t 0).val, 0] ∧ win0_17.index t = ![0, (grid0.coords t 0).val, 0] :=
  (by decide +kernel : ∀ t : Fin grid0.N, _)

section
variable (m : (ℓ : Loc nD τ sig) → Buf (Elt Ideal) ℓ) (c : Dev nD) (t : Fin cfg0.N)

/-- The row that row `r` of point `t`'s block is. -/
def rowOf (r : Fin 512) : Fin 8192 :=
  ⟨512 * (grid0.coords t 0).val + r.val, by have : (grid0.coords t 0).val < 16 := (grid0.coords t 0).isLt; have := r.isLt; omega⟩

theorem blk0 (r k : Fin 512) :
    iblk m c 0 t (ix2 r k) = m ((c : Thread nD τ).loc main_arg0) (ix2 (rowOf t r) (colQ k)) := by
  unfold rowOf colQ
  blk_ext [iblk, V, idx t]

theorem blk1 (r : Fin 512) (k : Fin 256) :
    iblk m c 1 t (ix2 r k) = m ((c : Thread nD τ).loc main_arg0) (ix2 (rowOf t r) (colC k)) := by
  unfold rowOf colC
  blk_ext [iblk, V, idx t]

theorem blk2 (r : Fin 512) (j : Fin 64) :
    iblk m c 2 t (ix2 r (⟨j.val, by omega⟩ : Fin 128)) = m ((c : Thread nD τ).loc main_arg0) (ix2 (rowOf t r) (colK j)) := by
  unfold rowOf colK
  blk_ext [iblk, V, idx t]

theorem blk2' (r : Fin 512) (j : Fin 64) :
    iblk m c 2 t (ix2 r (⟨64 + j.val, by omega⟩ : Fin 128)) = m ((c : Thread nD τ).loc main_arg0) (ix2 (rowOf t r) (colX j)) := by
  unfold rowOf colX
  blk_ext [iblk, V, idx t]

theorem blk3 (k : Fin 512) :
    iblk m c 3 t (ix2 (0 : Fin 1) k) = m ((c : Thread nD τ).loc main_arg1) (ix1 k) := by
  have h : V m c main_v34 = (shapeCast S1x512 (α := Ideal .f32) (m ((c : Thread nD τ).loc main_arg1)) shapeCasts_S512_S1x512 : FVec Ideal S1x512 .f32) := by
    entry_read; rfl
  have e : iblk m c 3 t (ix2 (0 : Fin 1) k) = V m c main_v34 (ix2 (0 : Fin 1) k : S1x512.Idx) := by
    blk_ext [iblk, idx t]
  rw [e, h]
  pointwise

theorem blk4 (k : Fin 256) :
    iblk m c 4 t (ix2 (0 : Fin 1) k) = m ((c : Thread nD τ).loc main_arg2) (ix1 k) := by
  have h : V m c main_v35 = (shapeCast S1x256 (α := Ideal .f32) (m ((c : Thread nD τ).loc main_arg2)) shapeCasts_S256_S1x256 : FVec Ideal S1x256 .f32) := by
    entry_read; rfl
  have e : iblk m c 4 t (ix2 (0 : Fin 1) k) = V m c main_v35 (ix2 (0 : Fin 1) k : S1x256.Idx) := by
    blk_ext [iblk, idx t]
  rw [e, h]
  pointwise

theorem blk5 (k : Fin 512) (n : Fin 1024) :
    iblk m c 5 t (ix2 k n) = m ((c : Thread nD τ).loc main_arg3) (ix3 k (headN n) (placeN n)) := by
  have h : V m c main_v26 = (truncf .bf16 (shapeCast S512x1024 (α := Ideal .f32) (extractStridedSlice (α := Ideal .f32) S512x8x128 ![0, 0, 0] (m ((c : Thread nD τ).loc main_arg3)) slices_S512x8x192_S512x8x128_0_0_0) shapeCasts_S512x8x128_S512x1024) bitsLt_bf16_f32 : FVec Ideal S512x1024 .bf16) := by
    entry_read; rfl
  have e : iblk m c 5 t (ix2 k n) = V m c main_v26 (ix2 k n : S512x1024.Idx) := by
    blk_ext [iblk, idx t]
  rw [e, h]
  unfold headN placeN
  pointwise

theorem blk6 (k n : Fin 512) :
    iblk m c 6 t (ix2 k n) = m ((c : Thread nD τ).loc main_arg3) (ix3 k (headR n) (placeR (rotR n))) := by
  have h : V m c main_v29 = (truncf .bf16 (shapeCast S512x512 (α := Ideal .f32) (extractStridedSlice (α := Ideal .f32) S512x8x64 ![0, 0, 128] (m ((c : Thread nD τ).loc main_arg3)) slices_S512x8x192_S512x8x64_0_0_128) shapeCasts_S512x8x64_S512x512) bitsLt_bf16_f32 : FVec Ideal S512x512 .bf16) := by
    entry_read; rfl
  have e : iblk m c 6 t (ix2 k n) = V m c main_v29 (ix2 k n : S512x512.Idx) := by
    blk_ext [iblk, idx t]
  rw [e, h]
  unfold headR placeR rotR
  pointwise

theorem blk7 (k n : Fin 512) :
    iblk m c 7 t (ix2 k n) = m ((c : Thread nD τ).loc main_arg3) (ix3 k (headR n) (placeX (rotR n))) := by
  have h : V m c main_v33 = (truncf .bf16 (shapeCast S512x512 (α := Ideal .f32) (Host.reverse [2] (shapeCast S512x8x2x32 (α := Ideal .f32) (shapeCast S512x512 (α := Ideal .f32) (extractStridedSlice (α := Ideal .f32) S512x8x64 ![0, 0, 128] (m ((c : Thread nD τ).loc main_arg3)) slices_S512x8x192_S512x8x64_0_0_128) shapeCasts_S512x8x64_S512x512) shapeCasts_S512x512_S512x8x2x32)) shapeCasts_S512x8x2x32_S512x512) bitsLt_bf16_f32 : FVec Ideal S512x512 .bf16) := by
    entry_read; rfl
  have e : iblk m c 7 t (ix2 k n) = V m c main_v33 (ix2 k n : S512x512.Idx) := by
    blk_ext [iblk, idx t]
  rw [e, h]
  unfold headR placeX rotR
  pointwise
  refine congrArg _ ?_
  funext a
  fin_cases a
  · rfl
  · rfl
  · apply Fin.ext
    simp [Fin.rev]
    omega

theorem cos_eq (t : Fin 8192) (j : Fin 64) : V m c main_v15 (ix2 t j : S8192x64.Idx) = cosk t j := by
  have h : V m c main_v15 = cosArr := by
    entry_read; rfl
  rw [h, cosArr_apply]

theorem sin_eq (t : Fin 8192) (j : Fin 64) : V m c main_v17 (ix2 t j : S8192x64.Idx) = sink t j := by
  have h : V m c main_v17 = sinArr := by
    entry_read; rfl
  rw [h, sinArr_apply]

theorem blk8 (r n : Fin 512) : iblk m c 8 t (ix2 r n) = cosk (rowOf t r) (rotR n) := by
  have h : V m c main_v20 = heads cosArr := by
    entry_read; rfl
  have e : iblk m c 8 t (ix2 r n) = V m c main_v20 (ix2 (rowOf t r) n : S8192x512.Idx) := by
    unfold rowOf
    blk_ext [iblk, idx t]
  rw [e, h, heads_apply, cosArr_apply]

theorem blk9 (r n : Fin 512) : iblk m c 9 t (ix2 r n) = sink (rowOf t r) (rotR n) := by
  have h : V m c main_v23 = heads sinArr := by
    entry_read; rfl
  have e : iblk m c 9 t (ix2 r n) = V m c main_v23 (ix2 (rowOf t r) n : S8192x512.Idx) := by
    unfold rowOf
    blk_ext [iblk, idx t]
  rw [e, h, heads_apply, sinArr_apply]

theorem blk10 (r : Fin 512) (j : Fin 64) : iblk m c 10 t (ix2 r j) = cosk (rowOf t r) j := by
  have e : iblk m c 10 t (ix2 r j) = V m c main_v15 (ix2 (rowOf t r) j : S8192x64.Idx) := by
    unfold rowOf
    blk_ext [iblk, idx t]
  rw [e, cos_eq]

theorem blk11 (r : Fin 512) (j : Fin 64) : iblk m c 11 t (ix2 r j) = sink (rowOf t r) j := by
  have e : iblk m c 11 t (ix2 r j) = V m c main_v17 (ix2 (rowOf t r) j : S8192x64.Idx) := by
    unfold rowOf
    blk_ext [iblk, idx t]
  rw [e, sin_eq]
end

end Cert.Latent

end
-- ==== Proof.LatentArray.lean ====
/- The arrays that attention reads, from the projected columns: what the kernel leaves in each of its six outputs. -/
module

public import proofs.«01_k».proof.Proof.Latent

@[expose] public section

set_option maxRecDepth 16384

noncomputable section

namespace Cert.Latent

open Cert.PrepIdeal Cert.PrepIdeal.Gen Cert.PrepIdeal.Value Idealize.ShloMosaic Idealize.ShloMosaic.TcCoe Idealize.ShloMosaic.Tactic
open Cert.Offsets Cert.Norm

section
variable (m : (ℓ : Loc nD τ sig) → Buf (Elt Ideal) ℓ) (c : Dev nD) (t : Fin cfg0.N)

theorem query_row (r k : Fin 512) : k0_pay2 (iblk m c 0 t) (iblk m c 3 t) (ix2 r k)
    = cq (m ((c : Thread nD τ).loc main_arg0)) (m ((c : Thread nD τ).loc main_arg1)) (rowOf t r) k := by
  rw [pay2_apply]
  simp only [blk0, blk3]
  rfl

theorem point12 (r : Fin 512) (k : Fin 256) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)
    = latent (m ((c : Thread nD τ).loc main_arg0)) (m ((c : Thread nD τ).loc main_arg2)) (ix2 (rowOf t r) k) := by
  unfold out0_12
  rw [View.canon_unit_zero zz, View.ld_unit_zero zz, View.ld_unit_zero zz, pay14_apply]
  simp only [blk1, blk4]
  rfl

theorem point14 (r : Fin 512) (k : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)
    = latent (m ((c : Thread nD τ).loc main_arg0)) (m ((c : Thread nD τ).loc main_arg2)) (ix2 (rowOf t r) k) := by
  unfold out0_14
  rw [View.canon_unit_zero zz, View.ld_unit_zero zz, View.ld_unit_zero zz, pay15_apply, pay14_apply]
  simp only [blk1, blk4]
  rfl

theorem key_row (r : Fin 512) (j : Fin 64) : k0_pay16 (iblk m c 2 t) (iblk m c 10 t) (iblk m c 11 t) (ix2 r j)
    = keys (m ((c : Thread nD τ).loc main_arg0)) (ix2 (rowOf t r) j) := by
  rw [pay16_apply, blk2, blk2', blk10, blk11]
  rfl

theorem point13 (r : Fin 512) (j : Fin 64) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
    = keys (m ((c : Thread nD τ).loc main_arg0)) (ix2 (rowOf t r) j) := by
  unfold out0_13 k0_pay18
  rw [View.canon_unit_zero zz, View.ld_unit_zero zz, View.ld_unit_zero zz, View.ld_unit_zero zz, key_row]

theorem point15 (r : Fin 512) (j : Fin 64) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
    = keys (m ((c : Thread nD τ).loc main_arg0)) (ix2 (rowOf t r) j) := by
  unfold out0_15 k0_pay18
  rw [View.canon_unit_zero zz, View.ld_unit_zero zz, View.ld_unit_zero zz, View.ld_unit_zero zz]
  exact (pay1_apply _ r j).trans (key_row m c t r j)

theorem point16 (r : Fin 512) (n : Fin 1024) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r n)
    = plain (m ((c : Thread nD τ).loc main_arg0)) (m ((c : Thread nD τ).loc main_arg1)) (m ((c : Thread nD τ).loc main_arg3)) (ix2 (rowOf t r) n) := by
  unfold out0_16
  rw [View.canon_unit_zero zz, View.ld_unit_zero zz, View.ld_unit_zero zz, View.ld_unit_zero zz, pay3_apply]
  simp only [query_row, blk5]
  rfl

/-- Head `h`'s rotary column `j` among the eight heads' columns side by side. -/
def colR (h : Fin 8) (j : Fin 64) : Fin 512 := ⟨h.val * 64 + j.val, by omega⟩

theorem headR_colR (h : Fin 8) (j : Fin 64) : headR (colR h j) = h := by
  unfold headR colR
  exact Fin.ext (by simp; omega)

theorem rotR_colR (h : Fin 8) (j : Fin 64) : rotR (colR h j) = j := by
  unfold rotR colR
  exact Fin.ext (by simp)

theorem point17 (h : Fin 8) (r : Fin 512) (j : Fin 64) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 h r j)
    = rotary (m ((c : Thread nD τ).loc main_arg0)) (m ((c : Thread nD τ).loc main_arg1)) (m ((c : Thread nD τ).loc main_arg3)) (ix3 h (rowOf t r) j) := by
  unfold out0_17 k0_pay17
  refine (canon17_eq _ _ _ _ _ _ _).trans ?_
  rw [View.ld_unit_zero zz, View.ld_unit_zero zz, View.ld_unit_zero zz, View.ld_unit_zero zz, View.ld_unit_zero zz, View.ld_unit_zero zz]
  show (k0_pay4 (F := Ideal) _ _ _ _ _ _ (ix17_0 (ix3 h r j)) : EReal) = _
  rw [show ix17_0 (ix3 h r j) = ix2 r (colR h j) from by funext a; fin_cases a <;> rfl, pay4_apply]
  simp only [query_row, blk6, blk7, blk8, blk9, headR_colR, rotR_colR]
  rfl
end

theorem array12 (m : (ℓ : Loc nD τ sig) → Buf (Elt Ideal) ℓ) (c : Dev nD) :
    (dats m 0 c).arrAt 12 cfg0.N = latent (m ((c : Thread nD τ).loc main_arg0)) (m ((c : Thread nD τ).loc main_arg2)) := by
  refine (dats m 0 c).arrAt_eq_of_covers 12 _ (by decide +kernel) fun t hf y => ?_
  blk_simp
  rw [after0_12]
  have hy : y = ix2 (y 0 : Fin 512) (y 1 : Fin 256) := by funext a; fin_cases a <;> rfl
  have h0 : (y 0).val < 512 := (y 0).isLt
  refine (congrArg (out0_12 _ _ _ _ _ _ _ _ _ _ _ _) hy).trans ((point12 m c t (y 0) (y 1)).trans (congrArg _ ?_))
  unfold rowOf
  funext a
  fin_cases a <;> apply Fin.ext <;> blk_simp [idx t] <;> simp <;> omega

theorem array13 (m : (ℓ : Loc nD τ sig) → Buf (Elt Ideal) ℓ) (c : Dev nD) :
    (dats m 0 c).arrAt 13 cfg0.N = keys (m ((c : Thread nD τ).loc main_arg0)) := by
  refine (dats m 0 c).arrAt_eq_of_covers 13 _ (by decide +kernel) fun t hf y => ?_
  blk_simp
  rw [after0_13]
  have hy : y = ix2 (y 0 : Fin 512) (y 1 : Fin 64) := by funext a; fin_cases a <;> rfl
  have h0 : (y 0).val < 512 := (y 0).isLt
  refine (congrArg (out0_13 _ _ _ _ _ _ _ _ _ _ _ _) hy).trans ((point13 m c t (y 0) (y 1)).trans (congrArg _ ?_))
  unfold rowOf
  funext a
  fin_cases a <;> apply Fin.ext <;> blk_simp [idx t] <;> simp <;> omega

theorem array14 (m : (ℓ : Loc nD τ sig) → Buf (Elt Ideal) ℓ) (c : Dev nD) :
    (dats m 0 c).arrAt 14 cfg0.N = latent (m ((c : Thread nD τ).loc main_arg0)) (m ((c : Thread nD τ).loc main_arg2)) := by
  refine (dats m 0 c).arrAt_eq_of_covers 14 _ (by decide +kernel) fun t hf y => ?_
  blk_simp
  rw [after0_14]
  have hy : y = ix2 (y 0 : Fin 512) (y 1 : Fin 256) := by funext a; fin_cases a <;> rfl
  have h0 : (y 0).val < 512 := (y 0).isLt
  refine (congrArg (out0_14 _ _ _ _ _ _ _ _ _ _ _ _) hy).trans ((point14 m c t (y 0) (y 1)).trans (congrArg _ ?_))
  unfold rowOf
  funext a
  fin_cases a <;> apply Fin.ext <;> blk_simp [idx t] <;> simp <;> omega

theorem array15 (m : (ℓ : Loc nD τ sig) → Buf (Elt Ideal) ℓ) (c : Dev nD) :
    (dats m 0 c).arrAt 15 cfg0.N = keys (m ((c : Thread nD τ).loc main_arg0)) := by
  refine (dats m 0 c).arrAt_eq_of_covers 15 _ (by decide +kernel) fun t hf y => ?_
  blk_simp
  rw [after0_15]
  have hy : y = ix2 (y 0 : Fin 512) (y 1 : Fin 64) := by funext a; fin_cases a <;> rfl
  have h0 : (y 0).val < 512 := (y 0).isLt
  refine (congrArg (out0_15 _ _ _ _ _ _ _ _ _ _ _ _) hy).trans ((point15 m c t (y 0) (y 1)).trans (congrArg _ ?_))
  unfold rowOf
  funext a
  fin_cases a <;> apply Fin.ext <;> blk_simp [idx t] <;> simp <;> omega

theorem array16 (m : (ℓ : Loc nD τ sig) → Buf (Elt Ideal) ℓ) (c : Dev nD) :
    (dats m 0 c).arrAt 16 cfg0.N = plain (m ((c : Thread nD τ).loc main_arg0)) (m ((c : Thread nD τ).loc main_arg1)) (m ((c : Thread nD τ).loc main_arg3)) := by
  refine (dats m 0 c).arrAt_eq_of_covers 16 _ (by decide +kernel) fun t hf y => ?_
  blk_simp
  rw [after0_16]
  have hy : y = ix2 (y 0 : Fin 512) (y 1 : Fin 1024) := by funext a; fin_cases a <;> rfl
  have h0 : (y 0).val < 512 := (y 0).isLt
  refine (congrArg (out0_16 _ _ _ _ _ _ _ _ _ _ _ _) hy).trans ((point16 m c t (y 0) (y 1)).trans (congrArg _ ?_))
  unfold rowOf
  funext a
  fin_cases a <;> apply Fin.ext <;> blk_simp [idx t] <;> simp <;> omega

theorem array17 (m : (ℓ : Loc nD τ sig) → Buf (Elt Ideal) ℓ) (c : Dev nD) :
    (dats m 0 c).arrAt 17 cfg0.N = rotary (m ((c : Thread nD τ).loc main_arg0)) (m ((c : Thread nD τ).loc main_arg1)) (m ((c : Thread nD τ).loc main_arg3)) := by
  refine (dats m 0 c).arrAt_eq_of_covers 17 _ (by decide +kernel) fun t hf y => ?_
  blk_simp
  rw [after0_17]
  have hy : y = ix3 (y 0 : Fin 8) (y 1 : Fin 512) (y 2 : Fin 64) := by funext a; fin_cases a <;> rfl
  have h0 : (y 1).val < 512 := (y 1).isLt
  refine (congrArg (out0_17 _ _ _ _ _ _ _ _ _ _ _ _) hy).trans ((point17 m c t (y 0) (y 1) (y 2)).trans (congrArg _ ?_))
  unfold rowOf
  funext a
  fin_cases a <;> apply Fin.ext <;> blk_simp [idx t] <;> simp <;> omega

end Cert.Latent

end
-- ==== Proof.LatentReference.lean ====
/- The same six arrays, as the reference computes them: the norms, the product with the queries' matrix, and the rotation. -/
module

public import proofs.«01_k».proof.Proof.Latent

@[expose] public section

set_option maxRecDepth 16384

noncomputable section

namespace Cert.Latent

open Cert.PrepRefIdeal Cert.PrepRefIdeal.Read Idealize.ShloMosaic
open Cert.Norm

theorem zero_bits : Ideal.ofBits FTy.f32 0#32 = 0 := by simp [Ideal.ofBits, Ideal.ieee]

section
variable (p : Vec Ideal S8192x5120 .f32) (gq : Vec Ideal S512 .f32) (gc : Vec Ideal S256 .f32) (w : Vec Ideal S512x8x192 .f32)

theorem sum_query (t : Fin 8192) : val_main_v17 p (ix1 t) = ∑ j, p (ix2 t (colQ j)) * p (ix2 t (colQ j)) := by
  have hz : (val_main_cst_1 (F := Ideal)) (Shape.Idx.first Cert.PrepRefIdeal.Gen.h_S_) = 0 := zero_bits
  rw [val_main_v17_apply, hz, zero_add]
  refine Finset.sum_congr rfl fun j _ => ?_
  rw [val_main_v16_apply, val_main_v15_apply]
  have e : idx_main_v15 (idx_main_v17 (ix1 t) j) = ix2 t (colQ j) := by funext a; fin_cases a <;> rfl
  rw [e]
  rfl

theorem ref_query (t : Fin 8192) (r : Fin 512) : val_main_v28 p gq (ix2 t r) = cq p gq t r := by
  rw [val_main_v28_apply, val_main_v25_apply, val_main_v24_apply, val_main_v23_apply, val_main_v22_apply, val_main_v20_apply,
    val_main_v18_apply, val_main_v27_apply, val_main_v26_apply, val_main_v15_apply]
  have e : idx_main_v18 (idx_main_v24 (ix2 t r)) = ix1 t := by funext a; fin_cases a; rfl
  rw [e, sum_query]
  unfold cq normedOf
  refine congrArg₂ (· * ·) (congrArg₂ (· * ·) (congrArg p ?_) rfl) (congrArg gq ?_)
  · funext a; fin_cases a <;> rfl
  · funext a; fin_cases a; rfl

theorem sum_latent (t : Fin 8192) : val_main_v47 p (ix1 t) = ∑ j, p (ix2 t (colC j)) * p (ix2 t (colC j)) := by
  have hz : (val_main_cst_4 (F := Ideal)) (Shape.Idx.first Cert.PrepRefIdeal.Gen.h_S_) = 0 := zero_bits
  rw [val_main_v47_apply, hz, zero_add]
  refine Finset.sum_congr rfl fun j _ => ?_
  rw [val_main_v46_apply, val_main_v45_apply]
  have e : idx_main_v45 (idx_main_v47 (ix1 t) j) = ix2 t (colC j) := by funext a; fin_cases a <;> rfl
  rw [e]
  rfl

theorem ref_latent_apply (t : Fin 8192) (k : Fin 256) : val_main_v58 p gc (ix2 t k) = latent p gc (ix2 t k) := by
  rw [val_main_v58_apply, val_main_v55_apply, val_main_v54_apply, val_main_v53_apply, val_main_v52_apply, val_main_v50_apply,
    val_main_v48_apply, val_main_v57_apply, val_main_v56_apply, val_main_v45_apply]
  have e : idx_main_v48 (idx_main_v54 (ix2 t k)) = ix1 t := by funext a; fin_cases a; rfl
  rw [e, sum_latent]
  unfold latent normedOf
  refine congrArg₂ (· * ·) (congrArg₂ (· * ·) (congrArg p ?_) rfl) (congrArg gc ?_)
  · funext a; fin_cases a <;> rfl
  · funext a; fin_cases a; rfl

theorem ref_latent : val_main_v58 p gc = latent p gc := by
  funext y
  have hy : y = ix2 (y 0 : Fin 8192) (y 1 : Fin 256) := by funext a; fin_cases a <;> rfl
  exact (congrArg _ hy).trans ((ref_latent_apply p gc (y 0) (y 1)).trans (congrArg _ hy.symm))

theorem ref_latent_bf16 : val_main_v70 p gc = latent p gc := by
  funext y
  rw [val_main_v70_apply, ref_latent]
  rfl

theorem sub_to_add (a b s : EReal) : a - b * s = a + b * -s := by
  rw [sub_eq_add_neg, mul_neg]

theorem ref_keys_apply (t : Fin 8192) (j : Fin 64) : val_main_v69 p (ix2 t j) = keys p (ix2 t j) := by
  unfold val_main_v69 keys cosk sink freq
  pointwise
  by_cases h : j.val < 32
  · rw [dif_pos h, if_pos h, val_main_v65_apply, val_main_v63_apply, val_main_v64_apply, val_main_v59_apply, val_main_v61_apply]
    refine (sub_to_add _ _ _).trans ?_
    simp only [Nat.mod_eq_of_lt h]
    refine congrArg₂ (· + ·) (congrArg₂ (· * ·) (congrArg p ?_) rfl) (congrArg₂ (· * ·) (congrArg p ?_) rfl) <;>
      · funext a; fin_cases a <;> rfl
  · rw [dif_neg h, if_neg h, val_main_v68_apply, val_main_v66_apply, val_main_v67_apply, val_main_v60_apply, val_main_v62_apply]
    simp only [freq_high j h]
    refine congrArg₂ (· + ·) (congrArg₂ (· * ·) (congrArg p ?_) rfl) (congrArg₂ (· * ·) (congrArg p ?_) rfl) <;>
      · funext a
        fin_cases a <;> apply Fin.ext <;> simp [colK, colX] <;> omega

theorem ref_keys : val_main_v69 p = keys p := by
  funext y
  have hy : y = ix2 (y 0 : Fin 8192) (y 1 : Fin 64) := by funext a; fin_cases a <;> rfl
  exact (congrArg _ hy).trans ((ref_keys_apply p (y 0) (y 1)).trans (congrArg _ hy.symm))

theorem ref_keys_bf16 : val_main_v71 p = keys p := by
  funext y
  rw [val_main_v71_apply, ref_keys]
  rfl

theorem ref_heads (t : Fin 8192) (h : Fin 8) (d : Fin 192) :
    val_main_v29 p gq w (ix3 t h d) = ∑ r : Fin 512, cq p gq t r * w (ix3 r h d) := by
  rw [val_main_v29_apply]
  refine Finset.sum_congr rfl fun r _ => congrArg₂ (· * ·) ?_ (congrArg w ?_)
  · exact (congrArg _ (by funext a; fin_cases a <;> rfl)).trans (ref_query p gq t r)
  · funext a; fin_cases a <;> rfl

theorem ref_plain : val_main_v74 p gq w = plain p gq w := by
  funext y
  have h1 : (y 1).val < 1024 := (y 1).isLt
  rw [val_main_v74_apply, val_main_v73_apply, val_main_v72_apply]
  refine (congrArg (val_main_v29 p gq w) ?_).trans (ref_heads p gq w (y 0) (headN (y 1)) (placeN (y 1)))
  unfold headN placeN
  funext a
  fin_cases a <;> apply Fin.ext <;> simp <;> omega

/-- The rotation of a head's first half. -/
theorem ref_low (t : Fin 8192) (h : Fin 8) (j : Fin 64) (hj : j.val < 32) :
    val_main_v38 p gq w (ix3 t h (⟨j.val, hj⟩ : Fin 32)) = rotary p gq w (ix3 h t j) := by
  rw [val_main_v38_apply, val_main_v35_apply, val_main_v37_apply, val_main_v30_apply, val_main_v31_apply, val_main_v34_apply,
    val_main_v36_apply, val_main_v32_apply, val_main_v33_apply]
  have e0 : idx_main_v30 (ix3 t h (⟨j.val, hj⟩ : Fin 32)) = ix3 t h (placeR j) := by
    unfold placeR
    funext a; fin_cases a <;> rfl
  have e1 : idx_main_v31 (ix3 t h (⟨j.val, hj⟩ : Fin 32)) = ix3 t h (placeX j) := by
    unfold placeX
    funext a
    fin_cases a <;> apply Fin.ext <;> simp <;> omega
  rw [e0, e1, ref_heads, ref_heads]
  refine (sub_to_add _ _ _).trans ?_
  unfold rotary cosk sink freq
  refine congrArg₂ (· + ·) (congrArg₂ (· * ·) rfl (congrArg _ ?_)) (congrArg₂ (· * ·) rfl ?_)
  · funext a; fin_cases a <;> apply Fin.ext <;> simp <;> omega
  · refine Eq.trans ?_ (if_pos hj).symm
    refine congrArg (fun z : EReal => -z) (congrArg _ ?_)
    funext a; fin_cases a <;> apply Fin.ext <;> simp <;> omega

/-- The rotation of a head's second half. -/
theorem ref_high (t : Fin 8192) (h : Fin 8) (j : Fin 64) (hj : ¬ j.val < 32) (hk : j.val - 32 < 32) :
    val_main_v43 p gq w (ix3 t h (⟨j.val - 32, hk⟩ : Fin 32)) = rotary p gq w (ix3 h t j) := by
  rw [val_main_v43_apply, val_main_v40_apply, val_main_v42_apply, val_main_v30_apply, val_main_v31_apply, val_main_v39_apply,
    val_main_v41_apply, val_main_v32_apply, val_main_v33_apply]
  have e0 : idx_main_v31 (ix3 t h (⟨j.val - 32, hk⟩ : Fin 32)) = ix3 t h (placeR j) := by
    unfold placeR
    funext a
    fin_cases a <;> apply Fin.ext <;> simp <;> omega
  have e1 : idx_main_v30 (ix3 t h (⟨j.val - 32, hk⟩ : Fin 32)) = ix3 t h (placeX j) := by
    unfold placeX
    funext a
    fin_cases a <;> apply Fin.ext <;> simp <;> omega
  rw [e0, e1, ref_heads, ref_heads]
  unfold rotary cosk sink freq
  refine congrArg₂ (· + ·) (congrArg₂ (· * ·) rfl (congrArg _ ?_)) (congrArg₂ (· * ·) rfl ?_)
  · funext a; fin_cases a <;> apply Fin.ext <;> simp <;> omega
  · refine Eq.trans (congrArg _ ?_) (if_neg hj).symm
    funext a; fin_cases a <;> apply Fin.ext <;> simp <;> omega

theorem ref_rotary_apply (h : Fin 8) (t : Fin 8192) (j : Fin 64) : val_main_v76 p gq w (ix3 h t j) = rotary p gq w (ix3 h t j) := by
  rw [val_main_v76_apply, val_main_v75_apply]
  refine (congrArg (val_main_v44 p gq w) (show _ = ix3 t h j from by funext a; fin_cases a <;> rfl)).trans ?_
  unfold val_main_v44
  pointwise
  by_cases hj : j.val < 32
  · rw [dif_pos hj]; exact ref_low p gq w t h j hj
  · rw [dif_neg hj]; exact ref_high p gq w t h j hj _

theorem ref_rotary : val_main_v76 p gq w = rotary p gq w := by
  funext y
  have hy : y = ix3 (y 0 : Fin 8) (y 1 : Fin 8192) (y 2 : Fin 64) := by funext a; fin_cases a <;> rfl
  exact (congrArg _ hy).trans ((ref_rotary_apply p gq w (y 0) (y 1) (y 2)).trans (congrArg _ hy.symm))
end

end Cert.Latent

end
-- ==== Proof.SampleConv.lean ====
/- The sample's convolution, the unit norms of its queries and keys, and the step sizes with their log decays: what each of the five
   arrays holds, as one function of the call's arguments, and the calculation of one block. -/
module

public import proofs.«01_k».proof.Proof.Gen.ConvIdeal.Value
public import proofs.«01_k».proof.Proof.Gen.ConvRefIdeal.Read
public import proofs.«01_k».proof.Proof.Offsets
public import proofs.«01_k».proof.Proof.Norm
public import Idealize.ShloMosaic.Lib.Pipeline.ValueKit
public import Idealize.ShloMosaic.Lib.Pointwise
public import Idealize.ShloMosaic.Lib.Routing.OpsSet
public import Idealize.ShloMosaic.Lib.Routing.OpsOne

@[expose] public section

set_option maxRecDepth 16384

noncomputable section

namespace Cert.SampleConv

open Cert.ConvIdeal Cert.ConvIdeal.Gen Cert.ConvIdeal.Value Idealize.ShloMosaic Idealize.ShloMosaic.TcCoe Idealize.ShloMosaic.Tactic
open Cert.Offsets Cert.Norm

/-- One over the root of a head's 128 entries, as the programs carry it. -/
def scale : EReal := Ideal.ofBits FTy.f32 1035273459#32

/-- Entry `k` of a row of 128 scaled to unit length. -/
def unit (x : Fin 128 → EReal) (k : Fin 128) : EReal := x k * Ideal.rsqrt ((∑ j, x j * x j) + eps)

def silu (a : EReal) : EReal := a * Ideal.div 1 (1 + Ideal.exp (0 - a))

def sigmoid (a : EReal) : EReal := Ideal.div 1 (1 + Ideal.exp (0 - a))

def softplus (a : EReal) : EReal := max a 0 + Ideal.log1p (Ideal.exp (0 - (FloatOps.absf (F := Ideal) (φ := .f32) a : EReal)))

/-- Column `k` of group `g` (queries, keys, values) among the convolution's columns; such a column among the projected ones. -/
def colOf (g : Fin 3) (k : Fin 1024) : Fin 3072 := ⟨1024 * g.val + k.val, by omega⟩
def colP (n : Fin 3072) : Fin 5120 := ⟨n.val, by omega⟩
/-- The projected columns of the step sizes and the log decays. -/
def colG (l : Fin 128) : Fin 5120 := ⟨4992 + l.val, by omega⟩
/-- A head's column, and a column's head and place in the head. -/
def colH (h : Fin 8) (j : Fin 128) : Fin 1024 := ⟨128 * h.val + j.val, by omega⟩
def headH (k : Fin 1024) : Fin 8 := ⟨k.val / 128, by omega⟩
def placeH (k : Fin 1024) : Fin 128 := ⟨k.val % 128, by omega⟩
/-- A column of the three kept rows side by side: its row and its column there. -/
def tapN (n : Fin 9216) : Fin 3 := ⟨n.val / 3072, by omega⟩
def placeT (n : Fin 9216) : Fin 3072 := ⟨n.val % 3072, by omega⟩
def nextT (n : Fin 9216) (h : n.val < 6144) : Fin 3 := ⟨n.val / 3072 + 1, by omega⟩

/-- The eight heads' values at the lanes from 8 on, and zero at the others. -/
def lane (a : Vec Ideal S8 .f32) (l : Fin 128) : EReal :=
  if h : 8 ≤ l.val ∧ l.val < 16 then a (ix1 (⟨l.val - 8, by omega⟩ : Fin 8)) else 0

section
variable (p : Vec Ideal S128x5120 .f32) (s : Vec Ideal S128x3x3072 .f32) (w : Vec Ideal S4x3072 .f32) (la dt : Vec Ideal S8 .f32)

/-- The convolution of the three kept rows and the new one. -/
def taps (b : Fin 128) (n : Fin 3072) : EReal :=
  p (ix2 b (colP n)) * w (ix2 3 n) + s (ix3 b 0 n) * w (ix2 0 n) + s (ix3 b 1 n) * w (ix2 1 n) + s (ix3 b 2 n) * w (ix2 2 n)

def act (g : Fin 3) (b : Fin 128) (k : Fin 1024) : EReal := silu (taps p s w b (colOf g k))

def queries : Vec Ideal S128x1024 .f32 :=
  fun y => unit (fun j => act p s w 0 (y 0 : Fin 128) (colH (headH (y 1 : Fin 1024)) j)) (placeH (y 1 : Fin 1024)) * scale

def keys : Vec Ideal S128x1024 .f32 :=
  fun y => unit (fun j => act p s w 1 (y 0 : Fin 128) (colH (headH (y 1 : Fin 1024)) j)) (placeH (y 1 : Fin 1024))

def values : Vec Ideal S128x1024 .f32 := fun y => act p s w 2 (y 0 : Fin 128) (y 1 : Fin 1024)

/-- Lane `l` of a row: a step size in the first eight, a log decay in the others. -/
def gate (b l : Fin 128) : EReal :=
  if l.val < 8 then sigmoid (p (ix2 b (colG l)))
  else (0 - Ideal.exp (lane la l)) * softplus (p (ix2 b (colG l)) + lane dt l)

def gates : Vec Ideal S128x128 .f32 := fun y => gate p la dt (y 0 : Fin 128) (y 1 : Fin 128)

/-- The last three of the four rows, side by side. -/
def rows : Vec Ideal S128x9216 .f32 := fun y =>
  if h : (y 1 : Fin 9216).val < 6144 then s (ix3 (y 0 : Fin 128) (nextT (y 1 : Fin 9216) h) (placeT (y 1 : Fin 9216)))
  else p (ix2 (y 0 : Fin 128) (colP (placeT (y 1 : Fin 9216))))
end

/-! ## The calculation of one block -/

theorem pay2_apply (x a b c : Vec Ideal S128x1024 .f32) (wx wa wb wc : Vec Ideal S1x1024 .f32) (r : Fin 128) (k : Fin 1024) :
    (k0_pay2 (F := Ideal) x wx a wa b wb c wc (ix2 r k) : EReal)
      = x (ix2 r k) * wx (ix2 0 k) + a (ix2 r k) * wa (ix2 0 k) + b (ix2 r k) * wb (ix2 0 k) + c (ix2 r k) * wc (ix2 0 k) := by
  unfold k0_pay2; pointwise

theorem pay5_apply (x : Vec Ideal S128x1024 .f32) (r : Fin 128) (k : Fin 1024) :
    (k0_pay5 (F := Ideal) x (Scalar.ofBits .f32 0x00000000#32) (ix2 r k) : EReal) = silu (x (ix2 r k)) := by
  unfold k0_pay5 silu; pointwise

theorem pay6_apply (x : Vec Ideal S128x1024 .f32) (r k : Fin 128) :
    (k0_pay6 (F := Ideal) x (Scalar.ofBits .f32 0x00000000#32) (ix2 r k) : EReal)
      = unit (fun j => k0_pay5 (F := Ideal) x (Scalar.ofBits .f32 0x00000000#32) (ix2 r (colH 0 j))) k * scale := by
  unfold k0_pay6 unit eps scale colH; generalize k0_pay5 (F := Ideal) x (Scalar.ofBits .f32 0x00000000#32) = z; pointwise

theorem pay7_apply (x : Vec Ideal S128x1024 .f32) (r k : Fin 128) :
    (k0_pay7 (F := Ideal) x (Scalar.ofBits .f32 0x00000000#32) (ix2 r k) : EReal)
      = unit (fun j => k0_pay5 (F := Ideal) x (Scalar.ofBits .f32 0x00000000#32) (ix2 r (colH 1 j))) k * scale := by
  unfold k0_pay7 unit eps scale colH; generalize k0_pay5 (F := Ideal) x (Scalar.ofBits .f32 0x00000000#32) = z; pointwise

theorem pay8_apply (x : Vec Ideal S128x1024 .f32) (r k : Fin 128) :
    (k0_pay8 (F := Ideal) x (Scalar.ofBits .f32 0x00000000#32) (ix2 r k) : EReal)
      = unit (fun j => k0_pay5 (F := Ideal) x (Scalar.ofBits .f32 0x00000000#32) (ix2 r (colH 2 j))) k * scale := by
  unfold k0_pay8 unit eps scale colH; generalize k0_pay5 (F := Ideal) x (Scalar.ofBits .f32 0x00000000#32) = z; pointwise

theorem pay9_apply (z : Vec Ideal S128x1024 .f32) (r k : Fin 128) :
    (k0_pay9 (F := Ideal) z (ix2 r k) : EReal) = unit (fun j => z (ix2 r (colH 3 j))) k * scale := by
  unfold k0_pay9 unit eps scale colH; pointwise

theorem pay10_apply (z : Vec Ideal S128x1024 .f32) (r k : Fin 128) :
    (k0_pay10 (F := Ideal) z (ix2 r k) : EReal) = unit (fun j => z (ix2 r (colH 4 j))) k * scale := by
  unfold k0_pay10 unit eps scale colH; pointwise

theorem pay11_apply (z : Vec Ideal S128x1024 .f32) (r k : Fin 128) :
    (k0_pay11 (F := Ideal) z (ix2 r k) : EReal) = unit (fun j => z (ix2 r (colH 5 j))) k * scale := by
  unfold k0_pay11 unit eps scale colH; pointwise

theorem pay15_apply (z : Vec Ideal S128x1024 .f32) (r k : Fin 128) :
    (k0_pay15 (F := Ideal) z (ix2 r k) : EReal) = unit (fun j => z (ix2 r (colH 7 j))) k * scale := by
  unfold k0_pay15 unit eps scale colH; pointwise

theorem pay14_apply (z : Vec Ideal S128x1024 .f32) (r k : Fin 128) :
    (k0_pay14 (F := Ideal) (k0_pay12 z) (k0_pay13 z) (ix2 r k) : EReal) = unit (fun j => z (ix2 r (colH 6 j))) k * scale := by
  unfold k0_pay14 k0_pay13 k0_pay12 unit eps scale colH; pointwise

theorem below_eight : ∀ k : Fin 128, IntOp.cmpi CmpIPredicate.slt (BitVec.ofNat 32 k.val) 8#32 = if k.val < 8 then 1#1 else 0#1 := by
  decide +kernel

theorem pay1_apply (x : Vec Ideal S128x128 .f32) (a b : Vec Ideal S1x128 .f32) (r k : Fin 128) :
    (k0_pay1 (F := Ideal) x (iota .tc S128x128 32 [1] iota_S128x128_d1_w32) a b (ix2 r k) : EReal)
      = if k.val < 8 then sigmoid (x (ix2 r k)) else (0 - Ideal.exp (a (ix2 0 k))) * softplus (x (ix2 r k) + b (ix2 0 k)) := by
  unfold k0_pay1 sigmoid softplus; pointwise
  rw [below_eight]
  by_cases h : k.val < 8
  · simp only [h, if_true]; rfl
  · simp only [h, if_false]; rfl

theorem pay21_apply (x a b c : Vec Ideal S128x1024 .f32) (wx wa wb wc : Vec Ideal S1x1024 .f32) (r : Fin 128) (k : Fin 1024) :
    (k0_pay21 (F := Ideal) (k0_pay16 x wx a wa) (k0_pay17 b) (k0_pay18 wb) c wc (ix2 r k) : EReal)
      = silu (x (ix2 r k) * wx (ix2 0 k) + a (ix2 r k) * wa (ix2 0 k) + b (ix2 r k) * wb (ix2 0 k) + c (ix2 r k) * wc (ix2 0 k)) := by
  unfold k0_pay21 k0_pay18 k0_pay17 k0_pay16 silu; pointwise

theorem pay38_apply (x a b c : Vec Ideal S128x1024 .f32) (wx wa wb wc : Vec Ideal S1x1024 .f32) (r : Fin 128) (k : Fin 1024) :
    (k0_pay38 (F := Ideal) (k0_pay34 x wx) (k0_pay35 a wa) b wb c wc (ix2 r k) : EReal)
      = silu (x (ix2 r k) * wx (ix2 0 k) + a (ix2 r k) * wa (ix2 0 k) + b (ix2 r k) * wb (ix2 0 k) + c (ix2 r k) * wc (ix2 0 k)) := by
  unfold k0_pay38 k0_pay35 k0_pay34 silu; pointwise

theorem pay22_apply (a b d e : Vec Ideal S128x1024 .f32) (we : Vec Ideal S1x1024 .f32) (r k : Fin 128) :
    (k0_pay22 (F := Ideal) a b d e we (ix2 r k) : EReal) = unit (fun j => k0_pay21 (F := Ideal) a b d e we (ix2 r (colH 0 j))) k := by
  unfold k0_pay22 unit eps colH; generalize k0_pay21 (F := Ideal) a b d e we = z; pointwise

theorem pay25_apply (a b d e : Vec Ideal S128x1024 .f32) (we : Vec Ideal S1x1024 .f32) (r k : Fin 128) :
    (k0_pay25 (F := Ideal) (k0_pay23 a b d e we) (k0_pay24 a b d e we) (ix2 r k) : EReal)
      = unit (fun j => k0_pay21 (F := Ideal) a b d e we (ix2 r (colH 1 j))) k := by
  unfold k0_pay25 k0_pay24 k0_pay23 unit eps colH; generalize k0_pay21 (F := Ideal) a b d e we = z; pointwise

theorem pay31_apply (z : Vec Ideal S128x1024 .f32) (r k : Fin 128) :
    (k0_pay31 (F := Ideal) (k0_pay29 z) (k0_pay30 z) (ix2 r k) : EReal) = unit (fun j => z (ix2 r (colH 5 j))) k := by
  unfold k0_pay31 k0_pay30 k0_pay29 unit eps colH; pointwise

theorem pay26_apply (z : Vec Ideal S128x1024 .f32) (r k : Fin 128) :
    (k0_pay26 (F := Ideal) z (ix2 r k) : EReal) = unit (fun j => z (ix2 r (colH 2 j))) k := by
  unfold k0_pay26 unit eps colH; pointwise

theorem pay27_apply (z : Vec Ideal S128x1024 .f32) (r k : Fin 128) :
    (k0_pay27 (F := Ideal) z (ix2 r k) : EReal) = unit (fun j => z (ix2 r (colH 3 j))) k := by
  unfold k0_pay27 unit eps colH; pointwise

theorem pay28_apply (z : Vec Ideal S128x1024 .f32) (r k : Fin 128) :
    (k0_pay28 (F := Ideal) z (ix2 r k) : EReal) = unit (fun j => z (ix2 r (colH 4 j))) k := by
  unfold k0_pay28 unit eps colH; pointwise

theorem pay32_apply (z : Vec Ideal S128x1024 .f32) (r k : Fin 128) :
    (k0_pay32 (F := Ideal) z (ix2 r k) : EReal) = unit (fun j => z (ix2 r (colH 6 j))) k := by
  unfold k0_pay32 unit eps colH; pointwise

theorem pay33_apply (z : Vec Ideal S128x1024 .f32) (r k : Fin 128) :
    (k0_pay33 (F := Ideal) z (ix2 r k) : EReal) = unit (fun j => z (ix2 r (colH 7 j))) k := by
  unfold k0_pay33 unit eps colH; pointwise

/-! ## The kept rows and the weights as the block holds them -/

/-- Column `k` of group `g` of kept row `i`, the rows side by side. -/
def colS (i g : Fin 3) (k : Fin 1024) : Fin 9216 := ⟨3072 * i.val + 1024 * g.val + k.val, by omega⟩

theorem ld_weight (x : Vec Ideal S4x3072 .f32) (i : Fin 4) (g : Fin 3) (inb) (k : Fin 1024) :
    View.ld x (Rect.unit (s := S4x3072) ![i.val, 1024 * g.val] S1x1024.size inb) (ix2 (0 : Fin 1) k) = x (ix2 i (colOf g k)) :=
  View.ld_unit_apply_of x _ _ inb _ (ix2 i (colOf g k)) (by intro a; fin_cases a <;> simp [colOf])

theorem ld_kept (x : Vec Ideal S128x9216 .f32) (i g : Fin 3) (o : ℕ) (ho : o = 3072 * i.val + 1024 * g.val) (inb) (r : Fin 128) (k : Fin 1024) :
    View.ld x (Rect.unit (s := S128x9216) ![0, o] S128x1024.size inb) (ix2 r k) = x (ix2 r (colS i g k)) :=
  View.ld_unit_apply_of x _ _ inb _ (ix2 r (colS i g k)) (by intro a; subst ho; fin_cases a <;> simp [colS])

theorem lands_row (d : ScatterDims S1x128 S2 S8) (hiw : d.insertedWindowDims = [0]) (hsd : d.scatterDimsToOperandDims = [0, 1])
    (hivd : d.indexVectorDim = 0) (idx : IVec S2 32) (k : Fin 8) (r : Fin 1) (c : Fin 128) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show S1x128.kept d.insertedWindowDims = _
      rw [hiw]
      rfl
    unfold ScatterDims.window
    rw [dif_pos (by rw [hk]; simp)]
    exact congrArg (fun t => ((ix1 k : S8.Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  have e0 : d.start (ix1 k) idx 0 = (idx (ix1 (0 : Fin 2))).toInt := Routing.start_pair d hsd hivd idx _ 0
  have e1 : d.start (ix1 k) idx 1 = (idx (ix1 (1 : Fin 2))).toInt := Routing.start_pair d hsd hivd idx _ 1
  refine (Routing.resultIdx?_ix2 (R := 1) (C := 128) d (ix1 k) idx r c).trans ?_
  rw [e0, e1, hwin0, hwin1]
  omega

/-- The heads' values written into a row of zeros from lane 8 on. -/
def laneRow (a : Vec Ideal S8 .f32) : Vec Ideal S1x128 .f32 :=
  Host.scatter scatter_S1x128_S2_S8_0_0_01_0 (fun _ b => b)
    (broadcastInDim S1x128 ![] bcast_S_S1x128 (constant S_ .f32 0x00000000#32 : FVec Ideal S_ .f32))
    (concatenate (α := BitVec 32) S2 0 [⟨S1, broadcastInDim S1 ![] bcast_S_S1 (constantI S_ 32 0#32)⟩,
      ⟨S1, broadcastInDim S1 ![] bcast_S_S1 (constantI S_ 32 8#32)⟩] concatenates_S1_S1_S2_d0) a

theorem laneRow_apply (a : Vec Ideal S8 .f32) (l : Fin 128) : laneRow a (ix2 (0 : Fin 1) l) = lane a l := by
  unfold laneRow lane
  generalize hi : (concatenate (α := BitVec 32) S2 0 _ _) = idx
  have i0 : (idx (ix1 (0 : Fin 2))).toInt = 0 := by rw [← hi]; rfl
  have i1 : (idx (ix1 (1 : Fin 2))).toInt = 8 := by rw [← hi]; rfl
  have lands := fun k : Fin 8 => lands_row scatter_S1x128_S2_S8_0_0_01_0 rfl rfl rfl idx k 0 l
  rw [i0, i1] at lands
  split
  · next h =>
    refine Routing.scatter_set_hit _ _ _ _ _ _ (fun k hk => ?_) (ix1 (⟨l.val - 8, by omega⟩ : Fin 8)) ((lands _).2 ⟨rfl, ?_⟩)
    · obtain ⟨k, rfl⟩ : ∃ k' : Fin 8, k = ix1 k' := ⟨k 0, by funext a; fin_cases a; rfl⟩
      have e := ((lands k).1 hk).2
      exact congrArg (fun z => a (ix1 z)) (Fin.ext (by show k.val = l.val - 8; omega))
    · show (8 : Int) + ((l.val - 8 : ℕ) : Int) = l.val
      omega
  · next h =>
    refine (Routing.scatter_set_miss _ _ _ _ _ fun k hk => ?_).trans ?_
    · obtain ⟨k, rfl⟩ : ∃ k' : Fin 8, k = ix1 k' := ⟨k 0, by funext a; fin_cases a; rfl⟩
      have e := ((lands k).1 hk).2
      have := k.isLt
      omega
    · show Ideal.ofBits FTy.f32 0#32 = 0
      simp [Ideal.ofBits, Ideal.ieee]

theorem flat_apply (x : Vec Ideal S128x3x3072 .f32) (r : Fin 128) (n : Fin 9216) :
    (shapeCast S128x9216 (α := Ideal .f32) x shapeCasts_S128x3x3072_S128x9216 : FVec Ideal S128x9216 .f32) (ix2 r n)
      = x (ix3 r (tapN n) (placeT n)) := by
  unfold tapN placeT
  pointwise

theorem tapN_colS (i g : Fin 3) (k : Fin 1024) : tapN (colS i g k) = i := by
  have := k.isLt
  have := g.isLt
  exact Fin.ext (by simp [tapN, colS]; omega)

theorem placeT_colS (i g : Fin 3) (k : Fin 1024) : placeT (colS i g k) = colOf g k := by
  have := k.isLt
  have := g.isLt
  exact Fin.ext (by simp [placeT, colS, colOf]; omega)

/-- Where the windows put the one grid point's blocks. -/
theorem idx : ∀ t : Fin cfg0.N,
    win0_0.index t = ![0, 0] ∧ win0_1.index t = ![0, 1] ∧ win0_2.index t = ![0, 2] ∧ win0_3.index t = ![0, 39]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

section
variable (m : (ℓ : Loc nD τ sig) → Buf (Elt Ideal) ℓ) (c : Dev nD) (t : Fin cfg0.N)

theorem blk0 (r : Fin 128) (k : Fin 1024) :
    iblk m c 0 t (ix2 r k) = m ((c : Thread nD τ).loc main_arg0) (ix2 r (colP (colOf 0 k))) := by
  unfold colP colOf
  blk_ext [iblk, V, idx t]

theorem blk1 (r : Fin 128) (k : Fin 1024) :
    iblk m c 1 t (ix2 r k) = m ((c : Thread nD τ).loc main_arg0) (ix2 r (colP (colOf 1 k))) := by
  unfold colP colOf
  blk_ext [iblk, V, idx t]

theorem blk2 (r : Fin 128) (k : Fin 1024) :
    iblk m c 2 t (ix2 r k) = m ((c : Thread nD τ).loc main_arg0) (ix2 r (colP (colOf 2 k))) := by
  unfold colP colOf
  blk_ext [iblk, V, idx t]

theorem blk3 (r l : Fin 128) :
    iblk m c 3 t (ix2 r l) = m ((c : Thread nD τ).loc main_arg0) (ix2 r (colG l)) := by
  unfold colG
  blk_ext [iblk, V, idx t]

theorem blk4 (r : Fin 128) (i g : Fin 3) (k : Fin 1024) :
    iblk m c 4 t (ix2 r (colS i g k)) = m ((c : Thread nD τ).loc main_arg1) (ix3 r i (colOf g k)) := by
  have h : V m c main_v0 = (shapeCast S128x9216 (α := Ideal .f32) (m ((c : Thread nD τ).loc main_arg1)) shapeCasts_S128x3x3072_S128x9216 : FVec Ideal S128x9216 .f32) := by
    entry_read; rfl
  have e : ∀ n : Fin 9216, iblk m c 4 t (ix2 r n) = V m c main_v0 (ix2 r n : S128x9216.Idx) := fun n => by
    blk_ext [iblk, idx t]
  rw [e, h, flat_apply, tapN_colS, placeT_colS]

theorem blk5 (i : Fin 4) (n : Fin 3072) :
    iblk m c 5 t (ix2 i n) = m ((c : Thread nD τ).loc main_arg2) (ix2 i n) := by
  blk_ext [iblk, V, idx t]

theorem blk6 (l : Fin 128) : iblk m c 6 t (ix2 (0 : Fin 1) l) = lane (m ((c : Thread nD τ).loc main_arg3)) l := by
  have h : V m c main_v5 = laneRow (m ((c : Thread nD τ).loc main_arg3)) := by
    entry_read; rfl
  have e : iblk m c 6 t (ix2 (0 : Fin 1) l) = V m c main_v5 (ix2 (0 : Fin 1) l : S1x128.Idx) := by
    blk_ext [iblk, idx t]
  rw [e, h, laneRow_apply]

theorem blk7 (l : Fin 128) : iblk m c 7 t (ix2 (0 : Fin 1) l) = lane (m ((c : Thread nD τ).loc main_arg4)) l := by
  have h : V m c main_v10 = laneRow (m ((c : Thread nD τ).loc main_arg4)) := by
    entry_read; rfl
  have e : iblk m c 7 t (ix2 (0 : Fin 1) l) = V m c main_v10 (ix2 (0 : Fin 1) l : S1x128.Idx) := by
    blk_ext [iblk, idx t]
  rw [e, h, laneRow_apply]
end

end Cert.SampleConv

end
-- ==== Proof.SampleArray.lean ====
/- The sample's convolution: what the kernel leaves in each of its five outputs. -/
module

public import proofs.«01_k».proof.Proof.SampleConv

@[expose] public section

set_option maxRecDepth 16384

noncomputable section

namespace Cert.SampleConv

open Cert.ConvIdeal Cert.ConvIdeal.Gen Cert.ConvIdeal.Value Idealize.ShloMosaic Idealize.ShloMosaic.TcCoe Idealize.ShloMosaic.Tactic
open Cert.Offsets Cert.Norm

theorem headH_colH (h : Fin 8) (j : Fin 128) : headH (colH h j) = h := by
  have := j.isLt
  exact Fin.ext (by simp only [headH, colH]; omega)

theorem placeH_colH (h : Fin 8) (j : Fin 128) : placeH (colH h j) = j := by
  have := j.isLt
  exact Fin.ext (by simp only [placeH, colH]; omega)

/-- A store of 128 columns, head `h`'s, of an array given head by head. -/
theorem tile_head (f : Fin 8 → Fin 128 → Fin 128 → EReal) (w : Vec Ideal S128x128 .f32) (h : Fin 8)
    (hw : ∀ r k, (w (ix2 r k) : EReal) = f h r k) (o : ℕ) (ho : o = 128 * h.val) (y : S128x1024.Idx) :
    View.TileAt (Val := Elt Ideal) (e := .f32) y (![0, o] : Fin 2 → ℕ) S128x128.size w (f (headH (y 1 : Fin 1024)) (y 0 : Fin 128) (placeH (y 1 : Fin 1024))) := by
  intro x hx
  obtain ⟨a, b, rfl⟩ : ∃ a b : Fin 128, x = ix2 a b := ⟨x 0, x 1, by funext a; fin_cases a <;> rfl⟩
  have hy0 : (y 0 : Fin 128) = a := Fin.ext (by have := hx 0; simpa using this)
  have hy1 : (y 1 : Fin 1024) = colH h b := Fin.ext (by have := hx 1; subst ho; simpa [colH] using this)
  rw [hy0, hy1, headH_colH, placeH_colH]
  exact hw _ _

/-- A store of 1024 columns, group `g`'s of row `i`, of an array given by its columns. -/
theorem tile_rows (f : Fin 128 → Fin 9216 → EReal) (w : Vec Ideal S128x1024 .f32) (i g : Fin 3)
    (hw : ∀ r k, (w (ix2 r k) : EReal) = f r (colS i g k)) (o : ℕ) (ho : o = 3072 * i.val + 1024 * g.val) (y : S128x9216.Idx) :
    View.TileAt (Val := Elt Ideal) (e := .f32) y (![0, o] : Fin 2 → ℕ) S128x1024.size w (f (y 0 : Fin 128) (y 1 : Fin 9216)) := by
  intro x hx
  obtain ⟨a, b, rfl⟩ : ∃ (a : Fin 128) (b : Fin 1024), x = ix2 a b := ⟨x 0, x 1, by funext a; fin_cases a <;> rfl⟩
  have hy0 : (y 0 : Fin 128) = a := Fin.ext (by have := hx 0; simpa using this)
  have hy1 : (y 1 : Fin 9216) = colS i g b := Fin.ext (by have := hx 1; subst ho; simpa [colS] using this)
  rw [hy0, hy1]
  exact hw _ _

theorem keep_apply (x : Vec Ideal S128x1024 .f32) (r : Fin 128) (k : Fin 1024) :
    (k0_pay3 (F := Ideal) x (ix2 r k) : EReal) = x (ix2 r k) := by
  unfold k0_pay3; pointwise

section
variable (m : (ℓ : Loc nD τ sig) → Buf (Elt Ideal) ℓ) (c : Dev nD) (t : Fin cfg0.N)

theorem query_act (r : Fin 128) (k : Fin 1024) :
    (k0_pay5 (F := Ideal) (k0_pay39 (iblk m c 0 t) (iblk m c 1 t) (iblk m c 2 t) (iblk m c 3 t) (iblk m c 4 t) (iblk m c 5 t) (iblk m c 6 t) (iblk m c 7 t)) (Scalar.ofBits .f32 0x00000000#32) (ix2 r k) : EReal)
      = act (m ((c : Thread nD τ).loc main_arg0)) (m ((c : Thread nD τ).loc main_arg1)) (m ((c : Thread nD τ).loc main_arg2)) 0 r k := by
  unfold k0_pay39 act taps
  rw [pay5_apply, pay2_apply, View.ld_unit_zero zz,
    (show View.ld (iblk m c 5 t) r0_1 (ix2 (0 : Fin 1) k) = _ from ld_weight (iblk m c 5 t) 3 0 _ k),
    (show View.ld (iblk m c 5 t) r0_3 (ix2 (0 : Fin 1) k) = _ from ld_weight (iblk m c 5 t) 0 0 _ k),
    (show View.ld (iblk m c 5 t) r0_5 (ix2 (0 : Fin 1) k) = _ from ld_weight (iblk m c 5 t) 1 0 _ k),
    (show View.ld (iblk m c 5 t) r0_7 (ix2 (0 : Fin 1) k) = _ from ld_weight (iblk m c 5 t) 2 0 _ k),
    (show View.ld (iblk m c 4 t) r0_2 (ix2 r k) = _ from ld_kept (iblk m c 4 t) 0 0 _ rfl _ r k),
    (show View.ld (iblk m c 4 t) r0_4 (ix2 r k) = _ from ld_kept (iblk m c 4 t) 1 0 _ rfl _ r k),
    (show View.ld (iblk m c 4 t) r0_6 (ix2 r k) = _ from ld_kept (iblk m c 4 t) 2 0 _ rfl _ r k),
    blk5, blk5, blk5, blk5, blk4, blk4, blk4, blk0]

theorem key_act (r : Fin 128) (k : Fin 1024) :
    (k0_pay21 (F := Ideal) (k0_pay41 (iblk m c 0 t) (iblk m c 1 t) (iblk m c 2 t) (iblk m c 3 t) (iblk m c 4 t) (iblk m c 5 t) (iblk m c 6 t) (iblk m c 7 t)) (k0_pay42 (iblk m c 0 t) (iblk m c 1 t) (iblk m c 2 t) (iblk m c 3 t) (iblk m c 4 t) (iblk m c 5 t) (iblk m c 6 t) (iblk m c 7 t)) (k0_pay43 (iblk m c 0 t) (iblk m c 1 t) (iblk m c 2 t) (iblk m c 3 t) (iblk m c 4 t) (iblk m c 5 t) (iblk m c 6 t) (iblk m c 7 t)) (View.ld (iblk m c 4 t) r0_21) (View.ld (iblk m c 5 t) r0_22) (ix2 r k) : EReal)
      = act (m ((c : Thread nD τ).loc main_arg0)) (m ((c : Thread nD τ).loc main_arg1)) (m ((c : Thread nD τ).loc main_arg2)) 1 r k := by
  unfold k0_pay41 k0_pay42 k0_pay43 act taps
  rw [pay21_apply, View.ld_unit_zero zz,
    (show View.ld (iblk m c 5 t) r0_16 (ix2 (0 : Fin 1) k) = _ from ld_weight (iblk m c 5 t) 3 1 _ k),
    (show View.ld (iblk m c 5 t) r0_18 (ix2 (0 : Fin 1) k) = _ from ld_weight (iblk m c 5 t) 0 1 _ k),
    (show View.ld (iblk m c 5 t) r0_20 (ix2 (0 : Fin 1) k) = _ from ld_weight (iblk m c 5 t) 1 1 _ k),
    (show View.ld (iblk m c 5 t) r0_22 (ix2 (0 : Fin 1) k) = _ from ld_weight (iblk m c 5 t) 2 1 _ k),
    (show View.ld (iblk m c 4 t) r0_17 (ix2 r k) = _ from ld_kept (iblk m c 4 t) 0 1 _ rfl _ r k),
    (show View.ld (iblk m c 4 t) r0_19 (ix2 r k) = _ from ld_kept (iblk m c 4 t) 1 1 _ rfl _ r k),
    (show View.ld (iblk m c 4 t) r0_21 (ix2 r k) = _ from ld_kept (iblk m c 4 t) 2 1 _ rfl _ r k),
    blk5, blk5, blk5, blk5, blk4, blk4, blk4, blk1]

theorem point10 (r : Fin 128) (k : Fin 1024) : out0_10 (iblk m c 0 t) (iblk m c 1 t) (iblk m c 2 t) (iblk m c 3 t) (iblk m c 4 t) (iblk m c 5 t) (iblk m c 6 t) (iblk m c 7 t) (ix2 r k)
    = values (m ((c : Thread nD τ).loc main_arg0)) (m ((c : Thread nD τ).loc main_arg1)) (m ((c : Thread nD τ).loc main_arg2)) (ix2 r k) := by
  unfold out0_10
  rw [View.canon_unit_zero zz, pay38_apply, View.ld_unit_zero zz,
    (show View.ld (iblk m c 5 t) r0_23 (ix2 (0 : Fin 1) k) = _ from ld_weight (iblk m c 5 t) 3 2 _ k),
    (show View.ld (iblk m c 5 t) r0_25 (ix2 (0 : Fin 1) k) = _ from ld_weight (iblk m c 5 t) 0 2 _ k),
    (show View.ld (iblk m c 5 t) r0_27 (ix2 (0 : Fin 1) k) = _ from ld_weight (iblk m c 5 t) 1 2 _ k),
    (show View.ld (iblk m c 5 t) r0_29 (ix2 (0 : Fin 1) k) = _ from ld_weight (iblk m c 5 t) 2 2 _ k),
    (show View.ld (iblk m c 4 t) r0_24 (ix2 r k) = _ from ld_kept (iblk m c 4 t) 0 2 _ rfl _ r k),
    (show View.ld (iblk m c 4 t) r0_26 (ix2 r k) = _ from ld_kept (iblk m c 4 t) 1 2 _ rfl _ r k),
    (show View.ld (iblk m c 4 t) r0_28 (ix2 r k) = _ from ld_kept (iblk m c 4 t) 2 2 _ rfl _ r k),
    blk5, blk5, blk5, blk5, blk4, blk4, blk4, blk2]
  rfl

theorem point11 (r l : Fin 128) : out0_11 (iblk m c 0 t) (iblk m c 1 t) (iblk m c 2 t) (iblk m c 3 t) (iblk m c 4 t) (iblk m c 5 t) (iblk m c 6 t) (iblk m c 7 t) (ix2 r l)
    = gates (m ((c : Thread nD τ).loc main_arg0)) (m ((c : Thread nD τ).loc main_arg3)) (m ((c : Thread nD τ).loc main_arg4)) (ix2 r l) := by
  unfold out0_11
  rw [View.canon_unit_zero zz, View.ld_unit_zero zz, View.ld_unit_zero zz, View.ld_unit_zero zz, pay1_apply, blk3, blk6, blk7]
  rfl

theorem point8 (y : S128x1024.Idx) : out0_8 (iblk m c 0 t) (iblk m c 1 t) (iblk m c 2 t) (iblk m c 3 t) (iblk m c 4 t) (iblk m c 5 t) (iblk m c 6 t) (iblk m c 7 t) y
    = queries (m ((c : Thread nD τ).loc main_arg0)) (m ((c : Thread nD τ).loc main_arg1)) (m ((c : Thread nD τ).loc main_arg2)) y := by
  unfold out0_8 k0_pay40
  refine View.canon_eq_of_allAt (Val := Elt Ideal) _ y ((fun h r k => unit (fun j => act (m ((c : Thread nD τ).loc main_arg0)) (m ((c : Thread nD τ).loc main_arg1)) (m ((c : Thread nD τ).loc main_arg2)) 0 r (colH h j)) k * scale) (headH (y 1 : Fin 1024)) (y 0 : Fin 128) (placeH (y 1 : Fin 1024))) (cover0_8 _ _ _ _ _ _ _ _ y) ?_
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 7 (fun r k => ?_) _ rfl y) ?_
  · rw [pay15_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 6 (fun r k => ?_) _ rfl y) ?_
  · rw [pay14_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 5 (fun r k => ?_) _ rfl y) ?_
  · rw [pay11_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 4 (fun r k => ?_) _ rfl y) ?_
  · rw [pay10_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 3 (fun r k => ?_) _ rfl y) ?_
  · rw [pay9_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 2 (fun r k => ?_) _ rfl y) ?_
  · rw [pay8_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 1 (fun r k => ?_) _ rfl y) ?_
  · rw [pay7_apply]; simp only [query_act]
  refine View.allAt_cons_unit _ _ _ _ _ (tile_head (fun h r k => unit (fun j => act (m ((c : Thread nD τ).loc main_arg0)) (m ((c : Thread nD τ).loc main_arg1)) (m ((c : Thread nD τ).loc main_arg2)) 0 r (colH h j)) k * scale) _ 0 (fun r k => ?_) _ rfl y) ?_
  · rw [pay6_apply]; simp only [query_act]
  exact View.allAt_nil y _

theorem point9 (y : S128x1024.Idx) : out0_9 (iblk m c 0 t) (iblk m c 1 t) (iblk m c 2 t) (iblk m c 3 t) (iblk m c 4 t) (iblk m c 5 t) (iblk m c 6 t) (iblk m c 7 t) y
    = keys (m ((c : Thread nD τ).loc main_arg0)) (m ((c : Thread nD τ).loc main_arg1)) (m ((c : Thread nD τ).loc main_arg2)) y := by
  unfold out0_9 k0_pay44
  refine View.canon_eq_of_allAt (Val := Elt Ideal) _ y ((fun h r k => unit (fun j => act (m ((c : Thread nD τ).loc main_arg0)) (m ((c : Thread nD τ).loc main_arg1)) (m ((c : Thread nD τ).loc main_arg2)) 1 r (colH h j)) k) (headH (y 1 : Fin 1024)) (y 0 : Fin 128) (placeH (y 1 : Fin 1024))) (cover0_9 _ _ _ _ _ _ _ _ y) ?_
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 7 (fun r k => ?_) _ rfl y) ?_
  · exact (pay33_apply _ r k).trans (congrArg (fun f => unit f k) (funext fun j => key_act m c t r (colH 7 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 6 (fun r k => ?_) _ rfl y) ?_
  · exact (pay32_apply _ r k).trans (congrArg (fun f => unit f k) (funext fun j => key_act m c t r (colH 6 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 5 (fun r k => ?_) _ rfl y) ?_
  · exact (pay31_apply _ r k).trans (congrArg (fun f => unit f k) (funext fun j => key_act m c t r (colH 5 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 4 (fun r k => ?_) _ rfl y) ?_
  · exact (pay28_apply _ r k).trans (congrArg (fun f => unit f k) (funext fun j => key_act m c t r (colH 4 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 3 (fun r k => ?_) _ rfl y) ?_
  · exact (pay27_apply _ r k).trans (congrArg (fun f => unit f k) (funext fun j => key_act m c t r (colH 3 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 2 (fun r k => ?_) _ rfl y) ?_
  · exact (pay26_apply _ r k).trans (congrArg (fun f => unit f k) (funext fun j => key_act m c t r (colH 2 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 1 (fun r k => ?_) _ rfl y) ?_
  · exact (pay25_apply _ _ _ _ _ r k).trans (congrArg (fun f => unit f k) (funext fun j => key_act m c t r (colH 1 j)))
  refine View.allAt_cons_unit _ _ _ _ _ (tile_head (fun h r k => unit (fun j => act (m ((c : Thread nD τ).loc main_arg0)) (m ((c : Thread nD τ).loc main_arg1)) (m ((c : Thread nD τ).loc main_arg2)) 1 r (colH h j)) k) _ 0 (fun r k => ?_) _ rfl y) ?_
  · exact (pay22_apply _ _ _ _ _ r k).trans (congrArg (fun f => unit f k) (funext fun j => key_act m c t r (colH 0 j)))
  exact View.allAt_nil y _

theorem rows_kept (r : Fin 128) (i g : Fin 3) (h : i.val < 2) (k : Fin 1024) (i' : Fin 3) (hi : i'.val = i.val + 1) :
    rows (m ((c : Thread nD τ).loc main_arg0)) (m ((c : Thread nD τ).loc main_arg1)) (ix2 r (colS i g k)) = (m ((c : Thread nD τ).loc main_arg1)) (ix3 r i' (colOf g k)) := by
  have := k.isLt
  have := g.isLt
  have h' : (colS i g k).val < 6144 := by simp only [colS]; omega
  have e : nextT (colS i g k) h' = i' := Fin.ext (by simp only [nextT, colS]; omega)
  unfold rows
  refine (dif_pos h').trans ?_
  show (m ((c : Thread nD τ).loc main_arg1)) (ix3 r (nextT (colS i g k) h') (placeT (colS i g k))) = _
  rw [e, placeT_colS]

theorem rows_new (r : Fin 128) (g : Fin 3) (k : Fin 1024) :
    rows (m ((c : Thread nD τ).loc main_arg0)) (m ((c : Thread nD τ).loc main_arg1)) (ix2 r (colS 2 g k)) = (m ((c : Thread nD τ).loc main_arg0)) (ix2 r (colP (colOf g k))) := by
  have h' : ¬ (colS 2 g k).val < 6144 := by simp [colS]; omega
  unfold rows
  refine (dif_neg h').trans ?_
  show (m ((c : Thread nD τ).loc main_arg0)) (ix2 r (colP (placeT (colS 2 g k)))) = _
  rw [placeT_colS]

theorem point12 (y : S128x9216.Idx) : out0_12 (iblk m c 0 t) (iblk m c 1 t) (iblk m c 2 t) (iblk m c 3 t) (iblk m c 4 t) (iblk m c 5 t) (iblk m c 6 t) (iblk m c 7 t) y
    = rows (m ((c : Thread nD τ).loc main_arg0)) (m ((c : Thread nD τ).loc main_arg1)) y := by
  unfold out0_12
  have hy : y = ix2 (y 0 : Fin 128) (y 1 : Fin 9216) := by funext a; fin_cases a <;> rfl
  refine (View.canon_eq_of_allAt (Val := Elt Ideal) _ y ((fun r n => rows (m ((c : Thread nD τ).loc main_arg0)) (m ((c : Thread nD τ).loc main_arg1)) (ix2 r n)) (y 0 : Fin 128) (y 1 : Fin 9216)) (cover0_12 _ _ _ _ _ _ _ _ _ y) ?_).trans (congrArg _ hy.symm)
  refine View.allAt_cons_unit _ _ _ _ _ (tile_rows (fun r n => rows (m ((c : Thread nD τ).loc main_arg0)) (m ((c : Thread nD τ).loc main_arg1)) (ix2 r n)) _ 2 2 (fun r k => ?_) _ rfl y) ?_
  · rw [View.ld_unit_zero zz, blk2]; exact (rows_new m c r 2 k).symm
  refine View.allAt_cons_unit _ _ _ _ _ (tile_rows (fun r n => rows (m ((c : Thread nD τ).loc main_arg0)) (m ((c : Thread nD τ).loc main_arg1)) (ix2 r n)) _ 1 2 (fun r k => ?_) _ rfl y) ?_
  · refine (keep_apply _ r k).trans ((ld_kept (iblk m c 4 t) 2 2 _ rfl _ r k).trans ?_)
    rw [blk4]; exact (rows_kept m c r 1 2 (by decide) k 2 rfl).symm
  refine View.allAt_cons_unit _ _ _ _ _ (tile_rows (fun r n => rows (m ((c : Thread nD τ).loc main_arg0)) (m ((c : Thread nD τ).loc main_arg1)) (ix2 r n)) _ 0 2 (fun r k => ?_) _ rfl y) ?_
  · refine (keep_apply _ r k).trans ((ld_kept (iblk m c 4 t) 1 2 _ rfl _ r k).trans ?_)
    rw [blk4]; exact (rows_kept m c r 0 2 (by decide) k 1 rfl).symm
  refine View.allAt_cons_unit _ _ _ _ _ (tile_rows (fun r n => rows (m ((c : Thread nD τ).loc main_arg0)) (m ((c : Thread nD τ).loc main_arg1)) (ix2 r n)) _ 2 1 (fun r k => ?_) _ rfl y) ?_
  · rw [View.ld_unit_zero zz, blk1]; exact (rows_new m c r 1 k).symm
  refine View.allAt_cons_unit _ _ _ _ _ (tile_rows (fun r n => rows (m ((c : Thread nD τ).loc main_arg0)) (m ((c : Thread nD τ).loc main_arg1)) (ix2 r n)) _ 1 1 (fun r k => ?_) _ rfl y) ?_
  · refine (keep_apply _ r k).trans ((ld_kept (iblk m c 4 t) 2 1 _ rfl _ r k).trans ?_)
    rw [blk4]; exact (rows_kept m c r 1 1 (by decide) k 2 rfl).symm
  refine View.allAt_cons_unit _ _ _ _ _ (tile_rows (fun r n => rows (m ((c : Thread nD τ).loc main_arg0)) (m ((c : Thread nD τ).loc main_arg1)) (ix2 r n)) _ 0 1 (fun r k => ?_) _ rfl y) ?_
  · refine (keep_apply _ r k).trans ((ld_kept (iblk m c 4 t) 1 1 _ rfl _ r k).trans ?_)
    rw [blk4]; exact (rows_kept m c r 0 1 (by decide) k 1 rfl).symm
  refine View.allAt_cons_unit _ _ _ _ _ (tile_rows (fun r n => rows (m ((c : Thread nD τ).loc main_arg0)) (m ((c : Thread nD τ).loc main_arg1)) (ix2 r n)) _ 2 0 (fun r k => ?_) _ rfl y) ?_
  · rw [View.ld_unit_zero zz, blk0]; exact (rows_new m c r 0 k).symm
  refine View.allAt_cons_unit _ _ _ _ _ (tile_rows (fun r n => rows (m ((c : Thread nD τ).loc main_arg0)) (m ((c : Thread nD τ).loc main_arg1)) (ix2 r n)) _ 1 0 (fun r k => ?_) _ rfl y) ?_
  · refine (keep_apply _ r k).trans ((ld_kept (iblk m c 4 t) 2 0 _ rfl _ r k).trans ?_)
    rw [blk4]; exact (rows_kept m c r 1 0 (by decide) k 2 rfl).symm
  refine View.allAt_cons_unit _ _ _ _ _ (tile_rows (fun r n => rows (m ((c : Thread nD τ).loc main_arg0)) (m ((c : Thread nD τ).loc main_arg1)) (ix2 r n)) _ 0 0 (fun r k => ?_) _ rfl y) ?_
  · refine (keep_apply _ r k).trans ((ld_kept (iblk m c 4 t) 1 0 _ rfl _ r k).trans ?_)
    rw [blk4]; exact (rows_kept m c r 0 0 (by decide) k 1 rfl).symm
  exact View.allAt_nil y _
end

theorem array8 (m : (ℓ : Loc nD τ sig) → Buf (Elt Ideal) ℓ) (c : Dev nD) :
    (dats m 0 c).arrAt 8 cfg0.N = queries (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  refine (point8 m c t y).trans (congrArg _ ?_)
  funext a
  fin_cases a <;> apply Fin.ext <;> blk_simp [idx t] <;> rfl

theorem array9 (m : (ℓ : Loc nD τ sig) → Buf (Elt Ideal) ℓ) (c : Dev nD) :
    (dats m 0 c).arrAt 9 cfg0.N = keys (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  refine (point9 m c t y).trans (congrArg _ ?_)
  funext a
  fin_cases a <;> apply Fin.ext <;> blk_simp [idx t] <;> rfl

theorem array10 (m : (ℓ : Loc nD τ sig) → Buf (Elt Ideal) ℓ) (c : Dev nD) :
    (dats m 0 c).arrAt 10 cfg0.N = values (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  have hy : y = ix2 (y 0 : Fin 128) (y 1 : Fin 1024) := by funext a; fin_cases a <;> rfl
  refine (congrArg (out0_10 _ _ _ _ _ _ _ _) hy).trans ((point10 m c t (y 0) (y 1)).trans (congrArg _ ?_))
  funext a
  fin_cases a <;> apply Fin.ext <;> blk_simp [idx t] <;> rfl

theorem array11 (m : (ℓ : Loc nD τ sig) → Buf (Elt Ideal) ℓ) (c : Dev nD) :
    (dats m 0 c).arrAt 11 cfg0.N = gates (m ((c : Thread nD τ).loc main_arg0)) (m ((c : Thread nD τ).loc main_arg3)) (m ((c : Thread nD τ).loc main_arg4)) := by
  refine (dats m 0 c).arrAt_eq_of_covers 11 _ (by decide +kernel) fun t hf y => ?_
  blk_simp
  rw [after0_11]
  have hy : y = ix2 (y 0 : Fin 128) (y 1 : Fin 128) := by funext a; fin_cases a <;> rfl
  refine (congrArg (out0_11 _ _ _ _ _ _ _ _) hy).trans ((point11 m c t (y 0) (y 1)).trans (congrArg _ ?_))
  funext a
  fin_cases a <;> apply Fin.ext <;> blk_simp [idx t] <;> rfl

theorem array12 (m : (ℓ : Loc nD τ sig) → Buf (Elt Ideal) ℓ) (c : Dev nD) :
    (dats m 0 c).arrAt 12 cfg0.N = rows (m ((c : Thread nD τ).loc main_arg0)) (m ((c : Thread nD τ).loc main_arg1)) := by
  refine (dats m 0 c).arrAt_eq_of_covers 12 _ (by decide +kernel) fun t hf y => ?_
  blk_simp
  rw [after0_12]
  refine (point12 m c t y).trans (congrArg _ ?_)
  funext a
  fin_cases a <;> apply Fin.ext <;> blk_simp [idx t] <;> rfl

end Cert.SampleConv

end
-- ==== Proof.SampleReference.lean ====
/- The same five arrays, as the reference computes them: the sum over the four rows, the norms, and the padded step sizes. -/
module

public import proofs.«01_k».proof.Proof.SampleConv

@[expose] public section

set_option maxRecDepth 16384

noncomputable section

namespace Cert.SampleConv

open Cert.ConvRefIdeal Cert.ConvRefIdeal.Read Idealize.ShloMosaic
open Cert.Norm

section
variable (p : Vec Ideal S128x5120 .f32) (s : Vec Ideal S128x3x3072 .f32) (w : Vec Ideal S4x3072 .f32) (la dt : Vec Ideal S8 .f32)

theorem ref_row (b : Fin 128) (i : Fin 4) (n : Fin 3072) :
    val_main_v2 p s (ix3 b i n) = if h : i.val < 3 then s (ix3 b (⟨i.val, h⟩ : Fin 3) n) else p (ix2 b (colP n)) := by
  unfold val_main_v2 val_main_v1 val_main_v0 colP
  pointwise

theorem ref_tap0 (b : Fin 128) (n : Fin 3072) : val_main_v9 p s w (ix2 b n) = s (ix3 b 0 n) * w (ix2 0 n) := by
  rw [val_main_v9_apply, val_main_v4_apply, val_main_v3_apply, val_main_v8_apply, val_main_v7_apply, val_main_v6_apply, val_main_v5_apply]
  refine congrArg₂ (· * ·) ((congrArg (val_main_v2 p s) ?_).trans (ref_row p s b 0 n)) (congrArg w ?_) <;>
    · funext a; fin_cases a <;> apply Fin.ext <;> simp <;> omega

theorem ref_tap1 (b : Fin 128) (n : Fin 3072) : val_main_v18 p s w (ix2 b n) = s (ix3 b 1 n) * w (ix2 1 n) := by
  rw [val_main_v18_apply, val_main_v13_apply, val_main_v12_apply, val_main_v17_apply, val_main_v16_apply, val_main_v15_apply, val_main_v14_apply]
  refine congrArg₂ (· * ·) ((congrArg (val_main_v2 p s) ?_).trans (ref_row p s b 1 n)) (congrArg w ?_) <;>
    · funext a; fin_cases a <;> apply Fin.ext <;> simp <;> omega

theorem ref_tap2 (b : Fin 128) (n : Fin 3072) : val_main_v26 p s w (ix2 b n) = s (ix3 b 2 n) * w (ix2 2 n) := by
  rw [val_main_v26_apply, val_main_v21_apply, val_main_v20_apply, val_main_v25_apply, val_main_v24_apply, val_main_v23_apply, val_main_v22_apply]
  refine congrArg₂ (· * ·) ((congrArg (val_main_v2 p s) ?_).trans (ref_row p s b 2 n)) (congrArg w ?_) <;>
    · funext a; fin_cases a <;> apply Fin.ext <;> simp <;> omega

theorem ref_tap3 (b : Fin 128) (n : Fin 3072) : val_main_v34 p s w (ix2 b n) = p (ix2 b (colP n)) * w (ix2 3 n) := by
  rw [val_main_v34_apply, val_main_v29_apply, val_main_v28_apply, val_main_v33_apply, val_main_v32_apply, val_main_v31_apply, val_main_v30_apply]
  refine congrArg₂ (· * ·) ((congrArg (val_main_v2 p s) ?_).trans (ref_row p s b 3 n)) (congrArg w ?_) <;>
    · funext a; fin_cases a <;> apply Fin.ext <;> simp <;> omega

theorem zero_bits : Ideal.ofBits FTy.f32 0#32 = 0 := by simp [Ideal.ofBits, Ideal.ieee]

theorem new_first (a b c d : EReal) : 0 + a + b + c + d = d + a + b + c := by
  rw [zero_add, add_comm _ d, ← add_assoc, ← add_assoc]

theorem ref_taps (b : Fin 128) (n : Fin 3072) : val_main_v35 p s w (ix2 b n) = taps p s w b n := by
  rw [val_main_v35_apply, val_main_v27_apply, val_main_v19_apply, val_main_v11_apply, ref_tap0, ref_tap1, ref_tap2, ref_tap3,
    show val_main_v10 (F := Ideal) (ix2 b n) = (0 : EReal) from zero_bits]
  exact new_first _ _ _ _

theorem ref_silu (b : Fin 128) (n : Fin 3072) : val_main_v36 p s w (ix2 b n) = silu (taps p s w b n) := by
  rw [← ref_taps]
  unfold val_main_v36 val_main_call0_v5 val_main_call0_v4 val_main_call0_v3 val_main_call0_v2 val_main_call0_v1 val_main_call0_v0
    val_main_call0_cst val_main_call0_cst_0 silu
  generalize val_main_v35 p s w = z
  rw [zero_sub]
  pointwise

theorem ref_head (g : Fin 3) (b : Fin 128) (h : Fin 8) (j : Fin 128) :
    val_main_v37 p s w (ix4 b g h j) = act p s w g b (colH h j) := by
  rw [val_main_v37_apply]
  refine (congrArg (val_main_v36 p s w) ?_).trans (ref_silu p s w b (colOf g (colH h j)))
  have := g.isLt
  have := h.isLt
  have := j.isLt
  funext a
  fin_cases a <;> apply Fin.ext <;> simp [colOf, colH] <;> omega

theorem ref_query_head (b : Fin 128) (h : Fin 8) (j : Fin 128) : val_main_v39 p s w (ix3 b h j) = act p s w 0 b (colH h j) := by
  rw [val_main_v39_apply, val_main_v38_apply]
  refine (congrArg (val_main_v37 p s w) ?_).trans (ref_head p s w 0 b h j)
  have := h.isLt
  have := j.isLt
  funext a
  fin_cases a <;> apply Fin.ext <;> simp <;> omega

theorem ref_key_head (b : Fin 128) (h : Fin 8) (j : Fin 128) : val_main_v51 p s w (ix3 b h j) = act p s w 1 b (colH h j) := by
  rw [val_main_v51_apply, val_main_v50_apply]
  refine (congrArg (val_main_v37 p s w) ?_).trans (ref_head p s w 1 b h j)
  have := h.isLt
  have := j.isLt
  funext a
  fin_cases a <;> apply Fin.ext <;> simp <;> omega

theorem ref_value_head (b : Fin 128) (h : Fin 8) (j : Fin 128) : val_main_v82 p s w (ix3 b h j) = act p s w 2 b (colH h j) := by
  rw [val_main_v82_apply, val_main_v81_apply]
  refine (congrArg (val_main_v37 p s w) ?_).trans (ref_head p s w 2 b h j)
  have := h.isLt
  have := j.isLt
  funext a
  fin_cases a <;> apply Fin.ext <;> simp <;> omega

theorem ref_query_unit (b : Fin 128) (h : Fin 8) (j : Fin 128) :
    val_main_v49 p s w (ix3 b h j) = unit (fun i => val_main_v39 p s w (ix3 b h i)) j * scale := by
  unfold val_main_v49 val_main_v48 val_main_v47 val_main_v46 val_main_v45 val_main_v44 val_main_v43 val_main_v42 val_main_v41 val_main_v40
    val_main_cst_0 val_main_cst_1 val_main_cst_2 unit scale eps
  generalize val_main_v39 p s w = z
  pointwise

theorem ref_key_unit (b : Fin 128) (h : Fin 8) (j : Fin 128) :
    val_main_v59 p s w (ix3 b h j) = unit (fun i => val_main_v51 p s w (ix3 b h i)) j := by
  unfold val_main_v59 val_main_v58 val_main_v57 val_main_v56 val_main_v55 val_main_v54 val_main_v53 val_main_v52
    val_main_cst_3 val_main_cst_4 unit eps
  generalize val_main_v51 p s w = z
  pointwise

theorem ref_queries : val_main_v79 p s w = queries p s w := by
  funext y
  have h1 : (y 1).val < 1024 := (y 1).isLt
  rw [val_main_v79_apply]
  refine (congrArg (val_main_v49 p s w) (?_ : _ = ix3 (y 0 : Fin 128) (headH (y 1 : Fin 1024)) (placeH (y 1 : Fin 1024)))).trans ?_
  · unfold headH placeH
    funext a
    fin_cases a <;> apply Fin.ext <;> simp <;> omega
  · refine (ref_query_unit p s w _ _ _).trans ?_
    exact congrArg (fun f => unit f (placeH (y 1 : Fin 1024)) * scale) (funext fun j => ref_query_head p s w _ _ j)

theorem ref_keys : val_main_v80 p s w = keys p s w := by
  funext y
  have h1 : (y 1).val < 1024 := (y 1).isLt
  rw [val_main_v80_apply]
  refine (congrArg (val_main_v59 p s w) (?_ : _ = ix3 (y 0 : Fin 128) (headH (y 1 : Fin 1024)) (placeH (y 1 : Fin 1024)))).trans ?_
  · unfold headH placeH
    funext a
    fin_cases a <;> apply Fin.ext <;> simp <;> omega
  · refine (ref_key_unit p s w _ _ _).trans ?_
    exact congrArg (fun f => unit f (placeH (y 1 : Fin 1024))) (funext fun j => ref_key_head p s w _ _ j)

theorem colH_split (k : Fin 1024) : colH (headH k) (placeH k) = k :=
  Fin.ext (by simp only [colH, headH, placeH]; omega)

theorem ref_values : val_main_v83 p s w = values p s w := by
  funext y
  have h1 : (y 1).val < 1024 := (y 1).isLt
  rw [val_main_v83_apply]
  refine (congrArg (val_main_v82 p s w) (?_ : _ = ix3 (y 0 : Fin 128) (headH (y 1 : Fin 1024)) (placeH (y 1 : Fin 1024)))).trans ?_
  · unfold headH placeH
    funext a
    fin_cases a <;> apply Fin.ext <;> simp <;> omega
  · exact (ref_value_head p s w _ _ _).trans (congrArg (act p s w 2 _) (colH_split _))

theorem ref_softplus (b : Fin 128) (l : Fin 120) : val_main_v75 p dt (ix2 b l) = softplus (val_main_v74 p dt (ix2 b l)) := by
  unfold val_main_v75 val_main_call3_v11 val_main_call3_v10 val_main_call3_v9 val_main_call3_v8 val_main_call3_v7 val_main_call3_v6
    val_main_call3_v5 val_main_call3_v4 val_main_call3_v3 val_main_call3_v2 val_main_call3_v1 val_main_call3_v0 val_main_call3_cst softplus
  generalize val_main_v74 p dt = z
  rw [zero_sub]
  pointwise
  exact if_neg fun h => h rfl

theorem ref_pad (l : Fin 120) : val_main_v67 la (ix1 l) = lane la (⟨8 + l.val, by omega⟩ : Fin 128) := by
  have hz : val_main_call1_v0 (F := Ideal) (Shape.Idx.first Cert.ConvRefIdeal.Gen.h_S_) = (0 : EReal) := by
    unfold val_main_call1_v0 val_main_c; pointwise
    exact (congrArg (fun n : ℤ => ((n : ℝ) : EReal)) (by rfl : (0#32).toInt = 0)).trans (by simp)
  unfold val_main_v67 lane
  pointwise
  rw [hz]
  by_cases h : l.val < 8
  · rw [dif_pos h, dif_pos (by omega)]
  · rw [dif_neg h, dif_neg (by omega)]

theorem ref_pad' (l : Fin 120) : val_main_v68 dt (ix1 l) = lane dt (⟨8 + l.val, by omega⟩ : Fin 128) := ref_pad dt l

theorem ref_step (b : Fin 128) (l : Fin 8) : val_main_v66 p (ix2 b l) = sigmoid (p (ix2 b (colG (⟨l.val, by omega⟩ : Fin 128)))) := by
  unfold val_main_v66 val_main_v65 val_main_v64 val_main_v63 val_main_v62 val_main_v61 val_main_v60 val_main_cst_5 val_main_cst_6 sigmoid colG
  rw [zero_sub]
  pointwise

theorem ref_decay (b : Fin 128) (l : Fin 120) : val_main_v78 p la dt (ix2 b l)
    = (0 - Ideal.exp (lane la (⟨8 + l.val, by omega⟩ : Fin 128)))
      * softplus (p (ix2 b (colG (⟨8 + l.val, by omega⟩ : Fin 128))) + lane dt (⟨8 + l.val, by omega⟩ : Fin 128)) := by
  have e : val_main_v74 p dt (ix2 b l)
      = p (ix2 b (colG (⟨8 + l.val, by omega⟩ : Fin 128))) + lane dt (⟨8 + l.val, by omega⟩ : Fin 128) := by
    rw [← ref_pad']
    unfold val_main_v74 val_main_v73 val_main_v72 val_main_v71 colG
    generalize val_main_v68 dt = z
    pointwise
    refine congrArg (fun n => p (ix2 b n) + z (ix1 l)) (Fin.ext ?_)
    simp
    omega
  rw [← e, ← ref_softplus, ← ref_pad, zero_sub]
  unfold val_main_v78 val_main_v77 val_main_v76 val_main_v70 val_main_v69
  generalize val_main_v67 la = z
  generalize val_main_v75 p dt = q
  pointwise

theorem ref_gate (b l : Fin 128) : val_main_v84 p la dt (ix2 b l) = gate p la dt b l := by
  have hs := ref_step p b
  have hd := ref_decay p la dt b
  unfold val_main_v84 gate
  generalize val_main_v66 p = x at hs ⊢
  generalize val_main_v78 p la dt = z at hd ⊢
  pointwise
  by_cases h : l.val < 8
  · rw [dif_pos h, if_pos h, hs]
  · rw [dif_neg h, if_neg h, hd]
    have e : (⟨8 + (l.val - 8), by omega⟩ : Fin 128) = l := Fin.ext (by show 8 + (l.val - 8) = l.val; omega)
    rw [e]

theorem ref_gates : val_main_v84 p la dt = gates p la dt := by
  funext y
  have hy : y = ix2 (y 0 : Fin 128) (y 1 : Fin 128) := by funext a; fin_cases a <;> rfl
  exact (congrArg _ hy).trans (ref_gate p la dt (y 0) (y 1))

theorem ref_rows : val_main_v86 p s = rows p s := by
  funext y
  have h0 : (y 0).val < 128 := (y 0).isLt
  have h1 : (y 1).val < 9216 := (y 1).isLt
  rw [val_main_v86_apply, val_main_v85_apply]
  refine (congrArg (val_main_v2 p s) (?_ : _ = ix3 (y 0 : Fin 128) (⟨(y 1).val / 3072 + 1, by omega⟩ : Fin 4) (placeT (y 1 : Fin 9216)))).trans ?_
  · unfold placeT
    funext a
    fin_cases a <;> apply Fin.ext <;> simp <;> omega
  · refine (ref_row p s _ _ _).trans ?_
    unfold rows
    by_cases h : (y 1).val < 6144
    · rw [dif_pos (by show (y 1).val / 3072 + 1 < 3; omega), dif_pos h]
      rfl
    · rw [dif_neg (by show ¬ (y 1).val / 3072 + 1 < 3; omega), dif_neg h]
end

end Cert.SampleConv

end
-- ==== Proof.SampleLatent.lean ====
/- The sample's latent rows and rotary keys: all 128 rows stand at the same position, so one row of cosines and sines serves
   them all.  What the kernel leaves in its first two outputs, and the same two arrays as the reference computes them. -/
module

public import proofs.«01_k».proof.Proof.Gen.RowsIdeal.Value
public import proofs.«01_k».proof.Proof.Gen.RowsRefIdeal.Read
public import proofs.«01_k».proof.Proof.LatentReference

@[expose] public section

set_option maxRecDepth 16384

noncomputable section

namespace Cert.SampleLatent

open Cert.RowsIdeal Cert.RowsIdeal.Gen Cert.RowsIdeal.Value Idealize.ShloMosaic Idealize.ShloMosaic.TcCoe Idealize.ShloMosaic.Tactic
open Cert.Offsets Cert.Norm
open Cert.Latent (w256 colC colK colX freq freq_high zero_bits sub_to_add)

/-- The cosines and the sines of the 32 frequencies at the sample's position. -/
def cosRow : FVec Ideal S1x32 .f32 := Cert.RowsRefIdeal.Read.val_main_v14 (F := Ideal)
def sinRow : FVec Ideal S1x32 .f32 := Cert.RowsRefIdeal.Read.val_main_v15 (F := Ideal)

/-- The cosine that rotary column `j` is multiplied by, and the sine with its sign. -/
def cosk (j : Fin 64) : EReal := cosRow (ix2 0 (freq j))
def sink (j : Fin 64) : EReal := if j.val < 32 then -(sinRow (ix2 0 (freq j)) : EReal) else sinRow (ix2 0 (freq j))

section
variable (p : Vec Ideal S128x5120 .f32) (gc : Vec Ideal S256 .f32)

/-- The latent rows. -/
def latent : Vec Ideal S128x256 .f32 :=
  fun y => normedOf w256 (fun j => p (ix2 (y 0 : Fin 128) (colC j))) (fun j => gc (ix1 j)) (y 1 : Fin 256)

/-- The rotary keys. -/
def keys : Vec Ideal S128x64 .f32 :=
  fun y => p (ix2 (y 0 : Fin 128) (colK (y 1 : Fin 64))) * cosk (y 1 : Fin 64)
    + p (ix2 (y 0 : Fin 128) (colX (y 1 : Fin 64))) * sink (y 1 : Fin 64)
end

theorem pay14_apply (x : Vec Ideal S128x256 .f32) (g : Vec Ideal S1x256 .f32) (r : Fin 128) (k : Fin 256) :
    k0_pay14 x g (ix2 r k) = normedOf w256 (fun j => x (ix2 r j)) (fun j => g (ix2 0 j)) k := by
  unfold k0_pay14 normedOf eps w256; pointwise

theorem pay16_apply (x : Vec Ideal S128x128 .f32) (c s : Vec Ideal S128x64 .f32) (r : Fin 128) (j : Fin 64) :
    k0_pay16 x c s (ix2 r j) = x (ix2 r (⟨j.val, by omega⟩ : Fin 128)) * c (ix2 r j)
      + x (ix2 r (⟨64 + j.val, by omega⟩ : Fin 128)) * s (ix2 r j) := by
  unfold k0_pay16; pointwise

/-- The two tables: a row of 64 columns repeated for the 128 rows of the sample. -/
def table (a b : FVec Ideal S1x32 .f32) : FVec Ideal S128x64 .f32 :=
  broadcastInDim S128x64 ![0, 1] bcast_S1x64_S128x64_0_1
    (concatenate (α := Ideal .f32) S1x64 1 [⟨S1x32, a⟩, ⟨S1x32, b⟩] concatenates_S1x32_S1x32_S1x64_d1)

theorem table_apply (a b : FVec Ideal S1x32 .f32) (r : Fin 128) (j : Fin 64) :
    table a b (ix2 r j) = if j.val < 32 then a (ix2 0 (freq j)) else b (ix2 0 (freq j)) := by
  unfold table freq
  pointwise
  by_cases h : j.val < 32
  · simp only [h, Nat.mod_eq_of_lt h, dite_true, if_true]
  · simp only [h, dite_false, if_false, freq_high j h]

/-- Where the windows put the one grid point's blocks. -/
theorem idx : ∀ t : Fin cfg0.N,
    win0_1.index t = ![0, 18] ∧ win0_2.index t = ![0, 38] ∧ win0_4.index t = ![0, 0]
    ∧ win0_10.index t = ![0, 0] ∧ win0_11.index t = ![0, 0] ∧ win0_12.index t = ![0, 0] ∧ win0_13.index t = ![0, 0] :=
  (by decide +kernel : ∀ t : Fin grid0.N, _)

section
variable (m : (ℓ : Loc nD τ sig) → Buf (Elt Ideal) ℓ) (c : Dev nD) (t : Fin cfg0.N)

theorem blk1 (r : Fin 128) (k : Fin 256) :
    iblk m c 1 t (ix2 r k) = m ((c : Thread nD τ).loc main_arg0) (ix2 r (colC k)) := by
  unfold colC
  blk_ext [iblk, V, idx t]

theorem blk2 (r : Fin 128) (j : Fin 64) :
    iblk m c 2 t (ix2 r (⟨j.val, by omega⟩ : Fin 128)) = m ((c : Thread nD τ).loc main_arg0) (ix2 r (colK j)) := by
  unfold colK
  blk_ext [iblk, V, idx t]

theorem blk2' (r : Fin 128) (j : Fin 64) :
    iblk m c 2 t (ix2 r (⟨64 + j.val, by omega⟩ : Fin 128)) = m ((c : Thread nD τ).loc main_arg0) (ix2 r (colX j)) := by
  unfold colX
  blk_ext [iblk, V, idx t]

theorem blk4 (k : Fin 256) :
    iblk m c 4 t (ix2 (0 : Fin 1) k) = m ((c : Thread nD τ).loc main_arg2) (ix1 k) := by
  have h : V m c main_v40 = (shapeCast S1x256 (α := Ideal .f32) (m ((c : Thread nD τ).loc main_arg2)) shapeCasts_S256_S1x256 : FVec Ideal S1x256 .f32) := by
    entry_read; rfl
  have e : iblk m c 4 t (ix2 (0 : Fin 1) k) = V m c main_v40 (ix2 (0 : Fin 1) k : S1x256.Idx) := by
    blk_ext [iblk, idx t]
  rw [e, h]
  pointwise

theorem blk10 (r : Fin 128) (j : Fin 64) : iblk m c 10 t (ix2 r j) = cosk j := by
  have h : V m c main_v27 = table cosRow cosRow := by
    entry_read; rfl
  have e : iblk m c 10 t (ix2 r j) = V m c main_v27 (ix2 r j : S128x64.Idx) := by
    blk_ext [iblk, idx t]
  rw [e, h, table_apply, ite_self]
  rfl

theorem blk11 (r : Fin 128) (j : Fin 64) : iblk m c 11 t (ix2 r j) = sink j := by
  have h : V m c main_v28 = table (Host.negf sinRow) sinRow := by
    entry_read; rfl
  have e : iblk m c 11 t (ix2 r j) = V m c main_v28 (ix2 r j : S128x64.Idx) := by
    blk_ext [iblk, idx t]
  rw [e, h, table_apply]
  rfl

theorem point12 (r : Fin 128) (k : Fin 256) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r k)
    = latent (m ((c : Thread nD τ).loc main_arg0)) (m ((c : Thread nD τ).loc main_arg2)) (ix2 r k) := by
  unfold out0_12
  rw [View.canon_unit_zero zz, View.ld_unit_zero zz, View.ld_unit_zero zz, pay14_apply]
  simp only [blk1, blk4]
  rfl

theorem point13 (r : Fin 128) (j : Fin 64) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
    = keys (m ((c : Thread nD τ).loc main_arg0)) (ix2 r j) := by
  unfold out0_13 k0_pay18
  rw [View.canon_unit_zero zz, View.ld_unit_zero zz, View.ld_unit_zero zz, View.ld_unit_zero zz, pay16_apply, blk2, blk2', blk10, blk11]
  rfl
end

theorem array12 (m : (ℓ : Loc nD τ sig) → Buf (Elt Ideal) ℓ) (c : Dev nD) :
    (dats m 0 c).arrAt 12 cfg0.N = latent (m ((c : Thread nD τ).loc main_arg0)) (m ((c : Thread nD τ).loc main_arg2)) := by
  refine (dats m 0 c).arrAt_eq_of_covers 12 _ (by decide +kernel) fun t hf y => ?_
  blk_simp
  rw [after0_12]
  have hy : y = ix2 (y 0 : Fin 128) (y 1 : Fin 256) := by funext a; fin_cases a <;> rfl
  refine (congrArg (out0_12 _ _ _ _ _ _ _ _ _ _ _ _) hy).trans ((point12 m c t (y 0) (y 1)).trans (congrArg _ ?_))
  funext a
  fin_cases a <;> apply Fin.ext <;> blk_simp [idx t] <;> simp

theorem array13 (m : (ℓ : Loc nD τ sig) → Buf (Elt Ideal) ℓ) (c : Dev nD) :
    (dats m 0 c).arrAt 13 cfg0.N = keys (m ((c : Thread nD τ).loc main_arg0)) := by
  refine (dats m 0 c).arrAt_eq_of_covers 13 _ (by decide +kernel) fun t hf y => ?_
  blk_simp
  rw [after0_13]
  have hy : y = ix2 (y 0 : Fin 128) (y 1 : Fin 64) := by funext a; fin_cases a <;> rfl
  refine (congrArg (out0_13 _ _ _ _ _ _ _ _ _ _ _ _) hy).trans ((point13 m c t (y 0) (y 1)).trans (congrArg _ ?_))
  funext a
  fin_cases a <;> apply Fin.ext <;> blk_simp [idx t] <;> simp

section
open Cert.RowsRefIdeal.Read
variable (p : Vec Ideal S128x5120 .f32) (gc : Vec Ideal S256 .f32)

theorem sum_latent (t : Fin 128) : val_main_v33 p (ix1 t) = ∑ j, p (ix2 t (colC j)) * p (ix2 t (colC j)) := by
  have hz : (val_main_cst_1 (F := Ideal)) (Shape.Idx.first Cert.RowsRefIdeal.Gen.h_S_) = 0 := zero_bits
  rw [val_main_v33_apply, hz, zero_add]
  refine Finset.sum_congr rfl fun j _ => ?_
  rw [val_main_v32_apply, val_main_v31_apply]
  have e : idx_main_v31 (idx_main_v33 (ix1 t) j) = ix2 t (colC j) := by funext a; fin_cases a <;> rfl
  rw [e]
  rfl

theorem ref_latent : val_main_v44 p gc = latent p gc := by
  funext y
  obtain ⟨t, k, rfl⟩ : ∃ (t : Fin 128) (k : Fin 256), y = ix2 t k := ⟨y 0, y 1, by funext a; fin_cases a <;> rfl⟩
  rw [val_main_v44_apply, val_main_v41_apply, val_main_v40_apply, val_main_v39_apply, val_main_v38_apply, val_main_v36_apply,
    val_main_v34_apply, val_main_v43_apply, val_main_v42_apply, val_main_v31_apply]
  have e : idx_main_v34 (idx_main_v40 (ix2 t k)) = ix1 t := by funext a; fin_cases a; rfl
  rw [e, sum_latent]
  unfold latent normedOf
  refine congrArg₂ (· * ·) (congrArg₂ (· * ·) (congrArg p ?_) rfl) (congrArg gc ?_)
  · funext a; fin_cases a <;> rfl
  · funext a; fin_cases a; rfl

theorem ref_keys : val_main_v30 p = keys p := by
  funext y
  obtain ⟨t, j, rfl⟩ : ∃ (t : Fin 128) (j : Fin 64), y = ix2 t j := ⟨y 0, y 1, by funext a; fin_cases a <;> rfl⟩
  unfold val_main_v30 keys cosk sink freq cosRow sinRow
  pointwise
  by_cases h : j.val < 32
  · rw [dif_pos h, if_pos h, val_main_v24_apply, val_main_v21_apply, val_main_v23_apply, val_main_v16_apply, val_main_v18_apply,
      val_main_v20_apply, val_main_v22_apply]
    refine (sub_to_add _ _ _).trans ?_
    simp only [Nat.mod_eq_of_lt h]
    refine congrArg₂ (· + ·) (congrArg₂ (· * ·) (congrArg p ?_) (congrArg _ ?_)) (congrArg₂ (· * ·) (congrArg p ?_) (congrArg (fun i => -(val_main_v15 (F := Ideal) i : EReal)) ?_)) <;>
      · funext a; fin_cases a <;> rfl
  · rw [dif_neg h, if_neg h, val_main_v29_apply, val_main_v26_apply, val_main_v28_apply, val_main_v17_apply, val_main_v19_apply,
      val_main_v25_apply, val_main_v27_apply]
    simp only [freq_high j h]
    refine congrArg₂ (· + ·) (congrArg₂ (· * ·) (congrArg p ?_) (congrArg _ ?_)) (congrArg₂ (· * ·) (congrArg p ?_) (congrArg _ ?_)) <;>
      · funext a
        fin_cases a <;> apply Fin.ext <;> simp [colK, colX] <;> omega
end

end Cert.SampleLatent

end
-- ==== Proof.ExpertGate.lean ====
/- What the two programs of the experts' call share: a head's share of a gate, the activation, and where an expert's group and
   row are. -/
module

public import Idealize.ShloMosaic.Lib.Pipeline.ValueKit
public import Idealize.ShloMosaic.Lib.Pointwise

@[expose] public section

noncomputable section

namespace Cert.Experts

open Idealize.ShloMosaic Idealize.ShloMosaic.TcCoe Idealize.ShloMosaic.Tactic

/-- One head's share of a gate: the column weight `w` where its rank `r` is below the row's count `c`, times the row
    weight `e`. -/
def kept (r c w e : EReal) : EReal :=
  Scalar.select (Ideal.cmp .olt r c) w (Ideal.ofBits FTy.f32 0#32) * e

/-- The activation: half of `s` times one plus the error function of `s` over the root of two. -/
def gelu (s : EReal) : EReal :=
  Ideal.ofBits FTy.f32 0x3F000000#32 * s * (Ideal.ofBits FTy.f32 0x3F800000#32 + Ideal.erf (s * Ideal.ofBits FTy.f32 0x3F3504F3#32))

/-- Four groups one below the other: expert `e` is in group `e / 128`, at place `e % 128`. -/
theorem pick (f : Fin 4 → Fin 128 → EReal) (e : Fin 512) :
    (if h : e.val < 128 then f 0 ⟨e.val, h⟩ else if h : e.val - 128 < 128 then f 1 ⟨e.val - 128, h⟩
      else if h : e.val - 128 - 128 < 128 then f 2 ⟨e.val - 128 - 128, h⟩
      else f 3 ⟨e.val - 128 - 128 - 128, by have := e.isLt; omega⟩)
      = f ⟨e.val / 128, by have := e.isLt; omega⟩ ⟨e.val % 128, by omega⟩ := by
  have he := e.isLt
  split_ifs with h0 h1 h2 <;> refine congrArg₂ f (Fin.ext ?_) (Fin.ext ?_) <;> simp <;> omega

/-- The row a group of a grid point reads, as the kernel computes it. -/
theorem row_word : ∀ (a : Fin 32) (q : Fin 4),
    (Scalar.indexCast (Scalar.addi (Scalar.muli (BitVec.ofNat 32 a.val) 4#32) (BitVec.ofNat 32 q.val))).toNat = 4 * a.val + q.val := by
  decide +kernel

end Cert.Experts

end
-- ==== Proof.Experts.lean ====
/- The experts of one grid point: 512 experts in four groups of 128, a group's gates the sum over the eight heads of the
   kept weights. -/
module

public import proofs.«01_k».proof.Proof.Gen.DenseIdeal.Value
public import proofs.«01_k».proof.Proof.ExpertGate
public import proofs.«01_k».proof.Proof.Norm
public import Idealize.ShloMosaic.Lib.Pipeline.ValueKit
public import Idealize.ShloMosaic.Lib.Pointwise

@[expose] public section

set_option maxRecDepth 65536

noncomputable section

namespace Cert.Experts

open Cert.DenseIdeal Cert.DenseIdeal.Gen Idealize.ShloMosaic Idealize.ShloMosaic.TcCoe Idealize.ShloMosaic.Tactic
open Cert.Norm

/-- One head's share of the gates of a group. -/
def share (e c : Vec Ideal S1x1x512 .f32) (r w : Vec Ideal S1x128x512 .f32) : FVec Ideal S128x512 .f32 :=
  mulf (select (cmpf .olt (shapeCast (α := Ideal .f32) S128x512 r shapeCasts_S1x128x512_S128x512)
        (broadcastTo (α := Ideal .f32) S128x512 (shapeCast (α := Ideal .f32) S1x512 c shapeCasts_S1x1x512_S1x512) broadcasts_S1x512_S128x512))
      (shapeCast (α := Ideal .f32) S128x512 w shapeCasts_S1x128x512_S128x512)
      (broadcast S128x512 (Scalar.ofBits (F := Ideal) .f32 0x00000000#32)))
    (broadcastTo (α := Ideal .f32) S128x512 (shapeCast (α := Ideal .f32) S1x512 e shapeCasts_S1x1x512_S1x512) broadcasts_S1x512_S128x512)

theorem share_apply (e c : Vec Ideal S1x1x512 .f32) (r w : Vec Ideal S1x128x512 .f32) (k : Fin 128) (n : Fin 512) :
    share e c r w (ix2 k n) = kept (r (ix3 (0 : Fin 1) k n)) (c (ix3 (0 : Fin 1) (0 : Fin 1) n)) (w (ix3 (0 : Fin 1) k n)) (e (ix3 (0 : Fin 1) (0 : Fin 1) n)) := by
  unfold share kept; pointwise

section
variable (e c : Fin 8 → Vec Ideal S1x1x512 .f32) (r w : Fin 8 → Vec Ideal S1x128x512 .f32) (a : FVec Ideal S512x512 .f32)

/-- A group's gates, the heads added in order. -/
def gates : FVec Ideal S128x512 .f32 :=
  addf (addf (addf (addf (addf (addf (addf (addf (broadcast S128x512 (Scalar.ofBits (F := Ideal) .f32 0x00000000#32))
    (share (e 0) (c 0) (r 0) (w 0))) (share (e 1) (c 1) (r 1) (w 1))) (share (e 2) (c 2) (r 2) (w 2)))
    (share (e 3) (c 3) (r 3) (w 3))) (share (e 4) (c 4) (r 4) (w 4))) (share (e 5) (c 5) (r 5) (w 5)))
    (share (e 6) (c 6) (r 6) (w 6))) (share (e 7) (c 7) (r 7) (w 7))

theorem gates_apply (k : Fin 128) (n : Fin 512) :
    gates e c r w (ix2 k n) = ∑ h, kept (r h (ix3 (0 : Fin 1) k n)) (c h (ix3 (0 : Fin 1) (0 : Fin 1) n)) (w h (ix3 (0 : Fin 1) k n)) (e h (ix3 (0 : Fin 1) (0 : Fin 1) n)) := by
  simp only [Fin.sum_univ_eight, ← share_apply]
  unfold gates
  generalize share (e 0) (c 0) (r 0) (w 0) = s0
  generalize share (e 1) (c 1) (r 1) (w 1) = s1
  generalize share (e 2) (c 2) (r 2) (w 2) = s2
  generalize share (e 3) (c 3) (r 3) (w 3) = s3
  generalize share (e 4) (c 4) (r 4) (w 4) = s4
  generalize share (e 5) (c 5) (r 5) (w 5) = s5
  generalize share (e 6) (c 6) (r 6) (w 6) = s6
  generalize share (e 7) (c 7) (r 7) (w 7) = s7
  pointwise

/-- A group's gates times its activations. -/
def group (off : Fin 2 → ℕ) (h : S512x512.Slices off S128x512) : FVec Ideal S128x512 .bf16 :=
  truncf .bf16 (mulf (gates e c r w) (extractStridedSlice (α := Ideal .f32) S128x512 off a h)) bitsLt_bf16_f32

def group0 : FVec Ideal S128x512 .bf16 :=
  k0_pay14 a (k0_pay11 (k0_pay9 (k0_pay8 k0_pay5 (k0_pay6 (c 0) (r 0) (w 0)) (k0_pay7 (e 0)) (e 1) (c 1) (r 1) (w 1) (e 2) (c 2) (r 2) (w 2)) (e 3) (c 3) (r 3) (w 3) (e 4) (c 4) (r 4) (w 4)) (k0_pay10 (e 5)) (c 5) (r 5) (w 5) (e 6) (c 6) (r 6) (w 6)) (k0_pay12 (e 7)) (k0_pay13 (c 7)) (r 7) (w 7)

theorem group0_eq : group0 e c r w a = group e c r w a ![0, 0] slices_S512x512_o0_0_S128x512 := rfl

def group1 : FVec Ideal S128x512 .bf16 :=
  k0_pay25 a (k0_pay22 (k0_pay19 (k0_pay17 (k0_pay15 (e 0) (c 0) (r 0) (w 0)) (k0_pay16 (e 1)) (c 1) (r 1) (w 1) (e 2) (c 2) (r 2) (w 2)) (k0_pay18 (e 3)) (c 3) (r 3) (w 3) (e 4) (c 4) (r 4) (w 4)) (k0_pay20 (e 5)) (k0_pay21 (c 5)) (r 5) (w 5) (e 6) (c 6) (r 6) (w 6)) (k0_pay23 (e 7)) (k0_pay24 (c 7) (r 7)) (w 7)

theorem group1_eq : group1 e c r w a = group e c r w a ![128, 0] slices_S512x512_o128_0_S128x512 := rfl

def group2 : FVec Ideal S128x512 .bf16 :=
  k0_pay41 a (k0_pay36 (k0_pay33 (k0_pay29 (k0_pay26 (e 0) (c 0) (r 0) (w 0)) (k0_pay27 (e 1)) (k0_pay28 (c 1)) (r 1) (w 1) (e 2) (c 2) (r 2) (w 2)) (k0_pay30 (e 3)) (k0_pay31 (r 3)) (k0_pay32 (c 3)) (w 3) (e 4) (c 4) (r 4) (w 4)) (k0_pay34 (e 5)) (k0_pay35 (c 5) (r 5)) (w 5) (e 6) (c 6) (r 6) (w 6)) (k0_pay37 (e 7)) (k0_pay38 (c 7) (r 7)) (k0_pay39 (w 7)) k0_pay40

theorem group2_eq : group2 e c r w a = group e c r w a ![256, 0] slices_S512x512_o256_0_S128x512 := rfl

def group3 : FVec Ideal S128x512 .bf16 :=
  k0_pay51 a (k0_pay49 (k0_pay45 (k0_pay42 (e 0) (c 0) (r 0) (w 0)) (k0_pay43 (e 1)) (k0_pay44 (c 1) (r 1)) (w 1) (e 2) (c 2) (r 2) (w 2)) (k0_pay46 (e 3)) (k0_pay47 (c 3) (r 3)) (k0_pay48 (w 3)) (Scalar.ofBits .f32 0x00000000#32) (e 4) (c 4) (r 4) (w 4)) (k0_pay50 (e 5) (c 5) (r 5) (w 5)) (e 6) (c 6) (r 6) (w 6) (e 7) (c 7) (r 7) (w 7)

theorem group3_eq : group3 e c r w a = group e c r w a ![384, 0] slices_S512x512_o384_0_S128x512 := rfl

end

theorem pay4_apply (u x : Vec Ideal S512x2048 .bf16) (e n : Fin 512) :
    k0_pay4 u x (ix2 e n) = gelu (∑ k, u (ix2 e k) * x (ix2 n k)) := by
  unfold k0_pay4 gelu; pointwise; rfl

theorem pay3_apply (d : Fin 2048) (n : Fin 512) : k0_pay3 (F := Ideal) (ix2 d n) = 0 := by
  unfold k0_pay3; pointwise

theorem pay2_apply (h : Vec Ideal S512x2048 .f32) (s : Vec Ideal S2048x512 .f32) (g : Vec Ideal S1x2048 .f32) (n : Fin 512) (d : Fin 2048) :
    k0_pay2 h s g (ix2 n d) = normed (fun j => h (ix2 n j) + s (ix2 j n)) (fun j => g (ix2 0 j)) d := by
  unfold k0_pay2 normed eps width; pointwise

theorem pay1_apply (p : Fin 4 → FVec Ideal S128x512 .bf16) (s : Vec Ideal S2048x512 .f32) (v : Vec Ideal S2048x512 .bf16) (d : Fin 2048) (n : Fin 512) :
    k0_pay1 (p 0) (p 1) (p 2) (p 3) s v (ix2 d n) = s (ix2 d n) + ∑ e : Fin 512, v (ix2 d e)
      * p ⟨e.val / 128, by have := e.isLt; omega⟩ (ix2 (⟨e.val % 128, by omega⟩ : Fin 128) n) := by
  have h : ∀ e : Fin 512, p ⟨e.val / 128, by have := e.isLt; omega⟩ (ix2 (⟨e.val % 128, by omega⟩ : Fin 128) n) = _ :=
    fun e => (pick (fun q k => p q (ix2 k n)) e).symm
  simp only [h]
  generalize p 0 = p0
  generalize p 1 = p1
  generalize p 2 = p2
  generalize p 3 = p3
  unfold k0_pay1; pointwise

section
variable (i : grid0.Coords)

/-- The row of an array of counts or weights that group `q` of the point reads, head by head. -/
def rowsAt (x : Vec Ideal S8x128x512 .f32) (q : Fin 4) : Fin 8 → Vec Ideal S1x1x512 .f32 :=
  ![View.ld x (Rect.unit (s := S8x128x512) (k0_off1 i (BitVec.ofNat 32 q.val)) S1x1x512.size (k0_off1_inb i q)),
    View.ld x (Rect.unit (s := S8x128x512) (k0_off2 i (BitVec.ofNat 32 q.val)) S1x1x512.size (k0_off2_inb i q)),
    View.ld x (Rect.unit (s := S8x128x512) (k0_off3 i (BitVec.ofNat 32 q.val)) S1x1x512.size (k0_off3_inb i q)),
    View.ld x (Rect.unit (s := S8x128x512) (k0_off4 i (BitVec.ofNat 32 q.val)) S1x1x512.size (k0_off4_inb i q)),
    View.ld x (Rect.unit (s := S8x128x512) (k0_off5 i (BitVec.ofNat 32 q.val)) S1x1x512.size (k0_off5_inb i q)),
    View.ld x (Rect.unit (s := S8x128x512) (k0_off6 i (BitVec.ofNat 32 q.val)) S1x1x512.size (k0_off6_inb i q)),
    View.ld x (Rect.unit (s := S8x128x512) (k0_off7 i (BitVec.ofNat 32 q.val)) S1x1x512.size (k0_off7_inb i q)),
    View.ld x (Rect.unit (s := S8x128x512) (k0_off8 i (BitVec.ofNat 32 q.val)) S1x1x512.size (k0_off8_inb i q))]

/-- The ranks or weights of the 128 columns, head by head. -/
def blocksAt (x : Vec Ideal S8x128x512 .f32) : Fin 8 → Vec Ideal S1x128x512 .f32 :=
  ![View.ld x (Rect.unit (s := S8x128x512) ![0, 0, 0] S1x128x512.size inb_S8x128x512_S1x128x512_0_0_0),
    View.ld x (Rect.unit (s := S8x128x512) ![1, 0, 0] S1x128x512.size inb_S8x128x512_S1x128x512_1_0_0),
    View.ld x (Rect.unit (s := S8x128x512) ![2, 0, 0] S1x128x512.size inb_S8x128x512_S1x128x512_2_0_0),
    View.ld x (Rect.unit (s := S8x128x512) ![3, 0, 0] S1x128x512.size inb_S8x128x512_S1x128x512_3_0_0),
    View.ld x (Rect.unit (s := S8x128x512) ![4, 0, 0] S1x128x512.size inb_S8x128x512_S1x128x512_4_0_0),
    View.ld x (Rect.unit (s := S8x128x512) ![5, 0, 0] S1x128x512.size inb_S8x128x512_S1x128x512_5_0_0),
    View.ld x (Rect.unit (s := S8x128x512) ![6, 0, 0] S1x128x512.size inb_S8x128x512_S1x128x512_6_0_0),
    View.ld x (Rect.unit (s := S8x128x512) ![7, 0, 0] S1x128x512.size inb_S8x128x512_S1x128x512_7_0_0)]

/-- The row group `q` of the point reads. -/
def rowOf (q : Fin 4) : Fin 128 :=
  ⟨4 * (i 1).val + q.val, by have : (i 1).val < 32 := (i 1).isLt; have := q.isLt; omega⟩

theorem rowsAt_apply (x : Vec Ideal S8x128x512 .f32) (q : Fin 4) (h : Fin 8) (n : Fin 512) :
    rowsAt i x q h (ix3 (0 : Fin 1) (0 : Fin 1) n) = x (ix3 h (rowOf i q) n) := by
  have e := row_word (i 1) q
  unfold rowOf
  fin_cases h <;> refine View.ld_unit_apply_of _ _ _ _ _ _ fun a => ?_ <;> fin_cases a <;>
    first | exact e.symm | exact (Nat.zero_add _).symm | rfl

theorem blocksAt_apply (x : Vec Ideal S8x128x512 .f32) (h : Fin 8) (k : Fin 128) (n : Fin 512) :
    blocksAt x h (ix3 (0 : Fin 1) k n) = x (ix3 h k n) := by
  fin_cases h <;> refine View.ld_unit_apply_of _ _ _ _ _ _ fun a => ?_ <;> fin_cases a <;>
    first | exact (Nat.zero_add _).symm | rfl

theorem slicesAt (q : Fin 4) : S512x512.Slices ![128 * q.val, 0] S128x512 := by
  fin_cases q
  · exact slices_S512x512_o0_0_S128x512
  · exact slices_S512x512_o128_0_S128x512
  · exact slices_S512x512_o256_0_S128x512
  · exact slices_S512x512_o384_0_S128x512

variable (x0 x1 : Vec Ideal S512x2048 .bf16) (x2 : Vec Ideal S2048x512 .bf16) (x3 x4 x5 x6 : Vec Ideal S8x128x512 .f32)
  (s : Vec Ideal S2048x512 .f32)

/-- Group `q` of the point's experts. -/
def part (q : Fin 4) : FVec Ideal S128x512 .bf16 :=
  group (rowsAt i x3 q) (rowsAt i x4 q) (blocksAt x6) (blocksAt x5) (k0_pay4 x1 x0) ![128 * q.val, 0] (slicesAt q)

theorem part_apply (q : Fin 4) (k : Fin 128) (n : Fin 512) :
    part i x0 x1 x3 x4 x5 x6 q (ix2 k n)
      = (∑ h, kept (x6 (ix3 h k n)) (x4 (ix3 h (rowOf i q) n)) (x5 (ix3 h k n)) (x3 (ix3 h (rowOf i q) n)))
        * gelu (∑ j, x1 (ix2 (⟨128 * q.val + k.val, by have := q.isLt; have := k.isLt; omega⟩ : Fin 512) j) * x0 (ix2 n j)) := by
  have hg := gates_apply (rowsAt i x3 q) (rowsAt i x4 q) (blocksAt x6) (blocksAt x5) k n
  simp only [rowsAt_apply, blocksAt_apply] at hg
  rw [← hg, ← pay4_apply]
  unfold part group
  generalize gates (rowsAt i x3 q) (rowsAt i x4 q) (blocksAt x6) (blocksAt x5) = g
  generalize k0_pay4 x1 x0 = a
  generalize slicesAt q = hs
  have hq := q.isLt
  pointwise

/-- What a point leaves in the sums, which held `s`: the point's experts added. -/
def step : Vec Ideal S2048x512 .f32 :=
  k0_pay1 (part i x0 x1 x3 x4 x5 x6 0) (part i x0 x1 x3 x4 x5 x6 1) (part i x0 x1 x3 x4 x5 x6 2) (part i x0 x1 x3 x4 x5 x6 3) s x2

theorem step_apply (d : Fin 2048) (n : Fin 512) :
    step i x0 x1 x2 x3 x4 x5 x6 s (ix2 d n) = s (ix2 d n) + ∑ e : Fin 512, x2 (ix2 d e)
      * ((∑ h, kept (x6 (ix3 h (⟨e.val % 128, by omega⟩ : Fin 128) n)) (x4 (ix3 h (rowOf i ⟨e.val / 128, by have := e.isLt; omega⟩) n))
            (x5 (ix3 h (⟨e.val % 128, by omega⟩ : Fin 128) n)) (x3 (ix3 h (rowOf i ⟨e.val / 128, by have := e.isLt; omega⟩) n)))
          * gelu (∑ j, x1 (ix2 e j) * x0 (ix2 n j))) := by
  unfold step
  rw [pay1_apply (part i x0 x1 x3 x4 x5 x6) s x2 d n]
  refine congrArg _ (Finset.sum_congr rfl fun e _ => ?_)
  rw [part_apply]
  have he : (⟨128 * (e.val / 128) + e.val % 128, by have := e.isLt; omega⟩ : Fin 512) = e := Fin.ext (Nat.div_add_mod _ _)
  simp only [he]

end

end Cert.Experts

end
-- ==== Proof.ExpertSum.lean ====
/- The experts' call over the grid: a row tile's sums are carried over the 32 points that share it, and the last of them adds
   the residual and norms. -/
module

public import proofs.«01_k».proof.Proof.Experts
public import proofs.«01_k».proof.Proof.Gen.DenseRefIdeal.Read
public import proofs.«01_k».proof.Proof.Offsets

@[expose] public section

set_option maxRecDepth 65536

noncomputable section

namespace Cert.Experts

open Cert.DenseIdeal Cert.DenseIdeal.Gen Cert.DenseIdeal.Value Idealize.ShloMosaic Idealize.ShloMosaic.TcCoe Idealize.ShloMosaic.Tactic
open Cert.Offsets Cert.Norm

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S8x128x512 .f32) (harg5 : arg5.IsWhole) (arg6 : Memref sig .tc .vmem S8x128x512 .f32) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x2048 .f32) (harg9 : arg9.IsWhole) (arg10 : Memref sig .tc .vmem S1x2048 .f32) (harg10 : arg10.IsWhole) (arg11 : Memref sig .tc .vmem S512x2048 .f32) (harg11 : arg11.IsWhole) (arg12 : Memref sig .tc .vmem S2048x512 .f32) (harg12 : arg12.IsWhole)
  (x0 x1 : Vec Ideal S512x2048 .bf16) (x2 : Vec Ideal S2048x512 .bf16) (x3 x4 x5 x6 : Vec Ideal S8x128x512 .f32)
  (x7 : Vec Ideal S512x2048 .f32) (x8 : Vec Ideal S1x2048 .f32)

/-- The printed groups are the point's own. -/
theorem step_eq (s : Vec Ideal S2048x512 .f32) :
    k0_pay1 (group0 (rowsAt i x3 0) (rowsAt i x4 0) (blocksAt x6) (blocksAt x5) (k0_pay4 x1 x0))
      (group1 (rowsAt i x3 1) (rowsAt i x4 1) (blocksAt x6) (blocksAt x5) (k0_pay4 x1 x0))
      (group2 (rowsAt i x3 2) (rowsAt i x4 2) (blocksAt x6) (blocksAt x5) (k0_pay4 x1 x0))
      (group3 (rowsAt i x3 3) (rowsAt i x4 3) (blocksAt x6) (blocksAt x5) (k0_pay4 x1 x0)) s x2
      = step i x0 x1 x2 x3 x4 x5 x6 s := by
  rw [group0_eq, group1_eq, group2_eq, group3_eq]
  rfl

theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step i x0 x1 x2 x3 x4 x5 x6 (k0_pay3 (F := Ideal)) := by
  unfold sout0_A_0
  rw [View.read_writes_eq_canon _ _ _ (fun y => scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y)]
  unfold kernelRun0_A
  dsimp only
  sl_unfold_words
  simp only [View.readCov, View.readAt_eq_ld, harg2.read_unread, harg3.read_unread, harg4.read_unread, harg5.read_unread, harg6.read_unread, harg7.read_unread, harg8.read_unread, harg9.read_unread, harg10.read_unread]
  rw [View.canon_cons_unit_zero zz, View.ld_unit_zero zz _ x0, View.ld_unit_zero zz _ x1, View.ld_unit_zero zz _ x2, read_whole_store _ _ zz]
  exact step_eq i x0 x1 x2 x3 x4 x5 x6 _

theorem sout_B (hc0 : ¬cond0_0 i) (hc1 : ¬cond0_1 i) (s : Vec Ideal S2048x512 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = step i x0 x1 x2 x3 x4 x5 x6 (s) := by
  unfold sout0_B_0
  rw [View.read_writes_eq_canon _ _ _ (fun y => scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_B
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s]
  exact step_eq i x0 x1 x2 x3 x4 x5 x6 s

theorem sout_C (hc0 : ¬cond0_0 i) (hc1 : cond0_1 i) (s : Vec Ideal S2048x512 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = step i x0 x1 x2 x3 x4 x5 x6 (s) := by
  unfold sout0_C_0
  rw [View.read_writes_eq_canon _ _ _ (fun y => scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s]
  exact step_eq i x0 x1 x2 x3 x4 x5 x6 s

theorem out_C (hc0 : ¬cond0_0 i) (hc1 : cond0_1 i) (s : Vec Ideal S2048x512 .f32) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = k0_pay2 x7 (step i x0 x1 x2 x3 x4 x5 x6 s) x8 := by
  unfold out0_C_9
  rw [View.read_writes_eq_canon _ _ _ (fun y => cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s, View.ld_unit_zero zz _ x7, View.ld_unit_zero zz _ x8, read_whole_store _ _ zz, View.ld_unit_zero zz]
  exact congrArg (fun z => k0_pay2 x7 z x8) (step_eq i x0 x1 x2 x3 x4 x5 x6 s)
end

section
variable (xn : Vec Ideal S8192x2048 .bf16) (u v : Vec Ideal S16384x2048 .f32) (e1 c1 e2 r2 : Vec Ideal S8x128x8192 .f32)
  (h : Vec Ideal S8192x2048 .f32) (g : Vec Ideal S2048 .f32)

/-- An expert's gate for a token: expert `E` is row `E / 128`, column `E % 128` of each head's grid. -/
def gate (E : Fin 16384) (n : Fin 8192) : EReal :=
  ∑ a, kept (r2 (ix3 a (⟨E.val % 128, by omega⟩ : Fin 128) n)) (c1 (ix3 a (⟨E.val / 128, by omega⟩ : Fin 128) n))
    (e2 (ix3 a (⟨E.val % 128, by omega⟩ : Fin 128) n)) (e1 (ix3 a (⟨E.val / 128, by omega⟩ : Fin 128) n))

/-- What expert `E` adds to column `d` of token `n`. -/
def added (d : Fin 2048) (n : Fin 8192) (E : Fin 16384) : EReal :=
  v (ix2 E d) * (gate e1 c1 e2 r2 E n * gelu (∑ j, u (ix2 E j) * xn (ix2 n j)))

/-- The normed sum of the residual and the experts. -/
def mixed : Vec Ideal S8192x2048 .f32 :=
  fun y => normed (fun d => h (ix2 (y 0 : Fin 8192) d) + ∑ E, added xn u v e1 c1 e2 r2 d (y 0) E) (fun d => g (ix1 d)) (y 1)

end

/-- Where the windows put a grid point's blocks. -/
theorem idx : ∀ t : Fin cfg0.N,
    win0_0.index t = ![(grid0.coords t 0).val, 0] ∧ win0_1.index t = ![(grid0.coords t 1).val, 0]
    ∧ win0_2.index t = ![0, (grid0.coords t 1).val] ∧ win0_3.index t = ![0, 0, (grid0.coords t 0).val]
    ∧ win0_4.index t = ![0, 0, (grid0.coords t 0).val] ∧ win0_5.index t = ![0, 0, (grid0.coords t 0).val]
    ∧ win0_6.index t = ![0, 0, (grid0.coords t 0).val] ∧ win0_7.index t = ![(grid0.coords t 0).val, 0]
    ∧ win0_8.index t = ![0, 0] ∧ win0_9.index t = ![(grid0.coords t 0).val, 0] :=
  (by decide +kernel : ∀ t : Fin grid0.N, _)

theorem coords : ∀ t : Fin cfg0.N, (grid0.coords t 0).val = t.val / 32 ∧ (grid0.coords t 1).val = t.val % 32 :=
  (by decide +kernel : ∀ t : Fin grid0.N, _)

section
variable (m : (ℓ : Loc nD τ sig) → Buf (Elt Ideal) ℓ) (c : Dev nD) (t : Fin cfg0.N)

/-- The token that row `r` of point `t`'s block is. -/
def tokOf (r : Fin 512) : Fin 8192 :=
  ⟨512 * (grid0.coords t 0).val + r.val, by have : (grid0.coords t 0).val < 16 := (grid0.coords t 0).isLt; have := r.isLt; omega⟩

/-- The expert that row `e` of point `t`'s block is. -/
def expOf (e : Fin 512) : Fin 16384 :=
  ⟨512 * (grid0.coords t 1).val + e.val, by have : (grid0.coords t 1).val < 32 := (grid0.coords t 1).isLt; have := e.isLt; omega⟩

theorem blk0 (r : Fin 512) (k : Fin 2048) :
    iblk m c 0 t (ix2 r k) = m ((c : Thread nD τ).loc main_arg0) (ix2 (tokOf t r) k) := by
  unfold tokOf
  blk_ext [iblk, V, idx t]

theorem blk1 (e : Fin 512) (k : Fin 2048) :
    iblk m c 1 t (ix2 e k) = m ((c : Thread nD τ).loc main_arg1) (ix2 (expOf t e) k) := by
  have hv : V m c main_v0 = (truncf .bf16 (m ((c : Thread nD τ).loc main_arg1) : FVec Ideal S16384x2048 .f32) bitsLt_bf16_f32 : FVec Ideal S16384x2048 .bf16) := by
    entry_read; rfl
  have he : iblk m c 1 t (ix2 e k) = V m c main_v0 (ix2 (expOf t e) k : S16384x2048.Idx) := by
    unfold expOf
    blk_ext [iblk, idx t]
  rw [he, hv]
  rfl

theorem blk2 (d : Fin 2048) (e : Fin 512) :
    iblk m c 2 t (ix2 d e) = m ((c : Thread nD τ).loc main_arg2) (ix2 (expOf t e) d) := by
  have hv : V m c main_v2 = (truncf .bf16 (transpose S2048x16384 (α := Ideal .f32) [1, 0] (m ((c : Thread nD τ).loc main_arg2)) transposes_S16384x2048_S2048x16384_1_0 : FVec Ideal S2048x16384 .f32) bitsLt_bf16_f32 : FVec Ideal S2048x16384 .bf16) := by
    entry_read; rfl
  have he : iblk m c 2 t (ix2 d e) = V m c main_v2 (ix2 d (expOf t e) : S2048x16384.Idx) := by
    unfold expOf
    blk_ext [iblk, idx t]
  rw [he, hv]
  generalize m ((c : Thread nD τ).loc main_arg2) = z
  pointwise

theorem blk3 (a : Fin 8) (k : Fin 128) (n : Fin 512) :
    iblk m c 3 t (ix3 a k n) = m ((c : Thread nD τ).loc main_arg3) (ix3 a k (tokOf t n)) := by
  unfold tokOf
  blk_ext [iblk, V, idx t]

theorem blk4 (a : Fin 8) (k : Fin 128) (n : Fin 512) :
    iblk m c 4 t (ix3 a k n) = m ((c : Thread nD τ).loc main_arg4) (ix3 a k (tokOf t n)) := by
  unfold tokOf
  blk_ext [iblk, V, idx t]

theorem blk5 (a : Fin 8) (k : Fin 128) (n : Fin 512) :
    iblk m c 5 t (ix3 a k n) = m ((c : Thread nD τ).loc main_arg5) (ix3 a k (tokOf t n)) := by
  unfold tokOf
  blk_ext [iblk, V, idx t]

theorem blk6 (a : Fin 8) (k : Fin 128) (n : Fin 512) :
    iblk m c 6 t (ix3 a k n) = m ((c : Thread nD τ).loc main_arg6) (ix3 a k (tokOf t n)) := by
  unfold tokOf
  blk_ext [iblk, V, idx t]

theorem blk7 (r : Fin 512) (k : Fin 2048) :
    iblk m c 7 t (ix2 r k) = m ((c : Thread nD τ).loc main_arg7) (ix2 (tokOf t r) k) := by
  unfold tokOf
  blk_ext [iblk, V, idx t]

theorem blk8 (k : Fin 2048) :
    iblk m c 8 t (ix2 (0 : Fin 1) k) = m ((c : Thread nD τ).loc main_arg8) (ix1 k) := by
  have hv : V m c main_v3 = (shapeCast S1x2048 (α := Ideal .f32) (m ((c : Thread nD τ).loc main_arg8)) shapeCasts_S2048_S1x2048 : FVec Ideal S1x2048 .f32) := by
    entry_read; rfl
  have he : iblk m c 8 t (ix2 (0 : Fin 1) k) = V m c main_v3 (ix2 (0 : Fin 1) k : S1x2048.Idx) := by
    blk_ext [iblk, idx t]
  rw [he, hv]
  pointwise

/-- The experts' terms of the run's arguments. -/
def addedAt (d : Fin 2048) (n : Fin 8192) (E : Fin 16384) : EReal :=
  added (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) d n E

/-- The same at every number, nothing past the last expert. -/
def addedNat (d : Fin 2048) (n : Fin 8192) (x : ℕ) : EReal := if hx : x < 16384 then addedAt m c d n ⟨x, hx⟩ else 0

/-- A point's step over its own blocks. -/
def stepAt (s : Vec Ideal S2048x512 .f32) : Vec Ideal S2048x512 .f32 :=
  step (grid0.coords t) (iblk m c 0 t) (iblk m c 1 t) (iblk m c 2 t) (iblk m c 3 t) (iblk m c 4 t) (iblk m c 5 t) (iblk m c 6 t) s

theorem stepAt_apply (s : Vec Ideal S2048x512 .f32) (d : Fin 2048) (n : Fin 512) :
    stepAt m c t s (ix2 d n) = s (ix2 d n) + ∑ x ∈ Finset.range 512, addedNat m c d (tokOf t n) (512 * (t.val % 32) + x) := by
  unfold stepAt
  rw [step_apply, Finset.sum_range]
  refine congrArg _ (Finset.sum_congr rfl fun e _ => ?_)
  have hc := (coords t).2
  have he := e.isLt
  have hE : addedNat m c d (tokOf t n) (512 * (t.val % 32) + e.val) = addedAt m c d (tokOf t n) (expOf t e) := by
    unfold addedNat
    rw [dif_pos (by omega)]
    refine congrArg _ (Fin.ext ?_)
    show _ = 512 * (grid0.coords t 1).val + e.val
    rw [hc]
  rw [hE]
  unfold addedAt added gate
  simp only [blk0, blk1, blk2, blk3, blk4, blk5, blk6]
  have hr : rowOf (grid0.coords t) ⟨e.val / 128, by omega⟩ = ⟨(expOf t e).val / 128, by have := (expOf t e).isLt; omega⟩ := by
    apply Fin.ext; show 4 * (grid0.coords t 1).val + e.val / 128 = (512 * (grid0.coords t 1).val + e.val) / 128; omega
  have hk : (⟨e.val % 128, by omega⟩ : Fin 128) = ⟨(expOf t e).val % 128, by omega⟩ := by
    apply Fin.ext; show e.val % 128 = (512 * (grid0.coords t 1).val + e.val) % 128; omega
  rw [hr, hk]
end

section
variable (m : (ℓ : Loc nD τ sig) → Buf (Elt Ideal) ℓ) (c : Dev nD)

theorem tok_before (t : Fin cfg0.N) (hl : t.val - 1 < cfg0.N) (h0 : ¬ t.val % 32 = 0) (r : Fin 512) :
    tokOf ⟨t.val - 1, hl⟩ r = tokOf t r := by
  unfold tokOf; apply Fin.ext
  have e1 := (coords t).1; have e2 := (coords ⟨t.val - 1, hl⟩).1
  simp only [e1, e2]; omega

/-- The point leaves its step over what the point before left, or over nothing at a row tile's first point. -/
theorem sums_first (t : Fin cfg0.N) (h0 : t.val % 32 = 0) : (outsAt0 m c t.val t.isLt).2 = stepAt m c t (k0_pay3 (F := Ideal)) := by
  rw [outsAt0_A m c t h0 (by omega)]; dsimp only; rw [sout_A]; rfl

theorem sums_next (t : Fin cfg0.N) (hl : t.val - 1 < cfg0.N) (h0 : ¬ t.val % 32 = 0) :
    (outsAt0 m c t.val t.isLt).2 = stepAt m c t (outsAt0 m c (t.val - 1) hl).2 := by
  by_cases h1 : t.val % 32 = 31
  · rw [outsAt0_C m c t h0 h1]; dsimp only; rw [sout_C]; rfl
  · rw [outsAt0_B m c t h0 h1]; dsimp only; rw [sout_B]; rfl

/-- The sums after a point: the experts of its row tile's points so far. -/
theorem sums : ∀ (n : ℕ) (hn : n < cfg0.N) (d : Fin 2048) (r : Fin 512),
    (outsAt0 m c n hn).2 (ix2 d r) = ∑ x ∈ Finset.range (512 * (n % 32) + 512), addedNat m c d (tokOf ⟨n, hn⟩ r) x := by
  intro n
  induction n with
  | zero =>
    intro hn d r
    rw [sums_first m c ⟨0, hn⟩ rfl, stepAt_apply, pay3_apply, zero_add]
    simp
  | succ n ih =>
    intro hn d r
    rw [Finset.sum_range_add]
    by_cases h0 : (n + 1) % 32 = 0
    · rw [sums_first m c ⟨n + 1, hn⟩ h0, stepAt_apply, pay3_apply]
      simp [h0]
    · rw [sums_next m c ⟨n + 1, hn⟩ (Nat.lt_of_succ_lt hn) h0, stepAt_apply]
      refine congrArg₂ _ ?_ rfl
      refine (ih (Nat.lt_of_succ_lt hn) d r).trans ?_
      have hb := tok_before ⟨n + 1, hn⟩ (Nat.lt_of_succ_lt hn) h0 r
      have hm : 512 * (n % 32) + 512 = 512 * ((n + 1) % 32) := by omega
      rw [hm, ← hb]
      rfl

/-- A row tile's last point stores the normed sum of its tokens. -/
theorem point (t : Fin cfg0.N) (h1 : t.val % 32 = 31) (r : Fin 512) (d : Fin 2048) :
    (outsAt0 m c t.val t.isLt).1 (ix2 r d)
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (ix2 (tokOf t r) d) := by
  have h0 : ¬ t.val % 32 = 0 := by omega
  have hl : t.val - 1 < cfg0.N := Nat.lt_of_le_of_lt (Nat.sub_le _ _) t.isLt
  have e : (outsAt0 m c t.val t.isLt).1 = k0_pay2 (iblk m c 7 t) (outsAt0 m c t.val t.isLt).2 (iblk m c 8 t) := by
    rw [sums_next m c t hl h0]
    rw [outsAt0_C m c t h0 h1]; dsimp only; rw [out_C]; rfl
  have hs : ∀ j : Fin 2048, (outsAt0 m c t.val t.isLt).2 (ix2 j r) = ∑ E, addedAt m c j (tokOf t r) E := by
    intro j
    refine (sums m c t.val t.isLt j r).trans ?_
    rw [h1, show 512 * 31 + 512 = 16384 from rfl, Finset.sum_range]
    refine Finset.sum_congr rfl fun E _ => ?_
    unfold addedNat
    rw [dif_pos E.isLt]
  rw [e, pay2_apply]
  simp only [hs, blk7, blk8]
  rfl

end

/-- The kernel's output array after the run. -/
theorem array (m : (ℓ : Loc nD τ sig) → Buf (Elt Ideal) ℓ) (c : Dev nD) :
    (dats m 0 c).arrAt 9 cfg0.N
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 9 _ (by decide +kernel) fun t hf y => ?_
  have h31 : t.val % 32 = 31 := (flush0_9 t).1 hf
  blk_simp
  rw [after0_9]
  have hy : y = ix2 (y 0 : Fin 512) (y 1 : Fin 2048) := by funext a; fin_cases a <;> rfl
  have h0 : (y 0).val < 512 := (y 0).isLt
  have h1 : (y 1).val < 2048 := (y 1).isLt
  refine (congrArg (outsAt0 m c t.val t.isLt).1 hy).trans ((point m c t h31 (y 0) (y 1)).trans (congrArg _ ?_))
  unfold tokOf
  funext a
  fin_cases a <;> apply Fin.ext <;> blk_simp [idx t] <;> simp <;> omega

end Cert.Experts

end
-- ==== Proof.ExpertReference.lean ====
/- The reference of the experts' call: its gates, its activations, the sum over all the experts and the last norm. -/
module

public import proofs.«01_k».proof.Proof.ExpertSum
public import proofs.«01_k».proof.Proof.LatentReference
public import proofs.«01_k».proof.Proof.Gen.DenseRefIdeal.Read

@[expose] public section

set_option maxRecDepth 65536

noncomputable section

namespace Cert.Experts

open Cert.DenseIdeal Cert.DenseRefIdeal.Read Idealize.ShloMosaic Idealize.ShloMosaic.TcCoe Idealize.ShloMosaic.Tactic
open Cert.Norm
open Cert.Latent (zero_bits)

section
variable (xn : Vec Ideal S8192x2048 .bf16) (u v : Vec Ideal S16384x2048 .f32) (e1 c1 e2 r2 : Vec Ideal S8x128x8192 .f32)
  (h : Vec Ideal S8192x2048 .f32) (g : Vec Ideal S2048 .f32)

/-- The reference's gates. -/
theorem reference_gate (E : Fin 16384) (n : Fin 8192) :
    val_main_v22 (F := Ideal) e1 c1 e2 r2 (ix2 E n : Cert.DenseRefIdeal.S16384x8192.Idx) = gate e1 c1 e2 r2 E n := by
  have hi : idx_main_v22 (ix2 E n : Cert.DenseRefIdeal.S16384x8192.Idx) = ix3 (⟨E.val / 128, by omega⟩ : Fin 128) (⟨E.val % 128, by omega⟩ : Fin 128) n := by
    have hn := n.isLt
    funext a; fin_cases a <;> apply Fin.ext <;> simp <;> omega
  rw [val_main_v22_apply, hi, val_main_v10_apply]
  have hz : (val_main_cst_0 (F := Ideal)) (Shape.Idx.first Cert.DenseRefIdeal.Gen.h_S_) = 0 := zero_bits
  rw [hz, zero_add]
  unfold gate
  refine Finset.sum_congr rfl fun a _ => ?_
  simp only [val_main_v9_apply, val_main_v6_apply, val_main_v4_apply, val_main_v2_apply, val_main_v0_apply, val_main_v3_apply, val_main_v1_apply, val_main_call0_v1_apply, val_main_v5_apply, val_main_call0_v2_apply, val_main_v8_apply, val_main_v7_apply]
  unfold kept
  refine congrArg₂ (· * ·) ?_ (congrArg e1 ?_)
  · refine congrArg₂ (fun p q => Scalar.select p q (Ideal.ofBits FTy.f32 0#32)) (congrArg₂ (Ideal.cmp .olt) (congrArg r2 ?_) (congrArg c1 ?_)) (congrArg e2 ?_) <;>
      (funext b; fin_cases b <;> rfl)
  · funext b; fin_cases b <;> rfl

/-- The reference's activations. -/
theorem reference_act (E : Fin 16384) (n : Fin 8192) :
    val_main_v21 (F := Ideal) xn u (ix2 E n : Cert.DenseRefIdeal.S16384x8192.Idx) = gelu (∑ j, u (ix2 E j) * xn (ix2 n j)) := by
  have hs : val_main_v13 (F := Ideal) xn u (ix2 E n : Cert.DenseRefIdeal.S16384x8192.Idx) = ∑ j, u (ix2 E j) * xn (ix2 n j) := by
    rw [val_main_v13_apply]
    refine Finset.sum_congr rfl fun j _ => congrArg₂ (· * ·) (congrArg u ?_) ?_
    · funext a; fin_cases a <;> rfl
    · rw [val_main_v12_apply, val_main_v11_apply]
      refine congrArg xn ?_
      funext a; fin_cases a <;> rfl
  simp only [val_main_v21_apply, val_main_v20_apply, val_main_v19_apply, val_main_cst_3_apply, val_main_v18_apply, val_main_v17_apply, val_main_v16_apply, val_main_cst_2_apply, val_main_v15_apply, val_main_v14_apply, val_main_cst_1_apply, hs]
  rfl

/-- The reference's sum over the experts. -/
theorem reference_sum (n : Fin 8192) (d : Fin 2048) :
    val_main_v27 (F := Ideal) xn u v e1 c1 e2 r2 (ix2 n d : S8192x2048.Idx) = ∑ E, added xn u v e1 c1 e2 r2 d n E := by
  rw [val_main_v27_apply]
  refine Finset.sum_congr rfl fun E _ => ?_
  have hl : idx_main_v26 (lidx_main_v27 (ix2 n d : S8192x2048.Idx) E) = (ix2 E n : Cert.DenseRefIdeal.S16384x8192.Idx) := by
    funext a; fin_cases a <;> rfl
  have hr : ridx_main_v27 (ix2 n d : S8192x2048.Idx) E = (ix2 E d : S16384x2048.Idx) := by
    funext a; fin_cases a <;> rfl
  rw [val_main_v26_apply, hl, hr, val_main_v25_apply, val_main_v24_apply, val_main_v23_apply, reference_gate, reference_act]
  unfold added
  rw [mul_comm]
  rfl

/-- The reference. -/
theorem reference : val_main_v41 (F := Ideal) xn u v e1 c1 e2 r2 h g = mixed xn u v e1 c1 e2 r2 h g := by
  funext y
  obtain ⟨n, d, rfl⟩ : ∃ (n : Fin 8192) (d : Fin 2048), y = ix2 n d :=
    ⟨y 0, y 1, by funext a; fin_cases a <;> rfl⟩
  have hsum : ∀ j : Fin 2048, val_main_v28 (F := Ideal) xn u v e1 c1 e2 r2 h (ix2 n j : S8192x2048.Idx)
      = h (ix2 n j) + ∑ E, added xn u v e1 c1 e2 r2 j n E := by
    intro j
    rw [val_main_v28_apply, reference_sum]
    rfl
  have h1 : ∀ j, idx_main_v30 (idx_main_v31 (idx_main_v37 (ix2 n d))) j = ix2 n j := by
    intro j; funext a; fin_cases a <;> rfl
  have h2 : idx_main_v39 (idx_main_v40 (ix2 n d)) = ix1 d := by funext a; fin_cases a; rfl
  simp only [val_main_v41_apply, val_main_v40_apply, val_main_v39_apply, val_main_v38_apply, val_main_v37_apply, val_main_v36_apply, val_main_v35_apply, val_main_v34_apply, val_main_cst_6_apply, val_main_v33_apply, val_main_v32_apply, val_main_cst_5_apply, val_main_v31_apply, val_main_v30_apply, val_main_cst_4_apply, val_main_v29_apply, h1, h2, hsum]
  have hz : (FloatOps.ofBits (F := Ideal) FTy.f32 0#32 : EReal) = 0 := zero_bits
  rw [hz, zero_add]
  rfl

end

end Cert.Experts

end
-- ==== Proof.SampleExperts.lean ====
/- The same on the sample's 128 rows. The experts of one grid point: 512 experts in four groups of 128, a group's gates the sum over the eight heads of the
   kept weights. -/
module

public import proofs.«01_k».proof.Proof.Gen.DenseSampleIdeal.Value
public import proofs.«01_k».proof.Proof.ExpertGate
public import proofs.«01_k».proof.Proof.Norm
public import Idealize.ShloMosaic.Lib.Pipeline.ValueKit
public import Idealize.ShloMosaic.Lib.Pointwise

@[expose] public section

set_option maxRecDepth 65536

noncomputable section

namespace Cert.SampleExperts

open Cert.DenseSampleIdeal Cert.DenseSampleIdeal.Gen Idealize.ShloMosaic Idealize.ShloMosaic.TcCoe Idealize.ShloMosaic.Tactic
open Cert.Norm Cert.Experts

/-- One head's share of the gates of a group. -/
def share (e c : Vec Ideal S1x1x128 .f32) (r w : Vec Ideal S1x128x128 .f32) : FVec Ideal S128x128 .f32 :=
  mulf (select (cmpf .olt (shapeCast (α := Ideal .f32) S128x128 r shapeCasts_S1x128x128_S128x128)
        (broadcastTo (α := Ideal .f32) S128x128 (shapeCast (α := Ideal .f32) S1x128 c shapeCasts_S1x1x128_S1x128) broadcasts_S1x128_S128x128))
      (shapeCast (α := Ideal .f32) S128x128 w shapeCasts_S1x128x128_S128x128)
      (broadcast S128x128 (Scalar.ofBits (F := Ideal) .f32 0x00000000#32)))
    (broadcastTo (α := Ideal .f32) S128x128 (shapeCast (α := Ideal .f32) S1x128 e shapeCasts_S1x1x128_S1x128) broadcasts_S1x128_S128x128)

theorem share_apply (e c : Vec Ideal S1x1x128 .f32) (r w : Vec Ideal S1x128x128 .f32) (k : Fin 128) (n : Fin 128) :
    share e c r w (ix2 k n) = kept (r (ix3 (0 : Fin 1) k n)) (c (ix3 (0 : Fin 1) (0 : Fin 1) n)) (w (ix3 (0 : Fin 1) k n)) (e (ix3 (0 : Fin 1) (0 : Fin 1) n)) := by
  unfold share kept; pointwise

section
variable (e c : Fin 8 → Vec Ideal S1x1x128 .f32) (r w : Fin 8 → Vec Ideal S1x128x128 .f32) (a : FVec Ideal S512x128 .f32)

/-- A group's gates, the heads added in order. -/
def gates : FVec Ideal S128x128 .f32 :=
  addf (addf (addf (addf (addf (addf (addf (addf (broadcast S128x128 (Scalar.ofBits (F := Ideal) .f32 0x00000000#32))
    (share (e 0) (c 0) (r 0) (w 0))) (share (e 1) (c 1) (r 1) (w 1))) (share (e 2) (c 2) (r 2) (w 2)))
    (share (e 3) (c 3) (r 3) (w 3))) (share (e 4) (c 4) (r 4) (w 4))) (share (e 5) (c 5) (r 5) (w 5)))
    (share (e 6) (c 6) (r 6) (w 6))) (share (e 7) (c 7) (r 7) (w 7))

theorem gates_apply (k : Fin 128) (n : Fin 128) :
    gates e c r w (ix2 k n) = ∑ h, kept (r h (ix3 (0 : Fin 1) k n)) (c h (ix3 (0 : Fin 1) (0 : Fin 1) n)) (w h (ix3 (0 : Fin 1) k n)) (e h (ix3 (0 : Fin 1) (0 : Fin 1) n)) := by
  simp only [Fin.sum_univ_eight, ← share_apply]
  unfold gates
  generalize share (e 0) (c 0) (r 0) (w 0) = s0
  generalize share (e 1) (c 1) (r 1) (w 1) = s1
  generalize share (e 2) (c 2) (r 2) (w 2) = s2
  generalize share (e 3) (c 3) (r 3) (w 3) = s3
  generalize share (e 4) (c 4) (r 4) (w 4) = s4
  generalize share (e 5) (c 5) (r 5) (w 5) = s5
  generalize share (e 6) (c 6) (r 6) (w 6) = s6
  generalize share (e 7) (c 7) (r 7) (w 7) = s7
  pointwise

/-- A group's gates times its activations. -/
def group (off : Fin 2 → ℕ) (h : S512x128.Slices off S128x128) : FVec Ideal S128x128 .bf16 :=
  truncf .bf16 (mulf (gates e c r w) (extractStridedSlice (α := Ideal .f32) S128x128 off a h)) bitsLt_bf16_f32

def group0 : FVec Ideal S128x128 .bf16 :=
  k0_pay14 a (k0_pay11 (k0_pay9 (k0_pay8 k0_pay5 (k0_pay6 (c 0) (r 0) (w 0)) (k0_pay7 (e 0)) (e 1) (c 1) (r 1) (w 1) (e 2) (c 2) (r 2) (w 2)) (e 3) (c 3) (r 3) (w 3) (e 4) (c 4) (r 4) (w 4)) (k0_pay10 (e 5)) (c 5) (r 5) (w 5) (e 6) (c 6) (r 6) (w 6)) (k0_pay12 (e 7)) (k0_pay13 (c 7)) (r 7) (w 7)

theorem group0_eq : group0 e c r w a = group e c r w a ![0, 0] slices_S512x128_o0_0_S128x128 := rfl

def group1 : FVec Ideal S128x128 .bf16 :=
  k0_pay25 a (k0_pay22 (k0_pay19 (k0_pay17 (k0_pay15 (e 0) (c 0) (r 0) (w 0)) (k0_pay16 (e 1)) (c 1) (r 1) (w 1) (e 2) (c 2) (r 2) (w 2)) (k0_pay18 (e 3)) (c 3) (r 3) (w 3) (e 4) (c 4) (r 4) (w 4)) (k0_pay20 (e 5)) (k0_pay21 (c 5)) (r 5) (w 5) (e 6) (c 6) (r 6) (w 6)) (k0_pay23 (e 7)) (k0_pay24 (c 7) (r 7)) (w 7)

theorem group1_eq : group1 e c r w a = group e c r w a ![128, 0] slices_S512x128_o128_0_S128x128 := rfl

def group2 : FVec Ideal S128x128 .bf16 :=
  k0_pay41 a (k0_pay36 (k0_pay33 (k0_pay29 (k0_pay26 (e 0) (c 0) (r 0) (w 0)) (k0_pay27 (e 1)) (k0_pay28 (c 1)) (r 1) (w 1) (e 2) (c 2) (r 2) (w 2)) (k0_pay30 (e 3)) (k0_pay31 (r 3)) (k0_pay32 (c 3)) (w 3) (e 4) (c 4) (r 4) (w 4)) (k0_pay34 (e 5)) (k0_pay35 (c 5) (r 5)) (w 5) (e 6) (c 6) (r 6) (w 6)) (k0_pay37 (e 7)) (k0_pay38 (c 7) (r 7)) (k0_pay39 (w 7)) k0_pay40

theorem group2_eq : group2 e c r w a = group e c r w a ![256, 0] slices_S512x128_o256_0_S128x128 := rfl

def group3 : FVec Ideal S128x128 .bf16 :=
  k0_pay51 a (k0_pay49 (k0_pay45 (k0_pay42 (e 0) (c 0) (r 0) (w 0)) (k0_pay43 (e 1)) (k0_pay44 (c 1) (r 1)) (w 1) (e 2) (c 2) (r 2) (w 2)) (k0_pay46 (e 3)) (k0_pay47 (c 3) (r 3)) (k0_pay48 (w 3)) (Scalar.ofBits .f32 0x00000000#32) (e 4) (c 4) (r 4) (w 4)) (k0_pay50 (e 5) (c 5) (r 5) (w 5)) (e 6) (c 6) (r 6) (w 6) (e 7) (c 7) (r 7) (w 7)

theorem group3_eq : group3 e c r w a = group e c r w a ![384, 0] slices_S512x128_o384_0_S128x128 := rfl

end

theorem pay4_apply (u : Vec Ideal S512x2048 .bf16) (x : Vec Ideal S128x2048 .bf16) (e : Fin 512) (n : Fin 128) :
    k0_pay4 u x (ix2 e n) = gelu (∑ k, u (ix2 e k) * x (ix2 n k)) := by
  unfold k0_pay4 gelu; pointwise; rfl

theorem pay3_apply (d : Fin 2048) (n : Fin 128) : k0_pay3 (F := Ideal) (ix2 d n) = 0 := by
  unfold k0_pay3; pointwise

theorem pay2_apply (h : Vec Ideal S128x2048 .f32) (s : Vec Ideal S2048x128 .f32) (g : Vec Ideal S1x2048 .f32) (n : Fin 128) (d : Fin 2048) :
    k0_pay2 h s g (ix2 n d) = normed (fun j => h (ix2 n j) + s (ix2 j n)) (fun j => g (ix2 0 j)) d := by
  unfold k0_pay2 normed eps width; pointwise

theorem pay1_apply (p : Fin 4 → FVec Ideal S128x128 .bf16) (s : Vec Ideal S2048x128 .f32) (v : Vec Ideal S2048x512 .bf16) (d : Fin 2048) (n : Fin 128) :
    k0_pay1 (p 0) (p 1) (p 2) (p 3) s v (ix2 d n) = s (ix2 d n) + ∑ e : Fin 512, v (ix2 d e)
      * p ⟨e.val / 128, by have := e.isLt; omega⟩ (ix2 (⟨e.val % 128, by omega⟩ : Fin 128) n) := by
  have h : ∀ e : Fin 512, p ⟨e.val / 128, by have := e.isLt; omega⟩ (ix2 (⟨e.val % 128, by omega⟩ : Fin 128) n) = _ :=
    fun e => (pick (fun q k => p q (ix2 k n)) e).symm
  simp only [h]
  generalize p 0 = p0
  generalize p 1 = p1
  generalize p 2 = p2
  generalize p 3 = p3
  unfold k0_pay1; pointwise

section
variable (i : grid0.Coords)

/-- The row of an array of counts or weights that group `q` of the point reads, head by head. -/
def rowsAt (x : Vec Ideal S8x128x128 .f32) (q : Fin 4) : Fin 8 → Vec Ideal S1x1x128 .f32 :=
  ![View.ld x (Rect.unit (s := S8x128x128) (k0_off1 i (BitVec.ofNat 32 q.val)) S1x1x128.size (k0_off1_inb i q)),
    View.ld x (Rect.unit (s := S8x128x128) (k0_off2 i (BitVec.ofNat 32 q.val)) S1x1x128.size (k0_off2_inb i q)),
    View.ld x (Rect.unit (s := S8x128x128) (k0_off3 i (BitVec.ofNat 32 q.val)) S1x1x128.size (k0_off3_inb i q)),
    View.ld x (Rect.unit (s := S8x128x128) (k0_off4 i (BitVec.ofNat 32 q.val)) S1x1x128.size (k0_off4_inb i q)),
    View.ld x (Rect.unit (s := S8x128x128) (k0_off5 i (BitVec.ofNat 32 q.val)) S1x1x128.size (k0_off5_inb i q)),
    View.ld x (Rect.unit (s := S8x128x128) (k0_off6 i (BitVec.ofNat 32 q.val)) S1x1x128.size (k0_off6_inb i q)),
    View.ld x (Rect.unit (s := S8x128x128) (k0_off7 i (BitVec.ofNat 32 q.val)) S1x1x128.size (k0_off7_inb i q)),
    View.ld x (Rect.unit (s := S8x128x128) (k0_off8 i (BitVec.ofNat 32 q.val)) S1x1x128.size (k0_off8_inb i q))]

/-- The ranks or weights of the 128 columns, head by head. -/
def blocksAt (x : Vec Ideal S8x128x128 .f32) : Fin 8 → Vec Ideal S1x128x128 .f32 :=
  ![View.ld x (Rect.unit (s := S8x128x128) ![0, 0, 0] S1x128x128.size inb_S8x128x128_S1x128x128_0_0_0),
    View.ld x (Rect.unit (s := S8x128x128) ![1, 0, 0] S1x128x128.size inb_S8x128x128_S1x128x128_1_0_0),
    View.ld x (Rect.unit (s := S8x128x128) ![2, 0, 0] S1x128x128.size inb_S8x128x128_S1x128x128_2_0_0),
    View.ld x (Rect.unit (s := S8x128x128) ![3, 0, 0] S1x128x128.size inb_S8x128x128_S1x128x128_3_0_0),
    View.ld x (Rect.unit (s := S8x128x128) ![4, 0, 0] S1x128x128.size inb_S8x128x128_S1x128x128_4_0_0),
    View.ld x (Rect.unit (s := S8x128x128) ![5, 0, 0] S1x128x128.size inb_S8x128x128_S1x128x128_5_0_0),
    View.ld x (Rect.unit (s := S8x128x128) ![6, 0, 0] S1x128x128.size inb_S8x128x128_S1x128x128_6_0_0),
    View.ld x (Rect.unit (s := S8x128x128) ![7, 0, 0] S1x128x128.size inb_S8x128x128_S1x128x128_7_0_0)]

/-- The row group `q` of the point reads. -/
def rowOf (q : Fin 4) : Fin 128 :=
  ⟨4 * (i 1).val + q.val, by have : (i 1).val < 32 := (i 1).isLt; have := q.isLt; omega⟩

theorem rowsAt_apply (x : Vec Ideal S8x128x128 .f32) (q : Fin 4) (h : Fin 8) (n : Fin 128) :
    rowsAt i x q h (ix3 (0 : Fin 1) (0 : Fin 1) n) = x (ix3 h (rowOf i q) n) := by
  have e := row_word (i 1) q
  unfold rowOf
  fin_cases h <;> refine View.ld_unit_apply_of _ _ _ _ _ _ fun a => ?_ <;> fin_cases a <;>
    first | exact e.symm | exact (Nat.zero_add _).symm | rfl

theorem blocksAt_apply (x : Vec Ideal S8x128x128 .f32) (h : Fin 8) (k : Fin 128) (n : Fin 128) :
    blocksAt x h (ix3 (0 : Fin 1) k n) = x (ix3 h k n) := by
  fin_cases h <;> refine View.ld_unit_apply_of _ _ _ _ _ _ fun a => ?_ <;> fin_cases a <;>
    first | exact (Nat.zero_add _).symm | rfl

theorem slicesAt (q : Fin 4) : S512x128.Slices ![128 * q.val, 0] S128x128 := by
  fin_cases q
  · exact slices_S512x128_o0_0_S128x128
  · exact slices_S512x128_o128_0_S128x128
  · exact slices_S512x128_o256_0_S128x128
  · exact slices_S512x128_o384_0_S128x128

variable (x0 : Vec Ideal S128x2048 .bf16) (x1 : Vec Ideal S512x2048 .bf16) (x2 : Vec Ideal S2048x512 .bf16) (x3 x4 x5 x6 : Vec Ideal S8x128x128 .f32)
  (s : Vec Ideal S2048x128 .f32)

/-- Group `q` of the point's experts. -/
def part (q : Fin 4) : FVec Ideal S128x128 .bf16 :=
  group (rowsAt i x3 q) (rowsAt i x4 q) (blocksAt x6) (blocksAt x5) (k0_pay4 x1 x0) ![128 * q.val, 0] (slicesAt q)

theorem part_apply (q : Fin 4) (k : Fin 128) (n : Fin 128) :
    part i x0 x1 x3 x4 x5 x6 q (ix2 k n)
      = (∑ h, kept (x6 (ix3 h k n)) (x4 (ix3 h (rowOf i q) n)) (x5 (ix3 h k n)) (x3 (ix3 h (rowOf i q) n)))
        * gelu (∑ j, x1 (ix2 (⟨128 * q.val + k.val, by have := q.isLt; have := k.isLt; omega⟩ : Fin 512) j) * x0 (ix2 n j)) := by
  have hg := gates_apply (rowsAt i x3 q) (rowsAt i x4 q) (blocksAt x6) (blocksAt x5) k n
  simp only [rowsAt_apply, blocksAt_apply] at hg
  rw [← hg, ← pay4_apply]
  unfold part group
  generalize gates (rowsAt i x3 q) (rowsAt i x4 q) (blocksAt x6) (blocksAt x5) = g
  generalize k0_pay4 x1 x0 = a
  generalize slicesAt q = hs
  have hq := q.isLt
  pointwise

/-- What a point leaves in the sums, which held `s`: the point's experts added. -/
def step : Vec Ideal S2048x128 .f32 :=
  k0_pay1 (part i x0 x1 x3 x4 x5 x6 0) (part i x0 x1 x3 x4 x5 x6 1) (part i x0 x1 x3 x4 x5 x6 2) (part i x0 x1 x3 x4 x5 x6 3) s x2

theorem step_apply (d : Fin 2048) (n : Fin 128) :
    step i x0 x1 x2 x3 x4 x5 x6 s (ix2 d n) = s (ix2 d n) + ∑ e : Fin 512, x2 (ix2 d e)
      * ((∑ h, kept (x6 (ix3 h (⟨e.val % 128, by omega⟩ : Fin 128) n)) (x4 (ix3 h (rowOf i ⟨e.val / 128, by have := e.isLt; omega⟩) n))
            (x5 (ix3 h (⟨e.val % 128, by omega⟩ : Fin 128) n)) (x3 (ix3 h (rowOf i ⟨e.val / 128, by have := e.isLt; omega⟩) n)))
          * gelu (∑ j, x1 (ix2 e j) * x0 (ix2 n j))) := by
  unfold step
  rw [pay1_apply (part i x0 x1 x3 x4 x5 x6) s x2 d n]
  refine congrArg _ (Finset.sum_congr rfl fun e _ => ?_)
  rw [part_apply]
  have he : (⟨128 * (e.val / 128) + e.val % 128, by have := e.isLt; omega⟩ : Fin 512) = e := Fin.ext (Nat.div_add_mod _ _)
  simp only [he]

end

end Cert.SampleExperts

end
-- ==== Proof.SampleExpertSum.lean ====
/- The experts' call over the grid: a row tile's sums are carried over the 32 points that share it, and the last of them adds
   the residual and norms. -/
module

public import proofs.«01_k».proof.Proof.SampleExperts
public import proofs.«01_k».proof.Proof.Gen.DenseSampleRefIdeal.Read
public import proofs.«01_k».proof.Proof.Offsets

@[expose] public section

set_option maxRecDepth 65536

noncomputable section

namespace Cert.SampleExperts

open Cert.DenseSampleIdeal Cert.DenseSampleIdeal.Gen Cert.DenseSampleIdeal.Value Idealize.ShloMosaic Idealize.ShloMosaic.TcCoe Idealize.ShloMosaic.Tactic
open Cert.Offsets Cert.Norm Cert.Experts

section
variable (c : Dev nD) (i : grid0.Coords) (arg2 : Memref sig .tc .vmem S128x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S8x128x128 .f32) (harg7 : arg7.IsWhole) (arg8 : Memref sig .tc .vmem S8x128x128 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S128x2048 .f32) (harg11 : arg11.IsWhole) (arg12 : Memref sig .tc .vmem S2048x128 .f32) (harg12 : arg12.IsWhole)
  (x0 : Vec Ideal S128x2048 .bf16) (x1 : Vec Ideal S512x2048 .bf16) (x2 : Vec Ideal S2048x512 .bf16) (x3 x4 x5 x6 : Vec Ideal S8x128x128 .f32)
  (x7 : Vec Ideal S128x2048 .f32) (x8 : Vec Ideal S1x2048 .f32)

/-- The printed groups are the point's own. -/
theorem step_eq (s : Vec Ideal S2048x128 .f32) :
    k0_pay1 (group0 (rowsAt i x3 0) (rowsAt i x4 0) (blocksAt x6) (blocksAt x5) (k0_pay4 x1 x0))
      (group1 (rowsAt i x3 1) (rowsAt i x4 1) (blocksAt x6) (blocksAt x5) (k0_pay4 x1 x0))
      (group2 (rowsAt i x3 2) (rowsAt i x4 2) (blocksAt x6) (blocksAt x5) (k0_pay4 x1 x0))
      (group3 (rowsAt i x3 3) (rowsAt i x4 3) (blocksAt x6) (blocksAt x5) (k0_pay4 x1 x0)) s x2
      = step i x0 x1 x2 x3 x4 x5 x6 s := by
  rw [group0_eq, group1_eq, group2_eq, group3_eq]
  rfl

theorem sout_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step i x0 x1 x2 x3 x4 x5 x6 (k0_pay3 (F := Ideal)) := by
  unfold sout0_A_0
  rw [View.read_writes_eq_canon _ _ _ (fun y => scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 y)]
  unfold kernelRun0_A
  dsimp only
  sl_unfold_words
  simp only [View.readCov, View.readAt_eq_ld, harg2.read_unread, harg3.read_unread, harg4.read_unread, harg5.read_unread, harg6.read_unread, harg7.read_unread, harg8.read_unread, harg9.read_unread, harg10.read_unread]
  rw [View.canon_cons_unit_zero zz, View.ld_unit_zero zz _ x0, View.ld_unit_zero zz _ x1, View.ld_unit_zero zz _ x2, read_whole_store _ _ zz]
  exact step_eq i x0 x1 x2 x3 x4 x5 x6 _

theorem sout_B (hc0 : ¬cond0_0 i) (hc1 : ¬cond0_1 i) (s : Vec Ideal S2048x128 .f32) :
    sout0_B_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = step i x0 x1 x2 x3 x4 x5 x6 (s) := by
  unfold sout0_B_0
  rw [View.read_writes_eq_canon _ _ _ (fun y => scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_B
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s]
  exact step_eq i x0 x1 x2 x3 x4 x5 x6 s

theorem sout_C (hc0 : ¬cond0_0 i) (hc1 : cond0_1 i) (s : Vec Ideal S2048x128 .f32) :
    sout0_C_0 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = step i x0 x1 x2 x3 x4 x5 x6 (s) := by
  unfold sout0_C_0
  rw [View.read_writes_eq_canon _ _ _ (fun y => scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s]
  exact step_eq i x0 x1 x2 x3 x4 x5 x6 s

theorem out_C (hc0 : ¬cond0_0 i) (hc1 : cond0_1 i) (s : Vec Ideal S2048x128 .f32) :
    out0_C_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s = k0_pay2 x7 (step i x0 x1 x2 x3 x4 x5 x6 s) x8 := by
  unfold out0_C_9
  rw [View.read_writes_eq_canon _ _ _ (fun y => cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 s y)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg12.read_unread]
  rw [View.canon_unit_zero zz, View.ld_unit_zero zz _ x0, View.ld_unit_zero zz _ x1, View.ld_unit_zero zz _ x2, View.ld_unit_zero zz _ s, View.ld_unit_zero zz _ x7, View.ld_unit_zero zz _ x8, read_whole_store _ _ zz, View.ld_unit_zero zz]
  exact congrArg (fun z => k0_pay2 x7 z x8) (step_eq i x0 x1 x2 x3 x4 x5 x6 s)
end

section
variable (xn : Vec Ideal S128x2048 .bf16) (u v : Vec Ideal S16384x2048 .f32) (e1 c1 e2 r2 : Vec Ideal S8x128x128 .f32)
  (h : Vec Ideal S128x2048 .f32) (g : Vec Ideal S2048 .f32)

/-- An expert's gate for a token: expert `E` is row `E / 128`, column `E % 128` of each head's grid. -/
def gate (E : Fin 16384) (n : Fin 128) : EReal :=
  ∑ a, kept (r2 (ix3 a (⟨E.val % 128, by omega⟩ : Fin 128) n)) (c1 (ix3 a (⟨E.val / 128, by omega⟩ : Fin 128) n))
    (e2 (ix3 a (⟨E.val % 128, by omega⟩ : Fin 128) n)) (e1 (ix3 a (⟨E.val / 128, by omega⟩ : Fin 128) n))

/-- What expert `E` adds to column `d` of token `n`. -/
def added (d : Fin 2048) (n : Fin 128) (E : Fin 16384) : EReal :=
  v (ix2 E d) * (gate e1 c1 e2 r2 E n * gelu (∑ j, u (ix2 E j) * xn (ix2 n j)))

/-- The normed sum of the residual and the experts. -/
def mixed : Vec Ideal S128x2048 .f32 :=
  fun y => normed (fun d => h (ix2 (y 0 : Fin 128) d) + ∑ E, added xn u v e1 c1 e2 r2 d (y 0) E) (fun d => g (ix1 d)) (y 1)

end

/-- Where the windows put a grid point's blocks. -/
theorem idx : ∀ t : Fin cfg0.N,
    win0_0.index t = ![(grid0.coords t 0).val, 0] ∧ win0_1.index t = ![(grid0.coords t 1).val, 0]
    ∧ win0_2.index t = ![0, (grid0.coords t 1).val] ∧ win0_3.index t = ![0, 0, (grid0.coords t 0).val]
    ∧ win0_4.index t = ![0, 0, (grid0.coords t 0).val] ∧ win0_5.index t = ![0, 0, (grid0.coords t 0).val]
    ∧ win0_6.index t = ![0, 0, (grid0.coords t 0).val] ∧ win0_7.index t = ![(grid0.coords t 0).val, 0]
    ∧ win0_8.index t = ![0, 0] ∧ win0_9.index t = ![(grid0.coords t 0).val, 0] :=
  (by decide +kernel : ∀ t : Fin grid0.N, _)

theorem coords : ∀ t : Fin cfg0.N, (grid0.coords t 0).val = t.val / 32 ∧ (grid0.coords t 1).val = t.val % 32 :=
  (by decide +kernel : ∀ t : Fin grid0.N, _)

section
variable (m : (ℓ : Loc nD τ sig) → Buf (Elt Ideal) ℓ) (c : Dev nD) (t : Fin cfg0.N)

/-- The token that row `r` of point `t`'s block is. -/
def tokOf (r : Fin 128) : Fin 128 :=
  ⟨128 * (grid0.coords t 0).val + r.val, by have : (grid0.coords t 0).val < 1 := (grid0.coords t 0).isLt; have := r.isLt; omega⟩

/-- The expert that row `e` of point `t`'s block is. -/
def expOf (e : Fin 512) : Fin 16384 :=
  ⟨512 * (grid0.coords t 1).val + e.val, by have : (grid0.coords t 1).val < 32 := (grid0.coords t 1).isLt; have := e.isLt; omega⟩

theorem blk0 (r : Fin 128) (k : Fin 2048) :
    iblk m c 0 t (ix2 r k) = m ((c : Thread nD τ).loc main_arg0) (ix2 (tokOf t r) k) := by
  unfold tokOf
  blk_ext [iblk, V, idx t]

theorem blk1 (e : Fin 512) (k : Fin 2048) :
    iblk m c 1 t (ix2 e k) = m ((c : Thread nD τ).loc main_arg1) (ix2 (expOf t e) k) := by
  have hv : V m c main_v0 = (truncf .bf16 (m ((c : Thread nD τ).loc main_arg1) : FVec Ideal S16384x2048 .f32) bitsLt_bf16_f32 : FVec Ideal S16384x2048 .bf16) := by
    entry_read; rfl
  have he : iblk m c 1 t (ix2 e k) = V m c main_v0 (ix2 (expOf t e) k : S16384x2048.Idx) := by
    unfold expOf
    blk_ext [iblk, idx t]
  rw [he, hv]
  rfl

theorem blk2 (d : Fin 2048) (e : Fin 512) :
    iblk m c 2 t (ix2 d e) = m ((c : Thread nD τ).loc main_arg2) (ix2 (expOf t e) d) := by
  have hv : V m c main_v2 = (truncf .bf16 (transpose S2048x16384 (α := Ideal .f32) [1, 0] (m ((c : Thread nD τ).loc main_arg2)) transposes_S16384x2048_S2048x16384_1_0 : FVec Ideal S2048x16384 .f32) bitsLt_bf16_f32 : FVec Ideal S2048x16384 .bf16) := by
    entry_read; rfl
  have he : iblk m c 2 t (ix2 d e) = V m c main_v2 (ix2 d (expOf t e) : S2048x16384.Idx) := by
    unfold expOf
    blk_ext [iblk, idx t]
  rw [he, hv]
  generalize m ((c : Thread nD τ).loc main_arg2) = z
  pointwise

theorem blk3 (a : Fin 8) (k : Fin 128) (n : Fin 128) :
    iblk m c 3 t (ix3 a k n) = m ((c : Thread nD τ).loc main_arg3) (ix3 a k (tokOf t n)) := by
  unfold tokOf
  blk_ext [iblk, V, idx t]

theorem blk4 (a : Fin 8) (k : Fin 128) (n : Fin 128) :
    iblk m c 4 t (ix3 a k n) = m ((c : Thread nD τ).loc main_arg4) (ix3 a k (tokOf t n)) := by
  unfold tokOf
  blk_ext [iblk, V, idx t]

theorem blk5 (a : Fin 8) (k : Fin 128) (n : Fin 128) :
    iblk m c 5 t (ix3 a k n) = m ((c : Thread nD τ).loc main_arg5) (ix3 a k (tokOf t n)) := by
  unfold tokOf
  blk_ext [iblk, V, idx t]

theorem blk6 (a : Fin 8) (k : Fin 128) (n : Fin 128) :
    iblk m c 6 t (ix3 a k n) = m ((c : Thread nD τ).loc main_arg6) (ix3 a k (tokOf t n)) := by
  unfold tokOf
  blk_ext [iblk, V, idx t]

theorem blk7 (r : Fin 128) (k : Fin 2048) :
    iblk m c 7 t (ix2 r k) = m ((c : Thread nD τ).loc main_arg7) (ix2 (tokOf t r) k) := by
  unfold tokOf
  blk_ext [iblk, V, idx t]

theorem blk8 (k : Fin 2048) :
    iblk m c 8 t (ix2 (0 : Fin 1) k) = m ((c : Thread nD τ).loc main_arg8) (ix1 k) := by
  have hv : V m c main_v3 = (shapeCast S1x2048 (α := Ideal .f32) (m ((c : Thread nD τ).loc main_arg8)) shapeCasts_S2048_S1x2048 : FVec Ideal S1x2048 .f32) := by
    entry_read; rfl
  have he : iblk m c 8 t (ix2 (0 : Fin 1) k) = V m c main_v3 (ix2 (0 : Fin 1) k : S1x2048.Idx) := by
    blk_ext [iblk, idx t]
  rw [he, hv]
  pointwise

/-- The experts' terms of the run's arguments. -/
def addedAt (d : Fin 2048) (n : Fin 128) (E : Fin 16384) : EReal :=
  added (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) d n E

/-- The same at every number, nothing past the last expert. -/
def addedNat (d : Fin 2048) (n : Fin 128) (x : ℕ) : EReal := if hx : x < 16384 then addedAt m c d n ⟨x, hx⟩ else 0

/-- A point's step over its own blocks. -/
def stepAt (s : Vec Ideal S2048x128 .f32) : Vec Ideal S2048x128 .f32 :=
  step (grid0.coords t) (iblk m c 0 t) (iblk m c 1 t) (iblk m c 2 t) (iblk m c 3 t) (iblk m c 4 t) (iblk m c 5 t) (iblk m c 6 t) s

theorem stepAt_apply (s : Vec Ideal S2048x128 .f32) (d : Fin 2048) (n : Fin 128) :
    stepAt m c t s (ix2 d n) = s (ix2 d n) + ∑ x ∈ Finset.range 512, addedNat m c d (tokOf t n) (512 * (t.val % 32) + x) := by
  unfold stepAt
  rw [step_apply, Finset.sum_range]
  refine congrArg _ (Finset.sum_congr rfl fun e _ => ?_)
  have hc := (coords t).2
  have he := e.isLt
  have hE : addedNat m c d (tokOf t n) (512 * (t.val % 32) + e.val) = addedAt m c d (tokOf t n) (expOf t e) := by
    unfold addedNat
    rw [dif_pos (by omega)]
    refine congrArg _ (Fin.ext ?_)
    show _ = 512 * (grid0.coords t 1).val + e.val
    rw [hc]
  rw [hE]
  unfold addedAt added gate
  simp only [blk0, blk1, blk2, blk3, blk4, blk5, blk6]
  have hr : rowOf (grid0.coords t) ⟨e.val / 128, by omega⟩ = ⟨(expOf t e).val / 128, by have := (expOf t e).isLt; omega⟩ := by
    apply Fin.ext; show 4 * (grid0.coords t 1).val + e.val / 128 = (512 * (grid0.coords t 1).val + e.val) / 128; omega
  have hk : (⟨e.val % 128, by omega⟩ : Fin 128) = ⟨(expOf t e).val % 128, by omega⟩ := by
    apply Fin.ext; show e.val % 128 = (512 * (grid0.coords t 1).val + e.val) % 128; omega
  rw [hr, hk]
end

section
variable (m : (ℓ : Loc nD τ sig) → Buf (Elt Ideal) ℓ) (c : Dev nD)

theorem tok_before (t : Fin cfg0.N) (hl : t.val - 1 < cfg0.N) (h0 : ¬ t.val % 32 = 0) (r : Fin 128) :
    tokOf ⟨t.val - 1, hl⟩ r = tokOf t r := by
  unfold tokOf; apply Fin.ext
  have e1 := (coords t).1; have e2 := (coords ⟨t.val - 1, hl⟩).1
  simp only [e1, e2]; omega

/-- The point leaves its step over what the point before left, or over nothing at a row tile's first point. -/
theorem sums_first (t : Fin cfg0.N) (h0 : t.val % 32 = 0) : (outsAt0 m c t.val t.isLt).2 = stepAt m c t (k0_pay3 (F := Ideal)) := by
  rw [outsAt0_A m c t h0 (by omega)]; dsimp only; rw [sout_A]; rfl

theorem sums_next (t : Fin cfg0.N) (hl : t.val - 1 < cfg0.N) (h0 : ¬ t.val % 32 = 0) :
    (outsAt0 m c t.val t.isLt).2 = stepAt m c t (outsAt0 m c (t.val - 1) hl).2 := by
  by_cases h1 : t.val % 32 = 31
  · rw [outsAt0_C m c t h0 h1]; dsimp only; rw [sout_C]; rfl
  · rw [outsAt0_B m c t h0 h1]; dsimp only; rw [sout_B]; rfl

/-- The sums after a point: the experts of its row tile's points so far. -/
theorem sums : ∀ (n : ℕ) (hn : n < cfg0.N) (d : Fin 2048) (r : Fin 128),
    (outsAt0 m c n hn).2 (ix2 d r) = ∑ x ∈ Finset.range (512 * (n % 32) + 512), addedNat m c d (tokOf ⟨n, hn⟩ r) x := by
  intro n
  induction n with
  | zero =>
    intro hn d r
    rw [sums_first m c ⟨0, hn⟩ rfl, stepAt_apply, pay3_apply, zero_add]
    simp
  | succ n ih =>
    intro hn d r
    rw [Finset.sum_range_add]
    by_cases h0 : (n + 1) % 32 = 0
    · rw [sums_first m c ⟨n + 1, hn⟩ h0, stepAt_apply, pay3_apply]
      simp [h0]
    · rw [sums_next m c ⟨n + 1, hn⟩ (Nat.lt_of_succ_lt hn) h0, stepAt_apply]
      refine congrArg₂ _ ?_ rfl
      refine (ih (Nat.lt_of_succ_lt hn) d r).trans ?_
      have hb := tok_before ⟨n + 1, hn⟩ (Nat.lt_of_succ_lt hn) h0 r
      have hm : 512 * (n % 32) + 512 = 512 * ((n + 1) % 32) := by omega
      rw [hm, ← hb]
      rfl

/-- A row tile's last point stores the normed sum of its tokens. -/
theorem point (t : Fin cfg0.N) (h1 : t.val % 32 = 31) (r : Fin 128) (d : Fin 2048) :
    (outsAt0 m c t.val t.isLt).1 (ix2 r d)
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (ix2 (tokOf t r) d) := by
  have h0 : ¬ t.val % 32 = 0 := by omega
  have hl : t.val - 1 < cfg0.N := Nat.lt_of_le_of_lt (Nat.sub_le _ _) t.isLt
  have e : (outsAt0 m c t.val t.isLt).1 = k0_pay2 (iblk m c 7 t) (outsAt0 m c t.val t.isLt).2 (iblk m c 8 t) := by
    rw [sums_next m c t hl h0]
    rw [outsAt0_C m c t h0 h1]; dsimp only; rw [out_C]; rfl
  have hs : ∀ j : Fin 2048, (outsAt0 m c t.val t.isLt).2 (ix2 j r) = ∑ E, addedAt m c j (tokOf t r) E := by
    intro j
    refine (sums m c t.val t.isLt j r).trans ?_
    rw [h1, show 512 * 31 + 512 = 16384 from rfl, Finset.sum_range]
    refine Finset.sum_congr rfl fun E _ => ?_
    unfold addedNat
    rw [dif_pos E.isLt]
  rw [e, pay2_apply]
  simp only [hs, blk7, blk8]
  rfl

end

/-- The kernel's output array after the run. -/
theorem array (m : (ℓ : Loc nD τ sig) → Buf (Elt Ideal) ℓ) (c : Dev nD) :
    (dats m 0 c).arrAt 9 cfg0.N
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 9 _ (by decide +kernel) fun t hf y => ?_
  have h31 : t.val % 32 = 31 := (flush0_9 t).1 hf
  blk_simp
  rw [after0_9]
  have hy : y = ix2 (y 0 : Fin 128) (y 1 : Fin 2048) := by funext a; fin_cases a <;> rfl
  have h0 : (y 0).val < 128 := (y 0).isLt
  have h1 : (y 1).val < 2048 := (y 1).isLt
  refine (congrArg (outsAt0 m c t.val t.isLt).1 hy).trans ((point m c t h31 (y 0) (y 1)).trans (congrArg _ ?_))
  unfold tokOf
  funext a
  fin_cases a <;> apply Fin.ext <;> blk_simp [idx t] <;> simp <;> omega

end Cert.SampleExperts

end
-- ==== Proof.SampleExpertReference.lean ====
/- The reference of the experts' call: its gates, its activations, the sum over all the experts and the last norm. -/
module

public import proofs.«01_k».proof.Proof.SampleExpertSum
public import proofs.«01_k».proof.Proof.LatentReference
public import proofs.«01_k».proof.Proof.Gen.DenseSampleRefIdeal.Read

@[expose] public section

set_option maxRecDepth 65536

noncomputable section

namespace Cert.SampleExperts

open Cert.DenseSampleIdeal Cert.DenseSampleRefIdeal.Read Idealize.ShloMosaic Idealize.ShloMosaic.TcCoe Idealize.ShloMosaic.Tactic
open Cert.Norm Cert.Experts
open Cert.Latent (zero_bits)

section
variable (xn : Vec Ideal S128x2048 .bf16) (u v : Vec Ideal S16384x2048 .f32) (e1 c1 e2 r2 : Vec Ideal S8x128x128 .f32)
  (h : Vec Ideal S128x2048 .f32) (g : Vec Ideal S2048 .f32)

/-- The reference's gates. -/
theorem reference_gate (E : Fin 16384) (n : Fin 128) :
    val_main_v22 (F := Ideal) e1 c1 e2 r2 (ix2 E n : Cert.DenseSampleRefIdeal.S16384x128.Idx) = gate e1 c1 e2 r2 E n := by
  have hi : idx_main_v22 (ix2 E n : Cert.DenseSampleRefIdeal.S16384x128.Idx) = ix3 (⟨E.val / 128, by omega⟩ : Fin 128) (⟨E.val % 128, by omega⟩ : Fin 128) n := by
    have hn := n.isLt
    funext a; fin_cases a <;> apply Fin.ext <;> simp <;> omega
  rw [val_main_v22_apply, hi, val_main_v10_apply]
  have hz : (val_main_cst_0 (F := Ideal)) (Shape.Idx.first Cert.DenseSampleRefIdeal.Gen.h_S_) = 0 := zero_bits
  rw [hz, zero_add]
  unfold gate
  refine Finset.sum_congr rfl fun a _ => ?_
  simp only [val_main_v9_apply, val_main_v6_apply, val_main_v4_apply, val_main_v2_apply, val_main_v0_apply, val_main_v3_apply, val_main_v1_apply, val_main_call0_v1_apply, val_main_v5_apply, val_main_call0_v2_apply, val_main_v8_apply, val_main_v7_apply]
  unfold kept
  refine congrArg₂ (· * ·) ?_ (congrArg e1 ?_)
  · refine congrArg₂ (fun p q => Scalar.select p q (Ideal.ofBits FTy.f32 0#32)) (congrArg₂ (Ideal.cmp .olt) (congrArg r2 ?_) (congrArg c1 ?_)) (congrArg e2 ?_) <;>
      (funext b; fin_cases b <;> rfl)
  · funext b; fin_cases b <;> rfl

/-- The reference's activations. -/
theorem reference_act (E : Fin 16384) (n : Fin 128) :
    val_main_v21 (F := Ideal) xn u (ix2 E n : Cert.DenseSampleRefIdeal.S16384x128.Idx) = gelu (∑ j, u (ix2 E j) * xn (ix2 n j)) := by
  have hs : val_main_v13 (F := Ideal) xn u (ix2 E n : Cert.DenseSampleRefIdeal.S16384x128.Idx) = ∑ j, u (ix2 E j) * xn (ix2 n j) := by
    rw [val_main_v13_apply]
    refine Finset.sum_congr rfl fun j _ => congrArg₂ (· * ·) (congrArg u ?_) ?_
    · funext a; fin_cases a <;> rfl
    · rw [val_main_v12_apply, val_main_v11_apply]
      refine congrArg xn ?_
      funext a; fin_cases a <;> rfl
  simp only [val_main_v21_apply, val_main_v20_apply, val_main_v19_apply, val_main_cst_3_apply, val_main_v18_apply, val_main_v17_apply, val_main_v16_apply, val_main_cst_2_apply, val_main_v15_apply, val_main_v14_apply, val_main_cst_1_apply, hs]
  rfl

/-- The reference's sum over the experts. -/
theorem reference_sum (n : Fin 128) (d : Fin 2048) :
    val_main_v27 (F := Ideal) xn u v e1 c1 e2 r2 (ix2 n d : S128x2048.Idx) = ∑ E, added xn u v e1 c1 e2 r2 d n E := by
  rw [val_main_v27_apply]
  refine Finset.sum_congr rfl fun E _ => ?_
  have hl : idx_main_v26 (lidx_main_v27 (ix2 n d : S128x2048.Idx) E) = (ix2 E n : Cert.DenseSampleRefIdeal.S16384x128.Idx) := by
    funext a; fin_cases a <;> rfl
  have hr : ridx_main_v27 (ix2 n d : S128x2048.Idx) E = (ix2 E d : S16384x2048.Idx) := by
    funext a; fin_cases a <;> rfl
  rw [val_main_v26_apply, hl, hr, val_main_v25_apply, val_main_v24_apply, val_main_v23_apply, reference_gate, reference_act]
  unfold added
  rw [mul_comm]
  rfl

/-- The reference. -/
theorem reference : val_main_v41 (F := Ideal) xn u v e1 c1 e2 r2 h g = mixed xn u v e1 c1 e2 r2 h g := by
  funext y
  obtain ⟨n, d, rfl⟩ : ∃ (n : Fin 128) (d : Fin 2048), y = ix2 n d :=
    ⟨y 0, y 1, by funext a; fin_cases a <;> rfl⟩
  have hsum : ∀ j : Fin 2048, val_main_v28 (F := Ideal) xn u v e1 c1 e2 r2 h (ix2 n j : S128x2048.Idx)
      = h (ix2 n j) + ∑ E, added xn u v e1 c1 e2 r2 j n E := by
    intro j
    rw [val_main_v28_apply, reference_sum]
    rfl
  have h1 : ∀ j, idx_main_v30 (idx_main_v31 (idx_main_v37 (ix2 n d))) j = ix2 n j := by
    intro j; funext a; fin_cases a <;> rfl
  have h2 : idx_main_v39 (idx_main_v40 (ix2 n d)) = ix1 d := by funext a; fin_cases a; rfl
  simp only [val_main_v41_apply, val_main_v40_apply, val_main_v39_apply, val_main_v38_apply, val_main_v37_apply, val_main_v36_apply, val_main_v35_apply, val_main_v34_apply, val_main_cst_6_apply, val_main_v33_apply, val_main_v32_apply, val_main_cst_5_apply, val_main_v31_apply, val_main_v30_apply, val_main_cst_4_apply, val_main_v29_apply, h1, h2, hsum]
  have hz : (FloatOps.ofBits (F := Ideal) FTy.f32 0#32 : EReal) = 0 := zero_bits
  rw [hz, zero_add]
  rfl

end

end Cert.SampleExperts

end
-- ==== Proof.lean ====
/- The attention kernel of a layer: its frames, and its value against the reference, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Gen.ReferenceIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Query
public import proofs.«01_k».proof.Proof.Gen.Query.Frame
public import proofs.«01_k».proof.Proof.Gen.QueryIdeal
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Absorb
public import proofs.«01_k».proof.Proof.Gen.Absorb.Frame
public import proofs.«01_k».proof.Proof.Gen.AbsorbIdeal
public import proofs.«01_k».proof.Proof.Gen.AbsorbIdeal.Frame
public import proofs.«01_k».proof.Proof.Gen.AbsorbIdeal.Value
public import proofs.«01_k».proof.Proof.Gen.AbsorbRefIdeal
public import proofs.«01_k».proof.Proof.Gen.AbsorbRefIdeal.Run
public import proofs.«01_k».proof.Proof.Gen.AbsorbRefIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.State
public import proofs.«01_k».proof.Proof.Gen.State.Frame
public import proofs.«01_k».proof.Proof.Gen.StateIdeal
public import proofs.«01_k».proof.Proof.Gen.StateIdeal.Frame
public import proofs.«01_k».proof.Proof.Gen.StateRefIdeal
public import proofs.«01_k».proof.Proof.Gen.StateRefIdeal.Run
public import proofs.«01_k».proof.Proof.Gen.StateRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsIdeal.Value
public import proofs.«01_k».proof.Proof.Gen.RowsRefIdeal
public import proofs.«01_k».proof.Proof.Gen.RowsRefIdeal.Run
public import proofs.«01_k».proof.Proof.Gen.RowsRefIdeal.Read
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.DenseSample
public import proofs.«01_k».proof.Proof.Gen.DenseSample.Frame
public import proofs.«01_k».proof.Proof.Gen.DenseSampleIdeal
public import proofs.«01_k».proof.Proof.Gen.DenseSampleIdeal.Frame
public import proofs.«01_k».proof.Proof.Gen.DenseSampleIdeal.Value
public import proofs.«01_k».proof.Proof.Gen.DenseSampleRefIdeal
public import proofs.«01_k».proof.Proof.Gen.DenseSampleRefIdeal.Run
public import proofs.«01_k».proof.Proof.Gen.DenseSampleRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Equation
public import proofs.«01_k».proof.Proof.PeerQuery
public import proofs.«01_k».proof.Proof.OutProj
public import proofs.«01_k».proof.Proof.Heads
public import proofs.«01_k».proof.Proof.ConvRows
public import proofs.«01_k».proof.Proof.LatentArray
public import proofs.«01_k».proof.Proof.LatentReference
public import proofs.«01_k».proof.Proof.SampleArray
public import proofs.«01_k».proof.Proof.SampleReference
public import proofs.«01_k».proof.Proof.SampleLatent
public import proofs.«01_k».proof.Proof.ExpertReference
public import proofs.«01_k».proof.Proof.SampleExpertReference
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem

/-- The reference ends with its arguments unchanged and every counter at zero. -/
theorem reference_frame : Cert.quiescent_ReferenceIdeal := fun m ρ _ =>
  θ_run_mono (Cert.ReferenceIdeal.Value.run m ρ) fun r h => ⟨fun c => (h c).2, sem_eq_zero_of_no_sems (by decide) r.2⟩

/-- The kernel's output array is the reference's, at finite arguments. -/
theorem attention : Cert.algebraic_KernelIdeal_ReferenceIdeal_pre_finite := by
  intro m g m' g' hpre hagree
  refine ⟨fun c => (Cert.KernelIdeal.Gen.dats m 0 c).arrAt 4 Cert.KernelIdeal.cfg0.N, Cert.KernelIdeal.Value.run_blocks m g, ?_⟩
  refine θ_run_mono (Cert.ReferenceIdeal.Value.run m' g') fun r h c => ⟨(h c).1.trans ?_, (h c).2⟩
  obtain ⟨a0, a1, a2, a3⟩ := hagree c
  obtain ⟨f0, f1, f2, f3⟩ := Cert.Fin.of_pre _ _ _ _ (hpre c)
  rw [Cert.ReferenceIdeal.Read.val_main_v32_eq, a0, a1, a2, a3]
  exact (Cert.Attn.equation f0 f1 f2 f3).trans (Cert.Attn.array m c).symm

theorem in_reference_frame : Cert.quiescent_InRefIdeal := fun m ρ _ =>
  θ_run_mono (Cert.InRefIdeal.Value.run m ρ) fun r h => ⟨fun c => (h c).2, sem_eq_zero_of_no_sems (by decide) r.2⟩

/-- The input projection is the reference's. -/
theorem in_value : Cert.algebraic_InIdeal_InRefIdeal := by
  intro m g m' g' hpre hagree
  refine ⟨fun c => (Cert.InIdeal.Gen.dats m 0 c).arrAt 3 Cert.InIdeal.cfg0.N, Cert.InIdeal.Value.run_blocks m g, ?_⟩
  refine θ_run_mono (Cert.InRefIdeal.Value.run m' g') fun r h c => ⟨(h c).1.trans ?_, (h c).2⟩
  obtain ⟨a0, a1, a2⟩ := hagree c
  rw [Cert.InRefIdeal.Read.val_main_v14_eq, a0, a1, a2]
  exact (Cert.InProj.reference _ _ _).trans (Cert.InProj.array m c).symm

theorem query_reference_frame : Cert.quiescent_QueryRefIdeal := fun m ρ _ =>
  θ_run_mono (Cert.QueryRefIdeal.Value.run m ρ) fun r h => ⟨fun c => (h c).2.2, sem_eq_zero_of_no_sems (by decide) r.2⟩

/-- The expert query projection and the normed rows are the reference's. -/
theorem query_value : Cert.algebraic_QueryIdeal_QueryRefIdeal := by
  intro m g m' g' hpre hagree
  refine ⟨fun c => (Cert.QueryIdeal.Gen.dats m 0 c).arrAt 3 Cert.QueryIdeal.cfg0.N,
    fun c => (Cert.QueryIdeal.Gen.dats m 0 c).arrAt 4 Cert.QueryIdeal.cfg0.N, Cert.QueryIdeal.Value.run_blocks m g, ?_⟩
  refine θ_run_mono (Cert.QueryRefIdeal.Value.run m' g') fun r h c => ⟨(h c).1.trans ?_, (h c).2.1.trans ?_, (h c).2.2⟩
  all_goals obtain ⟨a0, a1, a2⟩ := hagree c
  · rw [Cert.QueryRefIdeal.Read.val_main_v14_eq, a0, a1, a2]
    exact (Cert.PeerQuery.reference_proj _ _ _).trans (Cert.PeerQuery.array_proj m c).symm
  · rw [Cert.QueryRefIdeal.Read.val_main_v15_eq, a0, a1]
    exact (Cert.PeerQuery.reference_rows _ _).trans (Cert.PeerQuery.array_rows m c).symm

theorem out_reference_frame : Cert.quiescent_OutRefIdeal := fun m ρ _ =>
  θ_run_mono (Cert.OutRefIdeal.Value.run m ρ) fun r h => ⟨fun c => (h c).2, sem_eq_zero_of_no_sems (by decide) r.2⟩

/-- The output projection is the reference's. -/
theorem out_value : Cert.algebraic_OutIdeal_OutRefIdeal := by
  intro m g m' g' hpre hagree
  refine ⟨fun c => (Cert.OutIdeal.Gen.dats m 0 c).arrAt 5 Cert.OutIdeal.cfg0.N, Cert.OutIdeal.Value.run_blocks m g, ?_⟩
  refine θ_run_mono (Cert.OutRefIdeal.Value.run m' g') fun r h c => ⟨(h c).1.trans ?_, (h c).2⟩
  obtain ⟨a0, a1, a2, a3⟩ := hagree c
  rw [Cert.OutRefIdeal.Read.val_main_v4_eq, a0, a1, a2, a3]
  exact (Cert.OutProj.reference _ _ _ _).trans (Cert.OutProj.array m c).symm

theorem absorb_reference_frame : Cert.quiescent_AbsorbRefIdeal := fun m ρ _ =>
  θ_run_mono (Cert.AbsorbRefIdeal.Value.run m ρ) fun r h => ⟨fun c => (h c).2, sem_eq_zero_of_no_sems (by decide) r.2⟩

/-- The queries taken into the latent space are the reference's. -/
theorem absorb_value : Cert.algebraic_AbsorbIdeal_AbsorbRefIdeal := by
  intro m g m' g' hpre hagree
  refine ⟨fun c => (Cert.AbsorbIdeal.Gen.dats m 0 c).arrAt 2 Cert.AbsorbIdeal.cfg0.N, Cert.AbsorbIdeal.Value.run_blocks m g, ?_⟩
  refine θ_run_mono (Cert.AbsorbRefIdeal.Value.run m' g') fun r h c => ⟨(h c).1.trans ?_, (h c).2⟩
  obtain ⟨a0, a1⟩ := hagree c
  rw [Cert.AbsorbRefIdeal.Read.val_main_v5_eq, a0, a1]
  exact (Cert.Heads.Absorb.reference _ _).trans (Cert.Heads.Absorb.array m c).symm

theorem up_reference_frame : Cert.quiescent_UpRefIdeal := fun m ρ _ =>
  θ_run_mono (Cert.UpRefIdeal.Value.run m ρ) fun r h => ⟨fun c => (h c).2, sem_eq_zero_of_no_sems (by decide) r.2⟩

/-- The latent result taken to the value space is the reference's. -/
theorem up_value : Cert.algebraic_UpIdeal_UpRefIdeal := by
  intro m g m' g' hpre hagree
  refine ⟨fun c => (Cert.UpIdeal.Gen.dats m 0 c).arrAt 2 Cert.UpIdeal.cfg0.N, Cert.UpIdeal.Value.run_blocks m g, ?_⟩
  refine θ_run_mono (Cert.UpRefIdeal.Value.run m' g') fun r h c => ⟨(h c).1.trans ?_, (h c).2⟩
  obtain ⟨a0, a1⟩ := hagree c
  rw [Cert.UpRefIdeal.Read.val_main_v5_eq, a0, a1]
  exact (Cert.Heads.Up.reference _ _).trans (Cert.Heads.Up.array m c).symm

theorem state_reference_frame : Cert.quiescent_StateRefIdeal := fun m ρ _ =>
  θ_run_mono (Cert.StateRefIdeal.Value.run m ρ) fun r h => ⟨fun c => (h c).2, sem_eq_zero_of_no_sems (by decide) r.2⟩

/-- The last three rows of the convolution's input are the reference's. -/
theorem state_value : Cert.algebraic_StateIdeal_StateRefIdeal := by
  intro m g m' g' hpre hagree
  refine ⟨fun c => Cert.ConvRows.rows (m ((c.tc : Thread Cert.StateIdeal.nD Cert.StateIdeal.τ).loc Cert.StateIdeal.main_arg0))
    (m ((c.tc : Thread Cert.StateIdeal.nD Cert.StateIdeal.τ).loc Cert.StateIdeal.main_arg1))
    (m ((c.tc : Thread Cert.StateIdeal.nD Cert.StateIdeal.τ).loc Cert.StateIdeal.main_arg2)), Cert.ConvRows.run m g, ?_⟩
  refine θ_run_mono (Cert.StateRefIdeal.Value.run m' g') fun r h c => ⟨(h c).1.trans ?_, (h c).2⟩
  obtain ⟨a0, a1, a2⟩ := hagree c
  rw [Cert.StateRefIdeal.Read.val_main_v20_eq, a0, a1, a2]
  exact Cert.ConvRows.reference _ _ _

theorem prep_reference_frame : Cert.quiescent_PrepRefIdeal := fun m ρ _ =>
  θ_run_mono (Cert.PrepRefIdeal.Value.run m ρ) fun r h => ⟨fun c => (h c).2.2.2.2.2.2, sem_eq_zero_of_no_sems (by decide) r.2⟩

set_option maxHeartbeats 2000000 in
/-- The latent rows, the rotary keys and the two parts of the queries are the reference's. -/
theorem prep_value : Cert.algebraic_PrepIdeal_PrepRefIdeal := by
  intro m g m' g' hpre hagree
  refine ⟨fun c => (Cert.PrepIdeal.Gen.dats m 0 c).arrAt 12 Cert.PrepIdeal.cfg0.N,
    fun c => (Cert.PrepIdeal.Gen.dats m 0 c).arrAt 13 Cert.PrepIdeal.cfg0.N,
    fun c => (Cert.PrepIdeal.Gen.dats m 0 c).arrAt 14 Cert.PrepIdeal.cfg0.N,
    fun c => (Cert.PrepIdeal.Gen.dats m 0 c).arrAt 15 Cert.PrepIdeal.cfg0.N,
    fun c => (Cert.PrepIdeal.Gen.dats m 0 c).arrAt 16 Cert.PrepIdeal.cfg0.N,
    fun c => (Cert.PrepIdeal.Gen.dats m 0 c).arrAt 17 Cert.PrepIdeal.cfg0.N, Cert.PrepIdeal.Value.run_blocks m g, ?_⟩
  refine θ_run_mono (Cert.PrepRefIdeal.Value.run m' g') fun r h c => ⟨(h c).1.trans ?_, (h c).2.1.trans ?_,
    (h c).2.2.1.trans ?_, (h c).2.2.2.1.trans ?_, (h c).2.2.2.2.1.trans ?_, (h c).2.2.2.2.2.1.trans ?_, (h c).2.2.2.2.2.2⟩
  all_goals obtain ⟨a0, a1, a2, a3⟩ := hagree c
  · rw [Cert.PrepRefIdeal.Read.val_main_v58_eq, a0, a2]
    exact (Cert.Latent.ref_latent _ _).trans (Cert.Latent.array12 m c).symm
  · rw [Cert.PrepRefIdeal.Read.val_main_v69_eq, a0]
    exact (Cert.Latent.ref_keys _).trans (Cert.Latent.array13 m c).symm
  · rw [Cert.PrepRefIdeal.Read.val_main_v70_eq, a0, a2]
    exact (Cert.Latent.ref_latent_bf16 _ _).trans (Cert.Latent.array14 m c).symm
  · rw [Cert.PrepRefIdeal.Read.val_main_v71_eq, a0]
    exact (Cert.Latent.ref_keys_bf16 _).trans (Cert.Latent.array15 m c).symm
  · rw [Cert.PrepRefIdeal.Read.val_main_v74_eq, a0, a1, a3]
    exact (Cert.Latent.ref_plain _ _ _).trans (Cert.Latent.array16 m c).symm
  · have e := Cert.PrepRefIdeal.Read.val_main_v76_eq (F := Ideal) m' c
    rw [a0, a1, a3] at e
    exact e.trans ((Cert.Latent.ref_rotary _ _ _).trans (Cert.Latent.array17 m c).symm)

theorem conv_reference_frame : Cert.quiescent_ConvRefIdeal := fun m ρ _ =>
  θ_run_mono (Cert.ConvRefIdeal.Value.run m ρ) fun r h => ⟨fun c => (h c).2.2.2.2.2, sem_eq_zero_of_no_sems (by decide) r.2⟩

set_option maxHeartbeats 2000000 in
/-- The convolved queries, keys and values, the step sizes with the log decays, and the kept rows are the reference's. -/
theorem conv_value : Cert.algebraic_ConvIdeal_ConvRefIdeal := by
  intro m g m' g' hpre hagree
  refine ⟨fun c => (Cert.ConvIdeal.Gen.dats m 0 c).arrAt 8 Cert.ConvIdeal.cfg0.N,
    fun c => (Cert.ConvIdeal.Gen.dats m 0 c).arrAt 9 Cert.ConvIdeal.cfg0.N,
    fun c => (Cert.ConvIdeal.Gen.dats m 0 c).arrAt 10 Cert.ConvIdeal.cfg0.N,
    fun c => (Cert.ConvIdeal.Gen.dats m 0 c).arrAt 11 Cert.ConvIdeal.cfg0.N,
    fun c => (Cert.ConvIdeal.Gen.dats m 0 c).arrAt 12 Cert.ConvIdeal.cfg0.N, Cert.ConvIdeal.Value.run_blocks m g, ?_⟩
  refine θ_run_mono (Cert.ConvRefIdeal.Value.run m' g') fun r h c => ⟨(h c).1.trans ?_, (h c).2.1.trans ?_,
    (h c).2.2.1.trans ?_, (h c).2.2.2.1.trans ?_, (h c).2.2.2.2.1.trans ?_, (h c).2.2.2.2.2⟩
  all_goals obtain ⟨a0, a1, a2, a3, a4⟩ := hagree c
  · have e := Cert.ConvRefIdeal.Read.val_main_v79_eq (F := Ideal) m' c
    rw [a0, a1, a2] at e
    exact e.trans ((Cert.SampleConv.ref_queries _ _ _).trans (Cert.SampleConv.array8 m c).symm)
  · have e := Cert.ConvRefIdeal.Read.val_main_v80_eq (F := Ideal) m' c
    rw [a0, a1, a2] at e
    exact e.trans ((Cert.SampleConv.ref_keys _ _ _).trans (Cert.SampleConv.array9 m c).symm)
  · have e := Cert.ConvRefIdeal.Read.val_main_v83_eq (F := Ideal) m' c
    rw [a0, a1, a2] at e
    exact e.trans ((Cert.SampleConv.ref_values _ _ _).trans (Cert.SampleConv.array10 m c).symm)
  · rw [Cert.ConvRefIdeal.Read.val_main_v84_eq, a0, a3, a4]
    exact (Cert.SampleConv.ref_gates _ _ _).trans (Cert.SampleConv.array11 m c).symm
  · rw [Cert.ConvRefIdeal.Read.val_main_v86_eq, a0, a1]
    exact (Cert.SampleConv.ref_rows _ _).trans (Cert.SampleConv.array12 m c).symm

theorem rows_reference_frame : Cert.quiescent_RowsRefIdeal := fun m ρ _ =>
  θ_run_mono (Cert.RowsRefIdeal.Value.run m ρ) fun r h => ⟨fun c => (h c).2.2, sem_eq_zero_of_no_sems (by decide) r.2⟩

/-- The sample's latent rows and rotary keys are the reference's. -/
theorem rows_value : Cert.algebraic_RowsIdeal_RowsRefIdeal := by
  intro m g m' g' hpre hagree
  refine ⟨fun c => (Cert.RowsIdeal.Gen.dats m 0 c).arrAt 12 Cert.RowsIdeal.cfg0.N,
    fun c => (Cert.RowsIdeal.Gen.dats m 0 c).arrAt 13 Cert.RowsIdeal.cfg0.N,
    θ_run_mono (Cert.RowsIdeal.Value.run_blocks m g) fun r h c => ⟨(h c).1, (h c).2.1, (h c).2.2.2.2.2.2⟩, ?_⟩
  refine θ_run_mono (Cert.RowsRefIdeal.Value.run m' g') fun r h c => ⟨(h c).1.trans ?_, (h c).2.1.trans ?_, (h c).2.2⟩
  all_goals obtain ⟨a0, a1, a2, a3⟩ := hagree c
  · rw [Cert.RowsRefIdeal.Read.val_main_v44_eq, a0, a2]
    exact (Cert.SampleLatent.ref_latent _ _).trans (Cert.SampleLatent.array12 m c).symm
  · rw [Cert.RowsRefIdeal.Read.val_main_v30_eq, a0]
    exact (Cert.SampleLatent.ref_keys _).trans (Cert.SampleLatent.array13 m c).symm

theorem dense_reference_frame : Cert.quiescent_DenseRefIdeal := fun m ρ _ =>
  θ_run_mono (Cert.DenseRefIdeal.Value.run m ρ) fun r h => ⟨fun c => (h c).2, sem_eq_zero_of_no_sems (by decide) r.2⟩

/-- The experts' call's result is the reference's. -/
theorem dense_value : Cert.algebraic_DenseIdeal_DenseRefIdeal := by
  intro m g m' g' hpre hagree
  refine ⟨fun c => (Cert.DenseIdeal.Gen.dats m 0 c).arrAt 9 Cert.DenseIdeal.cfg0.N, Cert.DenseIdeal.Value.run_blocks m g, ?_⟩
  refine θ_run_mono (Cert.DenseRefIdeal.Value.run m' g') fun r h c => ⟨(h c).1.trans ?_, (h c).2⟩
  obtain ⟨a0, a1, a2, a3, a4, a5, a6, a7, a8⟩ := hagree c
  have e := Cert.DenseRefIdeal.Read.val_main_v41_eq (F := Ideal) m' c
  rw [a0, a1, a2, a3, a4, a5, a6, a7, a8] at e
  exact e.trans ((Cert.Experts.reference _ _ _ _ _ _ _ _ _).trans (Cert.Experts.array m c).symm)

theorem dense_sample_reference_frame : Cert.quiescent_DenseSampleRefIdeal := fun m ρ _ =>
  θ_run_mono (Cert.DenseSampleRefIdeal.Value.run m ρ) fun r h => ⟨fun c => (h c).2, sem_eq_zero_of_no_sems (by decide) r.2⟩

/-- The experts' call's result on the sample is the reference's. -/
theorem dense_sample_value : Cert.algebraic_DenseSampleIdeal_DenseSampleRefIdeal := by
  intro m g m' g' hpre hagree
  refine ⟨fun c => (Cert.DenseSampleIdeal.Gen.dats m 0 c).arrAt 9 Cert.DenseSampleIdeal.cfg0.N, Cert.DenseSampleIdeal.Value.run_blocks m g, ?_⟩
  refine θ_run_mono (Cert.DenseSampleRefIdeal.Value.run m' g') fun r h c => ⟨(h c).1.trans ?_, (h c).2⟩
  obtain ⟨a0, a1, a2, a3, a4, a5, a6, a7, a8⟩ := hagree c
  have e := Cert.DenseSampleRefIdeal.Read.val_main_v41_eq (F := Ideal) m' c
  rw [a0, a1, a2, a3, a4, a5, a6, a7, a8] at e
  exact e.trans ((Cert.SampleExperts.reference _ _ _ _ _ _ _ _ _).trans (Cert.SampleExperts.array m c).symm)

theorem claim : Cert.Claim :=
  ⟨Cert.Kernel.Gen.facts,
    Cert.KernelIdeal.Gen.facts,
    Cert.ReferenceIdeal.Gen.facts,
    Cert.In.Gen.facts,
    Cert.InIdeal.Gen.facts,
    Cert.InRefIdeal.Gen.facts,
    Cert.Query.Gen.facts,
    Cert.QueryIdeal.Gen.facts,
    Cert.QueryRefIdeal.Gen.facts,
    Cert.Out.Gen.facts,
    Cert.OutIdeal.Gen.facts,
    Cert.OutRefIdeal.Gen.facts,
    Cert.Absorb.Gen.facts,
    Cert.AbsorbIdeal.Gen.facts,
    Cert.AbsorbRefIdeal.Gen.facts,
    Cert.Up.Gen.facts,
    Cert.UpIdeal.Gen.facts,
    Cert.UpRefIdeal.Gen.facts,
    Cert.State.Gen.facts,
    Cert.StateIdeal.Gen.facts,
    Cert.StateRefIdeal.Gen.facts,
    Cert.Prep.Gen.facts,
    Cert.PrepIdeal.Gen.facts,
    Cert.PrepRefIdeal.Gen.facts,
    Cert.Conv.Gen.facts,
    Cert.ConvIdeal.Gen.facts,
    Cert.ConvRefIdeal.Gen.facts,
    Cert.Rows.Gen.facts,
    Cert.RowsIdeal.Gen.facts,
    Cert.RowsRefIdeal.Gen.facts,
    Cert.Dense.Gen.facts,
    Cert.DenseIdeal.Gen.facts,
    Cert.DenseRefIdeal.Gen.facts,
    Cert.DenseSample.Gen.facts,
    Cert.DenseSampleIdeal.Gen.facts,
    Cert.DenseSampleRefIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.In.Gen.frame m ρ, fun m ρ _ => Cert.InIdeal.Gen.frame m ρ, in_reference_frame,
    fun m ρ _ => Cert.Query.Gen.frame m ρ, fun m ρ _ => Cert.QueryIdeal.Gen.frame m ρ, query_reference_frame,
    fun m ρ _ => Cert.Out.Gen.frame m ρ, fun m ρ _ => Cert.OutIdeal.Gen.frame m ρ, out_reference_frame,
    fun m ρ _ => Cert.Absorb.Gen.frame m ρ, fun m ρ _ => Cert.AbsorbIdeal.Gen.frame m ρ, absorb_reference_frame,
    fun m ρ _ => Cert.Up.Gen.frame m ρ, fun m ρ _ => Cert.UpIdeal.Gen.frame m ρ, up_reference_frame,
    fun m ρ _ => Cert.State.Gen.frame m ρ, fun m ρ _ => Cert.StateIdeal.Gen.frame m ρ, state_reference_frame,
    fun m ρ _ => Cert.Prep.Gen.frame m ρ, fun m ρ _ => Cert.PrepIdeal.Gen.frame m ρ, prep_reference_frame,
    fun m ρ _ => Cert.Conv.Gen.frame m ρ, fun m ρ _ => Cert.ConvIdeal.Gen.frame m ρ, conv_reference_frame,
    fun m ρ _ => Cert.Rows.Gen.frame m ρ, fun m ρ _ => Cert.RowsIdeal.Gen.frame m ρ, rows_reference_frame,
    fun m ρ _ => Cert.Dense.Gen.frame m ρ, fun m ρ _ => Cert.DenseIdeal.Gen.frame m ρ, dense_reference_frame,
    fun m ρ _ => Cert.DenseSample.Gen.frame m ρ, fun m ρ _ => Cert.DenseSampleIdeal.Gen.frame m ρ, dense_sample_reference_frame,
    trivial, attention, trivial, in_value, trivial, query_value, trivial, out_value, trivial, absorb_value, trivial, up_value,
    trivial, state_value, trivial, prep_value, trivial, conv_value, trivial, rows_value, trivial, dense_value,
    trivial, dense_sample_value⟩

end Cert.Proof

end
